-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_Optimiser (m : (ℓ : Loc Cert.Optimiser.nD Cert.Optimiser.τ Cert.Optimiser.sig) → Buf (Elt Bits) ℓ) : Prop :=
  True

def Pre_OptimiserIdeal (m : (ℓ : Loc Cert.OptimiserIdeal.nD Cert.OptimiserIdeal.τ Cert.OptimiserIdeal.sig) → Buf (Elt Ideal) ℓ) : Prop :=
  True

def Pre_OptimiserReferenceIdeal (m : (ℓ : Loc Cert.OptimiserReferenceIdeal.nD Cert.OptimiserReferenceIdeal.τ Cert.OptimiserReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
      ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7))
      ∧ r.2.sem = fun _ => 0)

def quiescent_Optimiser [hOptimiser : Cert.Optimiser.Facts] : Prop :=
  ∀ (m : (ℓ : Loc Cert.Optimiser.nD Cert.Optimiser.τ Cert.Optimiser.sig) → Buf (Elt Bits) ℓ) (g : Dev Cert.Optimiser.nD → PrngReg), Pre_Optimiser m →
    θ_run (Cert.Optimiser.defs (F := Bits)) (onTc (τ := Cert.Optimiser.τ) (Cert.Optimiser.main (F := Bits))) ⟨m, fun _ => 0, g⟩ (fun r => (∀ c : Dev Cert.Optimiser.nD,
      r.2.mem ((c.tc : Thread Cert.Optimiser.nD Cert.Optimiser.τ).loc Cert.Optimiser.main_arg0) = m ((c.tc : Thread Cert.Optimiser.nD Cert.Optimiser.τ).loc Cert.Optimiser.main_arg0)
      ∧ r.2.mem ((c.tc : Thread Cert.Optimiser.nD Cert.Optimiser.τ).loc Cert.Optimiser.main_arg1) = m ((c.tc : Thread Cert.Optimiser.nD Cert.Optimiser.τ).loc Cert.Optimiser.main_arg1)
      ∧ r.2.mem ((c.tc : Thread Cert.Optimiser.nD Cert.Optimiser.τ).loc Cert.Optimiser.main_arg2) = m ((c.tc : Thread Cert.Optimiser.nD Cert.Optimiser.τ).loc Cert.Optimiser.main_arg2)
      ∧ r.2.mem ((c.tc : Thread Cert.Optimiser.nD Cert.Optimiser.τ).loc Cert.Optimiser.main_arg3) = m ((c.tc : Thread Cert.Optimiser.nD Cert.Optimiser.τ).loc Cert.Optimiser.main_arg3)
      ∧ r.2.mem ((c.tc : Thread Cert.Optimiser.nD Cert.Optimiser.τ).loc Cert.Optimiser.main_arg4) = m ((c.tc : Thread Cert.Optimiser.nD Cert.Optimiser.τ).loc Cert.Optimiser.main_arg4)
      ∧ r.2.mem ((c.tc : Thread Cert.Optimiser.nD Cert.Optimiser.τ).loc Cert.Optimiser.main_arg5) = m ((c.tc : Thread Cert.Optimiser.nD Cert.Optimiser.τ).loc Cert.Optimiser.main_arg5)
      ∧ r.2.mem ((c.tc : Thread Cert.Optimiser.nD Cert.Optimiser.τ).loc Cert.Optimiser.main_arg6) = m ((c.tc : Thread Cert.Optimiser.nD Cert.Optimiser.τ).loc Cert.Optimiser.main_arg6)
      ∧ r.2.mem ((c.tc : Thread Cert.Optimiser.nD Cert.Optimiser.τ).loc Cert.Optimiser.main_arg7) = m ((c.tc : Thread Cert.Optimiser.nD Cert.Optimiser.τ).loc Cert.Optimiser.main_arg7)
      ∧ r.2.mem ((c.tc : Thread Cert.Optimiser.nD Cert.Optimiser.τ).loc Cert.Optimiser.main_arg8) = m ((c.tc : Thread Cert.Optimiser.nD Cert.Optimiser.τ).loc Cert.Optimiser.main_arg8)
      ∧ r.2.mem ((c.tc : Thread Cert.Optimiser.nD Cert.Optimiser.τ).loc Cert.Optimiser.main_arg9) = m ((c.tc : Thread Cert.Optimiser.nD Cert.Optimiser.τ).loc Cert.Optimiser.main_arg9)
      ∧ r.2.mem ((c.tc : Thread Cert.Optimiser.nD Cert.Optimiser.τ).loc Cert.Optimiser.main_arg10) = m ((c.tc : Thread Cert.Optimiser.nD Cert.Optimiser.τ).loc Cert.Optimiser.main_arg10)
      ∧ r.2.mem ((c.tc : Thread Cert.Optimiser.nD Cert.Optimiser.τ).loc Cert.Optimiser.main_arg11) = m ((c.tc : Thread Cert.Optimiser.nD Cert.Optimiser.τ).loc Cert.Optimiser.main_arg11)
      ∧ r.2.mem ((c.tc : Thread Cert.Optimiser.nD Cert.Optimiser.τ).loc Cert.Optimiser.main_arg12) = m ((c.tc : Thread Cert.Optimiser.nD Cert.Optimiser.τ).loc Cert.Optimiser.main_arg12)
      ∧ r.2.mem ((c.tc : Thread Cert.Optimiser.nD Cert.Optimiser.τ).loc Cert.Optimiser.main_arg13) = m ((c.tc : Thread Cert.Optimiser.nD Cert.Optimiser.τ).loc Cert.Optimiser.main_arg13)
      ∧ r.2.mem ((c.tc : Thread Cert.Optimiser.nD Cert.Optimiser.τ).loc Cert.Optimiser.main_arg14) = m ((c.tc : Thread Cert.Optimiser.nD Cert.Optimiser.τ).loc Cert.Optimiser.main_arg14)
      ∧ r.2.mem ((c.tc : Thread Cert.Optimiser.nD Cert.Optimiser.τ).loc Cert.Optimiser.main_arg15) = m ((c.tc : Thread Cert.Optimiser.nD Cert.Optimiser.τ).loc Cert.Optimiser.main_arg15)
      ∧ r.2.mem ((c.tc : Thread Cert.Optimiser.nD Cert.Optimiser.τ).loc Cert.Optimiser.main_arg16) = m ((c.tc : Thread Cert.Optimiser.nD Cert.Optimiser.τ).loc Cert.Optimiser.main_arg16)
      ∧ r.2.mem ((c.tc : Thread Cert.Optimiser.nD Cert.Optimiser.τ).loc Cert.Optimiser.main_arg17) = m ((c.tc : Thread Cert.Optimiser.nD Cert.Optimiser.τ).loc Cert.Optimiser.main_arg17)
      ∧ r.2.mem ((c.tc : Thread Cert.Optimiser.nD Cert.Optimiser.τ).loc Cert.Optimiser.main_arg18) = m ((c.tc : Thread Cert.Optimiser.nD Cert.Optimiser.τ).loc Cert.Optimiser.main_arg18)
      ∧ r.2.mem ((c.tc : Thread Cert.Optimiser.nD Cert.Optimiser.τ).loc Cert.Optimiser.main_arg19) = m ((c.tc : Thread Cert.Optimiser.nD Cert.Optimiser.τ).loc Cert.Optimiser.main_arg19)
      ∧ r.2.mem ((c.tc : Thread Cert.Optimiser.nD Cert.Optimiser.τ).loc Cert.Optimiser.main_arg20) = m ((c.tc : Thread Cert.Optimiser.nD Cert.Optimiser.τ).loc Cert.Optimiser.main_arg20)
      ∧ r.2.mem ((c.tc : Thread Cert.Optimiser.nD Cert.Optimiser.τ).loc Cert.Optimiser.main_arg21) = m ((c.tc : Thread Cert.Optimiser.nD Cert.Optimiser.τ).loc Cert.Optimiser.main_arg21)
      ∧ r.2.mem ((c.tc : Thread Cert.Optimiser.nD Cert.Optimiser.τ).loc Cert.Optimiser.main_arg22) = m ((c.tc : Thread Cert.Optimiser.nD Cert.Optimiser.τ).loc Cert.Optimiser.main_arg22)
      ∧ r.2.mem ((c.tc : Thread Cert.Optimiser.nD Cert.Optimiser.τ).loc Cert.Optimiser.main_arg23) = m ((c.tc : Thread Cert.Optimiser.nD Cert.Optimiser.τ).loc Cert.Optimiser.main_arg23)
      ∧ r.2.mem ((c.tc : Thread Cert.Optimiser.nD Cert.Optimiser.τ).loc Cert.Optimiser.main_arg24) = m ((c.tc : Thread Cert.Optimiser.nD Cert.Optimiser.τ).loc Cert.Optimiser.main_arg24)
      ∧ r.2.mem ((c.tc : Thread Cert.Optimiser.nD Cert.Optimiser.τ).loc Cert.Optimiser.main_arg25) = m ((c.tc : Thread Cert.Optimiser.nD Cert.Optimiser.τ).loc Cert.Optimiser.main_arg25)
      ∧ r.2.mem ((c.tc : Thread Cert.Optimiser.nD Cert.Optimiser.τ).loc Cert.Optimiser.main_arg26) = m ((c.tc : Thread Cert.Optimiser.nD Cert.Optimiser.τ).loc Cert.Optimiser.main_arg26)
      ∧ r.2.mem ((c.tc : Thread Cert.Optimiser.nD Cert.Optimiser.τ).loc Cert.Optimiser.main_arg27) = m ((c.tc : Thread Cert.Optimiser.nD Cert.Optimiser.τ).loc Cert.Optimiser.main_arg27))
      ∧ r.2.sem = fun _ => 0)

def quiescent_OptimiserIdeal [hOptimiserIdeal : Cert.OptimiserIdeal.Facts] : Prop :=
  ∀ (m : (ℓ : Loc Cert.OptimiserIdeal.nD Cert.OptimiserIdeal.τ Cert.OptimiserIdeal.sig) → Buf (Elt Ideal) ℓ) (g : Dev Cert.OptimiserIdeal.nD → PrngReg), Pre_OptimiserIdeal m →
    θ_run (Cert.OptimiserIdeal.defs (F := Ideal)) (onTc (τ := Cert.OptimiserIdeal.τ) (Cert.OptimiserIdeal.main (F := Ideal))) ⟨m, fun _ => 0, g⟩ (fun r => (∀ c : Dev Cert.OptimiserIdeal.nD,
      r.2.mem ((c.tc : Thread Cert.OptimiserIdeal.nD Cert.OptimiserIdeal.τ).loc Cert.OptimiserIdeal.main_arg0) = m ((c.tc : Thread Cert.OptimiserIdeal.nD Cert.OptimiserIdeal.τ).loc Cert.OptimiserIdeal.main_arg0)
      ∧ r.2.mem ((c.tc : Thread Cert.OptimiserIdeal.nD Cert.OptimiserIdeal.τ).loc Cert.OptimiserIdeal.main_arg1) = m ((c.tc : Thread Cert.OptimiserIdeal.nD Cert.OptimiserIdeal.τ).loc Cert.OptimiserIdeal.main_arg1)
      ∧ r.2.mem ((c.tc : Thread Cert.OptimiserIdeal.nD Cert.OptimiserIdeal.τ).loc Cert.OptimiserIdeal.main_arg2) = m ((c.tc : Thread Cert.OptimiserIdeal.nD Cert.OptimiserIdeal.τ).loc Cert.OptimiserIdeal.main_arg2)
      ∧ r.2.mem ((c.tc : Thread Cert.OptimiserIdeal.nD Cert.OptimiserIdeal.τ).loc Cert.OptimiserIdeal.main_arg3) = m ((c.tc : Thread Cert.OptimiserIdeal.nD Cert.OptimiserIdeal.τ).loc Cert.OptimiserIdeal.main_arg3)
      ∧ r.2.mem ((c.tc : Thread Cert.OptimiserIdeal.nD Cert.OptimiserIdeal.τ).loc Cert.OptimiserIdeal.main_arg4) = m ((c.tc : Thread Cert.OptimiserIdeal.nD Cert.OptimiserIdeal.τ).loc Cert.OptimiserIdeal.main_arg4)
      ∧ r.2.mem ((c.tc : Thread Cert.OptimiserIdeal.nD Cert.OptimiserIdeal.τ).loc Cert.OptimiserIdeal.main_arg5) = m ((c.tc : Thread Cert.OptimiserIdeal.nD Cert.OptimiserIdeal.τ).loc Cert.OptimiserIdeal.main_arg5)
      ∧ r.2.mem ((c.tc : Thread Cert.OptimiserIdeal.nD Cert.OptimiserIdeal.τ).loc Cert.OptimiserIdeal.main_arg6) = m ((c.tc : Thread Cert.OptimiserIdeal.nD Cert.OptimiserIdeal.τ).loc Cert.OptimiserIdeal.main_arg6)
      ∧ r.2.mem ((c.tc : Thread Cert.OptimiserIdeal.nD Cert.OptimiserIdeal.τ).loc Cert.OptimiserIdeal.main_arg7) = m ((c.tc : Thread Cert.OptimiserIdeal.nD Cert.OptimiserIdeal.τ).loc Cert.OptimiserIdeal.main_arg7)
      ∧ r.2.mem ((c.tc : Thread Cert.OptimiserIdeal.nD Cert.OptimiserIdeal.τ).loc Cert.OptimiserIdeal.main_arg8) = m ((c.tc : Thread Cert.OptimiserIdeal.nD Cert.OptimiserIdeal.τ).loc Cert.OptimiserIdeal.main_arg8)
      ∧ r.2.mem ((c.tc : Thread Cert.OptimiserIdeal.nD Cert.OptimiserIdeal.τ).loc Cert.OptimiserIdeal.main_arg9) = m ((c.tc : Thread Cert.OptimiserIdeal.nD Cert.OptimiserIdeal.τ).loc Cert.OptimiserIdeal.main_arg9)
      ∧ r.2.mem ((c.tc : Thread Cert.OptimiserIdeal.nD Cert.OptimiserIdeal.τ).loc Cert.OptimiserIdeal.main_arg10) = m ((c.tc : Thread Cert.OptimiserIdeal.nD Cert.OptimiserIdeal.τ).loc Cert.OptimiserIdeal.main_arg10)
      ∧ r.2.mem ((c.tc : Thread Cert.OptimiserIdeal.nD Cert.OptimiserIdeal.τ).loc Cert.OptimiserIdeal.main_arg11) = m ((c.tc : Thread Cert.OptimiserIdeal.nD Cert.OptimiserIdeal.τ).loc Cert.OptimiserIdeal.main_arg11)
      ∧ r.2.mem ((c.tc : Thread Cert.OptimiserIdeal.nD Cert.OptimiserIdeal.τ).loc Cert.OptimiserIdeal.main_arg12) = m ((c.tc : Thread Cert.OptimiserIdeal.nD Cert.OptimiserIdeal.τ).loc Cert.OptimiserIdeal.main_arg12)
      ∧ r.2.mem ((c.tc : Thread Cert.OptimiserIdeal.nD Cert.OptimiserIdeal.τ).loc Cert.OptimiserIdeal.main_arg13) = m ((c.tc : Thread Cert.OptimiserIdeal.nD Cert.OptimiserIdeal.τ).loc Cert.OptimiserIdeal.main_arg13)
      ∧ r.2.mem ((c.tc : Thread Cert.OptimiserIdeal.nD Cert.OptimiserIdeal.τ).loc Cert.OptimiserIdeal.main_arg14) = m ((c.tc : Thread Cert.OptimiserIdeal.nD Cert.OptimiserIdeal.τ).loc Cert.OptimiserIdeal.main_arg14)
      ∧ r.2.mem ((c.tc : Thread Cert.OptimiserIdeal.nD Cert.OptimiserIdeal.τ).loc Cert.OptimiserIdeal.main_arg15) = m ((c.tc : Thread Cert.OptimiserIdeal.nD Cert.OptimiserIdeal.τ).loc Cert.OptimiserIdeal.main_arg15)
      ∧ r.2.mem ((c.tc : Thread Cert.OptimiserIdeal.nD Cert.OptimiserIdeal.τ).loc Cert.OptimiserIdeal.main_arg16) = m ((c.tc : Thread Cert.OptimiserIdeal.nD Cert.OptimiserIdeal.τ).loc Cert.OptimiserIdeal.main_arg16)
      ∧ r.2.mem ((c.tc : Thread Cert.OptimiserIdeal.nD Cert.OptimiserIdeal.τ).loc Cert.OptimiserIdeal.main_arg17) = m ((c.tc : Thread Cert.OptimiserIdeal.nD Cert.OptimiserIdeal.τ).loc Cert.OptimiserIdeal.main_arg17)
      ∧ r.2.mem ((c.tc : Thread Cert.OptimiserIdeal.nD Cert.OptimiserIdeal.τ).loc Cert.OptimiserIdeal.main_arg18) = m ((c.tc : Thread Cert.OptimiserIdeal.nD Cert.OptimiserIdeal.τ).loc Cert.OptimiserIdeal.main_arg18)
      ∧ r.2.mem ((c.tc : Thread Cert.OptimiserIdeal.nD Cert.OptimiserIdeal.τ).loc Cert.OptimiserIdeal.main_arg19) = m ((c.tc : Thread Cert.OptimiserIdeal.nD Cert.OptimiserIdeal.τ).loc Cert.OptimiserIdeal.main_arg19)
      ∧ r.2.mem ((c.tc : Thread Cert.OptimiserIdeal.nD Cert.OptimiserIdeal.τ).loc Cert.OptimiserIdeal.main_arg20) = m ((c.tc : Thread Cert.OptimiserIdeal.nD Cert.OptimiserIdeal.τ).loc Cert.OptimiserIdeal.main_arg20)
      ∧ r.2.mem ((c.tc : Thread Cert.OptimiserIdeal.nD Cert.OptimiserIdeal.τ).loc Cert.OptimiserIdeal.main_arg21) = m ((c.tc : Thread Cert.OptimiserIdeal.nD Cert.OptimiserIdeal.τ).loc Cert.OptimiserIdeal.main_arg21)
      ∧ r.2.mem ((c.tc : Thread Cert.OptimiserIdeal.nD Cert.OptimiserIdeal.τ).loc Cert.OptimiserIdeal.main_arg22) = m ((c.tc : Thread Cert.OptimiserIdeal.nD Cert.OptimiserIdeal.τ).loc Cert.OptimiserIdeal.main_arg22)
      ∧ r.2.mem ((c.tc : Thread Cert.OptimiserIdeal.nD Cert.OptimiserIdeal.τ).loc Cert.OptimiserIdeal.main_arg23) = m ((c.tc : Thread Cert.OptimiserIdeal.nD Cert.OptimiserIdeal.τ).loc Cert.OptimiserIdeal.main_arg23)
      ∧ r.2.mem ((c.tc : Thread Cert.OptimiserIdeal.nD Cert.OptimiserIdeal.τ).loc Cert.OptimiserIdeal.main_arg24) = m ((c.tc : Thread Cert.OptimiserIdeal.nD Cert.OptimiserIdeal.τ).loc Cert.OptimiserIdeal.main_arg24)
      ∧ r.2.mem ((c.tc : Thread Cert.OptimiserIdeal.nD Cert.OptimiserIdeal.τ).loc Cert.OptimiserIdeal.main_arg25) = m ((c.tc : Thread Cert.OptimiserIdeal.nD Cert.OptimiserIdeal.τ).loc Cert.OptimiserIdeal.main_arg25)
      ∧ r.2.mem ((c.tc : Thread Cert.OptimiserIdeal.nD Cert.OptimiserIdeal.τ).loc Cert.OptimiserIdeal.main_arg26) = m ((c.tc : Thread Cert.OptimiserIdeal.nD Cert.OptimiserIdeal.τ).loc Cert.OptimiserIdeal.main_arg26)
      ∧ r.2.mem ((c.tc : Thread Cert.OptimiserIdeal.nD Cert.OptimiserIdeal.τ).loc Cert.OptimiserIdeal.main_arg27) = m ((c.tc : Thread Cert.OptimiserIdeal.nD Cert.OptimiserIdeal.τ).loc Cert.OptimiserIdeal.main_arg27))
      ∧ r.2.sem = fun _ => 0)

def quiescent_OptimiserReferenceIdeal [hOptimiserReferenceIdeal : Cert.OptimiserReferenceIdeal.Facts] : Prop :=
  ∀ (m : (ℓ : Loc Cert.OptimiserReferenceIdeal.nD Cert.OptimiserReferenceIdeal.τ Cert.OptimiserReferenceIdeal.sig) → Buf (Elt Ideal) ℓ) (g : Dev Cert.OptimiserReferenceIdeal.nD → PrngReg), Pre_OptimiserReferenceIdeal m →
    θ_run (Cert.OptimiserReferenceIdeal.defs (F := Ideal)) (onTc (τ := Cert.OptimiserReferenceIdeal.τ) (Cert.OptimiserReferenceIdeal.main (F := Ideal))) ⟨m, fun _ => 0, g⟩ (fun r => (∀ c : Dev Cert.OptimiserReferenceIdeal.nD,
      r.2.mem ((c.tc : Thread Cert.OptimiserReferenceIdeal.nD Cert.OptimiserReferenceIdeal.τ).loc Cert.OptimiserReferenceIdeal.main_arg0) = m ((c.tc : Thread Cert.OptimiserReferenceIdeal.nD Cert.OptimiserReferenceIdeal.τ).loc Cert.OptimiserReferenceIdeal.main_arg0)
      ∧ r.2.mem ((c.tc : Thread Cert.OptimiserReferenceIdeal.nD Cert.OptimiserReferenceIdeal.τ).loc Cert.OptimiserReferenceIdeal.main_arg1) = m ((c.tc : Thread Cert.OptimiserReferenceIdeal.nD Cert.OptimiserReferenceIdeal.τ).loc Cert.OptimiserReferenceIdeal.main_arg1)
      ∧ r.2.mem ((c.tc : Thread Cert.OptimiserReferenceIdeal.nD Cert.OptimiserReferenceIdeal.τ).loc Cert.OptimiserReferenceIdeal.main_arg2) = m ((c.tc : Thread Cert.OptimiserReferenceIdeal.nD Cert.OptimiserReferenceIdeal.τ).loc Cert.OptimiserReferenceIdeal.main_arg2)
      ∧ r.2.mem ((c.tc : Thread Cert.OptimiserReferenceIdeal.nD Cert.OptimiserReferenceIdeal.τ).loc Cert.OptimiserReferenceIdeal.main_arg3) = m ((c.tc : Thread Cert.OptimiserReferenceIdeal.nD Cert.OptimiserReferenceIdeal.τ).loc Cert.OptimiserReferenceIdeal.main_arg3)
      ∧ r.2.mem ((c.tc : Thread Cert.OptimiserReferenceIdeal.nD Cert.OptimiserReferenceIdeal.τ).loc Cert.OptimiserReferenceIdeal.main_arg4) = m ((c.tc : Thread Cert.OptimiserReferenceIdeal.nD Cert.OptimiserReferenceIdeal.τ).loc Cert.OptimiserReferenceIdeal.main_arg4)
      ∧ r.2.mem ((c.tc : Thread Cert.OptimiserReferenceIdeal.nD Cert.OptimiserReferenceIdeal.τ).loc Cert.OptimiserReferenceIdeal.main_arg5) = m ((c.tc : Thread Cert.OptimiserReferenceIdeal.nD Cert.OptimiserReferenceIdeal.τ).loc Cert.OptimiserReferenceIdeal.main_arg5)
      ∧ r.2.mem ((c.tc : Thread Cert.OptimiserReferenceIdeal.nD Cert.OptimiserReferenceIdeal.τ).loc Cert.OptimiserReferenceIdeal.main_arg6) = m ((c.tc : Thread Cert.OptimiserReferenceIdeal.nD Cert.OptimiserReferenceIdeal.τ).loc Cert.OptimiserReferenceIdeal.main_arg6)
      ∧ r.2.mem ((c.tc : Thread Cert.OptimiserReferenceIdeal.nD Cert.OptimiserReferenceIdeal.τ).loc Cert.OptimiserReferenceIdeal.main_arg7) = m ((c.tc : Thread Cert.OptimiserReferenceIdeal.nD Cert.OptimiserReferenceIdeal.τ).loc Cert.OptimiserReferenceIdeal.main_arg7)
      ∧ r.2.mem ((c.tc : Thread Cert.OptimiserReferenceIdeal.nD Cert.OptimiserReferenceIdeal.τ).loc Cert.OptimiserReferenceIdeal.main_arg8) = m ((c.tc : Thread Cert.OptimiserReferenceIdeal.nD Cert.OptimiserReferenceIdeal.τ).loc Cert.OptimiserReferenceIdeal.main_arg8)
      ∧ r.2.mem ((c.tc : Thread Cert.OptimiserReferenceIdeal.nD Cert.OptimiserReferenceIdeal.τ).loc Cert.OptimiserReferenceIdeal.main_arg9) = m ((c.tc : Thread Cert.OptimiserReferenceIdeal.nD Cert.OptimiserReferenceIdeal.τ).loc Cert.OptimiserReferenceIdeal.main_arg9)
      ∧ r.2.mem ((c.tc : Thread Cert.OptimiserReferenceIdeal.nD Cert.OptimiserReferenceIdeal.τ).loc Cert.OptimiserReferenceIdeal.main_arg10) = m ((c.tc : Thread Cert.OptimiserReferenceIdeal.nD Cert.OptimiserReferenceIdeal.τ).loc Cert.OptimiserReferenceIdeal.main_arg10)
      ∧ r.2.mem ((c.tc : Thread Cert.OptimiserReferenceIdeal.nD Cert.OptimiserReferenceIdeal.τ).loc Cert.OptimiserReferenceIdeal.main_arg11) = m ((c.tc : Thread Cert.OptimiserReferenceIdeal.nD Cert.OptimiserReferenceIdeal.τ).loc Cert.OptimiserReferenceIdeal.main_arg11)
      ∧ r.2.mem ((c.tc : Thread Cert.OptimiserReferenceIdeal.nD Cert.OptimiserReferenceIdeal.τ).loc Cert.OptimiserReferenceIdeal.main_arg12) = m ((c.tc : Thread Cert.OptimiserReferenceIdeal.nD Cert.OptimiserReferenceIdeal.τ).loc Cert.OptimiserReferenceIdeal.main_arg12)
      ∧ r.2.mem ((c.tc : Thread Cert.OptimiserReferenceIdeal.nD Cert.OptimiserReferenceIdeal.τ).loc Cert.OptimiserReferenceIdeal.main_arg13) = m ((c.tc : Thread Cert.OptimiserReferenceIdeal.nD Cert.OptimiserReferenceIdeal.τ).loc Cert.OptimiserReferenceIdeal.main_arg13)
      ∧ r.2.mem ((c.tc : Thread Cert.OptimiserReferenceIdeal.nD Cert.OptimiserReferenceIdeal.τ).loc Cert.OptimiserReferenceIdeal.main_arg14) = m ((c.tc : Thread Cert.OptimiserReferenceIdeal.nD Cert.OptimiserReferenceIdeal.τ).loc Cert.OptimiserReferenceIdeal.main_arg14)
      ∧ r.2.mem ((c.tc : Thread Cert.OptimiserReferenceIdeal.nD Cert.OptimiserReferenceIdeal.τ).loc Cert.OptimiserReferenceIdeal.main_arg15) = m ((c.tc : Thread Cert.OptimiserReferenceIdeal.nD Cert.OptimiserReferenceIdeal.τ).loc Cert.OptimiserReferenceIdeal.main_arg15)
      ∧ r.2.mem ((c.tc : Thread Cert.OptimiserReferenceIdeal.nD Cert.OptimiserReferenceIdeal.τ).loc Cert.OptimiserReferenceIdeal.main_arg16) = m ((c.tc : Thread Cert.OptimiserReferenceIdeal.nD Cert.OptimiserReferenceIdeal.τ).loc Cert.OptimiserReferenceIdeal.main_arg16)
      ∧ r.2.mem ((c.tc : Thread Cert.OptimiserReferenceIdeal.nD Cert.OptimiserReferenceIdeal.τ).loc Cert.OptimiserReferenceIdeal.main_arg17) = m ((c.tc : Thread Cert.OptimiserReferenceIdeal.nD Cert.OptimiserReferenceIdeal.τ).loc Cert.OptimiserReferenceIdeal.main_arg17)
      ∧ r.2.mem ((c.tc : Thread Cert.OptimiserReferenceIdeal.nD Cert.OptimiserReferenceIdeal.τ).loc Cert.OptimiserReferenceIdeal.main_arg18) = m ((c.tc : Thread Cert.OptimiserReferenceIdeal.nD Cert.OptimiserReferenceIdeal.τ).loc Cert.OptimiserReferenceIdeal.main_arg18)
      ∧ r.2.mem ((c.tc : Thread Cert.OptimiserReferenceIdeal.nD Cert.OptimiserReferenceIdeal.τ).loc Cert.OptimiserReferenceIdeal.main_arg19) = m ((c.tc : Thread Cert.OptimiserReferenceIdeal.nD Cert.OptimiserReferenceIdeal.τ).loc Cert.OptimiserReferenceIdeal.main_arg19)
      ∧ r.2.mem ((c.tc : Thread Cert.OptimiserReferenceIdeal.nD Cert.OptimiserReferenceIdeal.τ).loc Cert.OptimiserReferenceIdeal.main_arg20) = m ((c.tc : Thread Cert.OptimiserReferenceIdeal.nD Cert.OptimiserReferenceIdeal.τ).loc Cert.OptimiserReferenceIdeal.main_arg20)
      ∧ r.2.mem ((c.tc : Thread Cert.OptimiserReferenceIdeal.nD Cert.OptimiserReferenceIdeal.τ).loc Cert.OptimiserReferenceIdeal.main_arg21) = m ((c.tc : Thread Cert.OptimiserReferenceIdeal.nD Cert.OptimiserReferenceIdeal.τ).loc Cert.OptimiserReferenceIdeal.main_arg21)
      ∧ r.2.mem ((c.tc : Thread Cert.OptimiserReferenceIdeal.nD Cert.OptimiserReferenceIdeal.τ).loc Cert.OptimiserReferenceIdeal.main_arg22) = m ((c.tc : Thread Cert.OptimiserReferenceIdeal.nD Cert.OptimiserReferenceIdeal.τ).loc Cert.OptimiserReferenceIdeal.main_arg22)
      ∧ r.2.mem ((c.tc : Thread Cert.OptimiserReferenceIdeal.nD Cert.OptimiserReferenceIdeal.τ).loc Cert.OptimiserReferenceIdeal.main_arg23) = m ((c.tc : Thread Cert.OptimiserReferenceIdeal.nD Cert.OptimiserReferenceIdeal.τ).loc Cert.OptimiserReferenceIdeal.main_arg23)
      ∧ r.2.mem ((c.tc : Thread Cert.OptimiserReferenceIdeal.nD Cert.OptimiserReferenceIdeal.τ).loc Cert.OptimiserReferenceIdeal.main_arg24) = m ((c.tc : Thread Cert.OptimiserReferenceIdeal.nD Cert.OptimiserReferenceIdeal.τ).loc Cert.OptimiserReferenceIdeal.main_arg24)
      ∧ r.2.mem ((c.tc : Thread Cert.OptimiserReferenceIdeal.nD Cert.OptimiserReferenceIdeal.τ).loc Cert.OptimiserReferenceIdeal.main_arg25) = m ((c.tc : Thread Cert.OptimiserReferenceIdeal.nD Cert.OptimiserReferenceIdeal.τ).loc Cert.OptimiserReferenceIdeal.main_arg25)
      ∧ r.2.mem ((c.tc : Thread Cert.OptimiserReferenceIdeal.nD Cert.OptimiserReferenceIdeal.τ).loc Cert.OptimiserReferenceIdeal.main_arg26) = m ((c.tc : Thread Cert.OptimiserReferenceIdeal.nD Cert.OptimiserReferenceIdeal.τ).loc Cert.OptimiserReferenceIdeal.main_arg26)
      ∧ r.2.mem ((c.tc : Thread Cert.OptimiserReferenceIdeal.nD Cert.OptimiserReferenceIdeal.τ).loc Cert.OptimiserReferenceIdeal.main_arg27) = m ((c.tc : Thread Cert.OptimiserReferenceIdeal.nD Cert.OptimiserReferenceIdeal.τ).loc Cert.OptimiserReferenceIdeal.main_arg27))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)) →
    ∃ (v0 : (c : Dev Cert.MixerIdeal.nD) → Buf (Elt Ideal) ((c.tc : Thread Cert.MixerIdeal.nD Cert.MixerIdeal.τ).loc Cert.MixerIdeal.main_v9_0)) (v1 : (c : Dev Cert.MixerIdeal.nD) → Buf (Elt Ideal) ((c.tc : Thread Cert.MixerIdeal.nD Cert.MixerIdeal.τ).loc Cert.MixerIdeal.main_v9_2)) (v2 : (c : Dev Cert.MixerIdeal.nD) → Buf (Elt Ideal) ((c.tc : Thread Cert.MixerIdeal.nD Cert.MixerIdeal.τ).loc Cert.MixerIdeal.main_v13)) (v3 : (c : Dev Cert.MixerIdeal.nD) → Buf (Elt Ideal) ((c.tc : Thread Cert.MixerIdeal.nD Cert.MixerIdeal.τ).loc Cert.MixerIdeal.main_v12)) (v4 : (c : Dev Cert.MixerIdeal.nD) → Buf (Elt Ideal) ((c.tc : Thread Cert.MixerIdeal.nD Cert.MixerIdeal.τ).loc Cert.MixerIdeal.main_v10)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v9_0) = v0 c
          ∧ r.2.mem ((c.tc : Thread Cert.MixerIdeal.nD Cert.MixerIdeal.τ).loc Cert.MixerIdeal.main_v9_2) = v1 c
          ∧ r.2.mem ((c.tc : Thread Cert.MixerIdeal.nD Cert.MixerIdeal.τ).loc Cert.MixerIdeal.main_v13) = v2 c
          ∧ r.2.mem ((c.tc : Thread Cert.MixerIdeal.nD Cert.MixerIdeal.τ).loc Cert.MixerIdeal.main_v12) = v3 c
          ∧ r.2.mem ((c.tc : Thread Cert.MixerIdeal.nD Cert.MixerIdeal.τ).loc Cert.MixerIdeal.main_v10) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v49) = v0 c
          ∧ r.2.mem ((c.tc : Thread Cert.MixerReferenceIdeal.nD Cert.MixerReferenceIdeal.τ).loc Cert.MixerReferenceIdeal.main_v11) = v1 c
          ∧ r.2.mem ((c.tc : Thread Cert.MixerReferenceIdeal.nD Cert.MixerReferenceIdeal.τ).loc Cert.MixerReferenceIdeal.main_v25) = v2 c
          ∧ r.2.mem ((c.tc : Thread Cert.MixerReferenceIdeal.nD Cert.MixerReferenceIdeal.τ).loc Cert.MixerReferenceIdeal.main_v51) = v3 c
          ∧ r.2.mem ((c.tc : Thread Cert.MixerReferenceIdeal.nD Cert.MixerReferenceIdeal.τ).loc Cert.MixerReferenceIdeal.main_v17) = v4 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)
      ∧ m' ((c.tc : Thread Cert.ProjectionsReferenceIdeal.nD Cert.ProjectionsReferenceIdeal.τ).loc Cert.ProjectionsReferenceIdeal.main_arg7) = m ((c.tc : Thread Cert.ProjectionsIdeal.nD Cert.ProjectionsIdeal.τ).loc Cert.ProjectionsIdeal.main_arg7)) →
    ∃ (v0 : (c : Dev Cert.ProjectionsIdeal.nD) → Buf (Elt Ideal) ((c.tc : Thread Cert.ProjectionsIdeal.nD Cert.ProjectionsIdeal.τ).loc Cert.ProjectionsIdeal.main_v8_0)) (v1 : (c : Dev Cert.ProjectionsIdeal.nD) → Buf (Elt Ideal) ((c.tc : Thread Cert.ProjectionsIdeal.nD Cert.ProjectionsIdeal.τ).loc Cert.ProjectionsIdeal.main_v8_2)) (v2 : (c : Dev Cert.ProjectionsIdeal.nD) → Buf (Elt Ideal) ((c.tc : Thread Cert.ProjectionsIdeal.nD Cert.ProjectionsIdeal.τ).loc Cert.ProjectionsIdeal.main_v11)) (v3 : (c : Dev Cert.ProjectionsIdeal.nD) → Buf (Elt Ideal) ((c.tc : Thread Cert.ProjectionsIdeal.nD Cert.ProjectionsIdeal.τ).loc Cert.ProjectionsIdeal.main_v9)) (v4 : (c : Dev Cert.ProjectionsIdeal.nD) → Buf (Elt Ideal) ((c.tc : Thread Cert.ProjectionsIdeal.nD Cert.ProjectionsIdeal.τ).loc Cert.ProjectionsIdeal.main_v10)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v8_0) = v0 c
          ∧ r.2.mem ((c.tc : Thread Cert.ProjectionsIdeal.nD Cert.ProjectionsIdeal.τ).loc Cert.ProjectionsIdeal.main_v8_2) = v1 c
          ∧ r.2.mem ((c.tc : Thread Cert.ProjectionsIdeal.nD Cert.ProjectionsIdeal.τ).loc Cert.ProjectionsIdeal.main_v11) = v2 c
          ∧ r.2.mem ((c.tc : Thread Cert.ProjectionsIdeal.nD Cert.ProjectionsIdeal.τ).loc Cert.ProjectionsIdeal.main_v9) = v3 c
          ∧ r.2.mem ((c.tc : Thread Cert.ProjectionsIdeal.nD Cert.ProjectionsIdeal.τ).loc Cert.ProjectionsIdeal.main_v10) = v4 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v28) = v0 c
          ∧ r.2.mem ((c.tc : Thread Cert.ProjectionsReferenceIdeal.nD Cert.ProjectionsReferenceIdeal.τ).loc Cert.ProjectionsReferenceIdeal.main_v4) = v1 c
          ∧ r.2.mem ((c.tc : Thread Cert.ProjectionsReferenceIdeal.nD Cert.ProjectionsReferenceIdeal.τ).loc Cert.ProjectionsReferenceIdeal.main_v37) = v2 c
          ∧ r.2.mem ((c.tc : Thread Cert.ProjectionsReferenceIdeal.nD Cert.ProjectionsReferenceIdeal.τ).loc Cert.ProjectionsReferenceIdeal.main_v33) = v3 c
          ∧ r.2.mem ((c.tc : Thread Cert.ProjectionsReferenceIdeal.nD Cert.ProjectionsReferenceIdeal.τ).loc Cert.ProjectionsReferenceIdeal.main_v35) = v4 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6)
          ∧ r.2.mem ((c.tc : Thread Cert.ProjectionsReferenceIdeal.nD Cert.ProjectionsReferenceIdeal.τ).loc Cert.ProjectionsReferenceIdeal.main_arg7) = m' ((c.tc : Thread Cert.ProjectionsReferenceIdeal.nD Cert.ProjectionsReferenceIdeal.τ).loc Cert.ProjectionsReferenceIdeal.main_arg7))

def preserves_Optimiser_OptimiserIdeal : Prop :=
  True

def algebraic_OptimiserIdeal_OptimiserReferenceIdeal [hOptimiserIdeal : Cert.OptimiserIdeal.Facts] [hOptimiserReferenceIdeal : Cert.OptimiserReferenceIdeal.Facts] : Prop :=
  ∀ (m : (ℓ : Loc Cert.OptimiserIdeal.nD Cert.OptimiserIdeal.τ Cert.OptimiserIdeal.sig) → Buf (Elt Ideal) ℓ) (g : Dev Cert.OptimiserIdeal.nD → PrngReg)
    (m' : (ℓ : Loc Cert.OptimiserReferenceIdeal.nD Cert.OptimiserReferenceIdeal.τ Cert.OptimiserReferenceIdeal.sig) → Buf (Elt Ideal) ℓ) (g' : Dev Cert.OptimiserReferenceIdeal.nD → PrngReg), Pre_OptimiserIdeal m →
    (∀ c : Dev Cert.OptimiserIdeal.nD,
      m' ((c.tc : Thread Cert.OptimiserReferenceIdeal.nD Cert.OptimiserReferenceIdeal.τ).loc Cert.OptimiserReferenceIdeal.main_arg0) = m ((c.tc : Thread Cert.OptimiserIdeal.nD Cert.OptimiserIdeal.τ).loc Cert.OptimiserIdeal.main_arg0)
      ∧ m' ((c.tc : Thread Cert.OptimiserReferenceIdeal.nD Cert.OptimiserReferenceIdeal.τ).loc Cert.OptimiserReferenceIdeal.main_arg1) = m ((c.tc : Thread Cert.OptimiserIdeal.nD Cert.OptimiserIdeal.τ).loc Cert.OptimiserIdeal.main_arg1)
      ∧ m' ((c.tc : Thread Cert.OptimiserReferenceIdeal.nD Cert.OptimiserReferenceIdeal.τ).loc Cert.OptimiserReferenceIdeal.main_arg2) = m ((c.tc : Thread Cert.OptimiserIdeal.nD Cert.OptimiserIdeal.τ).loc Cert.OptimiserIdeal.main_arg2)
      ∧ m' ((c.tc : Thread Cert.OptimiserReferenceIdeal.nD Cert.OptimiserReferenceIdeal.τ).loc Cert.OptimiserReferenceIdeal.main_arg3) = m ((c.tc : Thread Cert.OptimiserIdeal.nD Cert.OptimiserIdeal.τ).loc Cert.OptimiserIdeal.main_arg3)
      ∧ m' ((c.tc : Thread Cert.OptimiserReferenceIdeal.nD Cert.OptimiserReferenceIdeal.τ).loc Cert.OptimiserReferenceIdeal.main_arg4) = m ((c.tc : Thread Cert.OptimiserIdeal.nD Cert.OptimiserIdeal.τ).loc Cert.OptimiserIdeal.main_arg4)
      ∧ m' ((c.tc : Thread Cert.OptimiserReferenceIdeal.nD Cert.OptimiserReferenceIdeal.τ).loc Cert.OptimiserReferenceIdeal.main_arg5) = m ((c.tc : Thread Cert.OptimiserIdeal.nD Cert.OptimiserIdeal.τ).loc Cert.OptimiserIdeal.main_arg5)
      ∧ m' ((c.tc : Thread Cert.OptimiserReferenceIdeal.nD Cert.OptimiserReferenceIdeal.τ).loc Cert.OptimiserReferenceIdeal.main_arg6) = m ((c.tc : Thread Cert.OptimiserIdeal.nD Cert.OptimiserIdeal.τ).loc Cert.OptimiserIdeal.main_arg6)
      ∧ m' ((c.tc : Thread Cert.OptimiserReferenceIdeal.nD Cert.OptimiserReferenceIdeal.τ).loc Cert.OptimiserReferenceIdeal.main_arg7) = m ((c.tc : Thread Cert.OptimiserIdeal.nD Cert.OptimiserIdeal.τ).loc Cert.OptimiserIdeal.main_arg7)
      ∧ m' ((c.tc : Thread Cert.OptimiserReferenceIdeal.nD Cert.OptimiserReferenceIdeal.τ).loc Cert.OptimiserReferenceIdeal.main_arg8) = m ((c.tc : Thread Cert.OptimiserIdeal.nD Cert.OptimiserIdeal.τ).loc Cert.OptimiserIdeal.main_arg8)
      ∧ m' ((c.tc : Thread Cert.OptimiserReferenceIdeal.nD Cert.OptimiserReferenceIdeal.τ).loc Cert.OptimiserReferenceIdeal.main_arg9) = m ((c.tc : Thread Cert.OptimiserIdeal.nD Cert.OptimiserIdeal.τ).loc Cert.OptimiserIdeal.main_arg9)
      ∧ m' ((c.tc : Thread Cert.OptimiserReferenceIdeal.nD Cert.OptimiserReferenceIdeal.τ).loc Cert.OptimiserReferenceIdeal.main_arg10) = m ((c.tc : Thread Cert.OptimiserIdeal.nD Cert.OptimiserIdeal.τ).loc Cert.OptimiserIdeal.main_arg10)
      ∧ m' ((c.tc : Thread Cert.OptimiserReferenceIdeal.nD Cert.OptimiserReferenceIdeal.τ).loc Cert.OptimiserReferenceIdeal.main_arg11) = m ((c.tc : Thread Cert.OptimiserIdeal.nD Cert.OptimiserIdeal.τ).loc Cert.OptimiserIdeal.main_arg11)
      ∧ m' ((c.tc : Thread Cert.OptimiserReferenceIdeal.nD Cert.OptimiserReferenceIdeal.τ).loc Cert.OptimiserReferenceIdeal.main_arg12) = m ((c.tc : Thread Cert.OptimiserIdeal.nD Cert.OptimiserIdeal.τ).loc Cert.OptimiserIdeal.main_arg12)
      ∧ m' ((c.tc : Thread Cert.OptimiserReferenceIdeal.nD Cert.OptimiserReferenceIdeal.τ).loc Cert.OptimiserReferenceIdeal.main_arg13) = m ((c.tc : Thread Cert.OptimiserIdeal.nD Cert.OptimiserIdeal.τ).loc Cert.OptimiserIdeal.main_arg13)
      ∧ m' ((c.tc : Thread Cert.OptimiserReferenceIdeal.nD Cert.OptimiserReferenceIdeal.τ).loc Cert.OptimiserReferenceIdeal.main_arg14) = m ((c.tc : Thread Cert.OptimiserIdeal.nD Cert.OptimiserIdeal.τ).loc Cert.OptimiserIdeal.main_arg14)
      ∧ m' ((c.tc : Thread Cert.OptimiserReferenceIdeal.nD Cert.OptimiserReferenceIdeal.τ).loc Cert.OptimiserReferenceIdeal.main_arg15) = m ((c.tc : Thread Cert.OptimiserIdeal.nD Cert.OptimiserIdeal.τ).loc Cert.OptimiserIdeal.main_arg15)
      ∧ m' ((c.tc : Thread Cert.OptimiserReferenceIdeal.nD Cert.OptimiserReferenceIdeal.τ).loc Cert.OptimiserReferenceIdeal.main_arg16) = m ((c.tc : Thread Cert.OptimiserIdeal.nD Cert.OptimiserIdeal.τ).loc Cert.OptimiserIdeal.main_arg16)
      ∧ m' ((c.tc : Thread Cert.OptimiserReferenceIdeal.nD Cert.OptimiserReferenceIdeal.τ).loc Cert.OptimiserReferenceIdeal.main_arg17) = m ((c.tc : Thread Cert.OptimiserIdeal.nD Cert.OptimiserIdeal.τ).loc Cert.OptimiserIdeal.main_arg17)
      ∧ m' ((c.tc : Thread Cert.OptimiserReferenceIdeal.nD Cert.OptimiserReferenceIdeal.τ).loc Cert.OptimiserReferenceIdeal.main_arg18) = m ((c.tc : Thread Cert.OptimiserIdeal.nD Cert.OptimiserIdeal.τ).loc Cert.OptimiserIdeal.main_arg18)
      ∧ m' ((c.tc : Thread Cert.OptimiserReferenceIdeal.nD Cert.OptimiserReferenceIdeal.τ).loc Cert.OptimiserReferenceIdeal.main_arg19) = m ((c.tc : Thread Cert.OptimiserIdeal.nD Cert.OptimiserIdeal.τ).loc Cert.OptimiserIdeal.main_arg19)
      ∧ m' ((c.tc : Thread Cert.OptimiserReferenceIdeal.nD Cert.OptimiserReferenceIdeal.τ).loc Cert.OptimiserReferenceIdeal.main_arg20) = m ((c.tc : Thread Cert.OptimiserIdeal.nD Cert.OptimiserIdeal.τ).loc Cert.OptimiserIdeal.main_arg20)
      ∧ m' ((c.tc : Thread Cert.OptimiserReferenceIdeal.nD Cert.OptimiserReferenceIdeal.τ).loc Cert.OptimiserReferenceIdeal.main_arg21) = m ((c.tc : Thread Cert.OptimiserIdeal.nD Cert.OptimiserIdeal.τ).loc Cert.OptimiserIdeal.main_arg21)
      ∧ m' ((c.tc : Thread Cert.OptimiserReferenceIdeal.nD Cert.OptimiserReferenceIdeal.τ).loc Cert.OptimiserReferenceIdeal.main_arg22) = m ((c.tc : Thread Cert.OptimiserIdeal.nD Cert.OptimiserIdeal.τ).loc Cert.OptimiserIdeal.main_arg22)
      ∧ m' ((c.tc : Thread Cert.OptimiserReferenceIdeal.nD Cert.OptimiserReferenceIdeal.τ).loc Cert.OptimiserReferenceIdeal.main_arg23) = m ((c.tc : Thread Cert.OptimiserIdeal.nD Cert.OptimiserIdeal.τ).loc Cert.OptimiserIdeal.main_arg23)
      ∧ m' ((c.tc : Thread Cert.OptimiserReferenceIdeal.nD Cert.OptimiserReferenceIdeal.τ).loc Cert.OptimiserReferenceIdeal.main_arg24) = m ((c.tc : Thread Cert.OptimiserIdeal.nD Cert.OptimiserIdeal.τ).loc Cert.OptimiserIdeal.main_arg24)
      ∧ m' ((c.tc : Thread Cert.OptimiserReferenceIdeal.nD Cert.OptimiserReferenceIdeal.τ).loc Cert.OptimiserReferenceIdeal.main_arg25) = m ((c.tc : Thread Cert.OptimiserIdeal.nD Cert.OptimiserIdeal.τ).loc Cert.OptimiserIdeal.main_arg25)
      ∧ m' ((c.tc : Thread Cert.OptimiserReferenceIdeal.nD Cert.OptimiserReferenceIdeal.τ).loc Cert.OptimiserReferenceIdeal.main_arg26) = m ((c.tc : Thread Cert.OptimiserIdeal.nD Cert.OptimiserIdeal.τ).loc Cert.OptimiserIdeal.main_arg26)
      ∧ m' ((c.tc : Thread Cert.OptimiserReferenceIdeal.nD Cert.OptimiserReferenceIdeal.τ).loc Cert.OptimiserReferenceIdeal.main_arg27) = m ((c.tc : Thread Cert.OptimiserIdeal.nD Cert.OptimiserIdeal.τ).loc Cert.OptimiserIdeal.main_arg27)) →
    ∃ (v0 : (c : Dev Cert.OptimiserIdeal.nD) → Buf (Elt Ideal) ((c.tc : Thread Cert.OptimiserIdeal.nD Cert.OptimiserIdeal.τ).loc Cert.OptimiserIdeal.main_v0_0)) (v1 : (c : Dev Cert.OptimiserIdeal.nD) → Buf (Elt Ideal) ((c.tc : Thread Cert.OptimiserIdeal.nD Cert.OptimiserIdeal.τ).loc Cert.OptimiserIdeal.main_v0_1)) (v2 : (c : Dev Cert.OptimiserIdeal.nD) → Buf (Elt Ideal) ((c.tc : Thread Cert.OptimiserIdeal.nD Cert.OptimiserIdeal.τ).loc Cert.OptimiserIdeal.main_v0_2)) (v3 : (c : Dev Cert.OptimiserIdeal.nD) → Buf (Elt Ideal) ((c.tc : Thread Cert.OptimiserIdeal.nD Cert.OptimiserIdeal.τ).loc Cert.OptimiserIdeal.main_v1_0)) (v4 : (c : Dev Cert.OptimiserIdeal.nD) → Buf (Elt Ideal) ((c.tc : Thread Cert.OptimiserIdeal.nD Cert.OptimiserIdeal.τ).loc Cert.OptimiserIdeal.main_v1_1)) (v5 : (c : Dev Cert.OptimiserIdeal.nD) → Buf (Elt Ideal) ((c.tc : Thread Cert.OptimiserIdeal.nD Cert.OptimiserIdeal.τ).loc Cert.OptimiserIdeal.main_v1_2)) (v6 : (c : Dev Cert.OptimiserIdeal.nD) → Buf (Elt Ideal) ((c.tc : Thread Cert.OptimiserIdeal.nD Cert.OptimiserIdeal.τ).loc Cert.OptimiserIdeal.main_v2_0)) (v7 : (c : Dev Cert.OptimiserIdeal.nD) → Buf (Elt Ideal) ((c.tc : Thread Cert.OptimiserIdeal.nD Cert.OptimiserIdeal.τ).loc Cert.OptimiserIdeal.main_v2_1)) (v8 : (c : Dev Cert.OptimiserIdeal.nD) → Buf (Elt Ideal) ((c.tc : Thread Cert.OptimiserIdeal.nD Cert.OptimiserIdeal.τ).loc Cert.OptimiserIdeal.main_v2_2)) (v9 : (c : Dev Cert.OptimiserIdeal.nD) → Buf (Elt Ideal) ((c.tc : Thread Cert.OptimiserIdeal.nD Cert.OptimiserIdeal.τ).loc Cert.OptimiserIdeal.main_v3_0)) (v10 : (c : Dev Cert.OptimiserIdeal.nD) → Buf (Elt Ideal) ((c.tc : Thread Cert.OptimiserIdeal.nD Cert.OptimiserIdeal.τ).loc Cert.OptimiserIdeal.main_v3_1)) (v11 : (c : Dev Cert.OptimiserIdeal.nD) → Buf (Elt Ideal) ((c.tc : Thread Cert.OptimiserIdeal.nD Cert.OptimiserIdeal.τ).loc Cert.OptimiserIdeal.main_v3_2)) (v12 : (c : Dev Cert.OptimiserIdeal.nD) → Buf (Elt Ideal) ((c.tc : Thread Cert.OptimiserIdeal.nD Cert.OptimiserIdeal.τ).loc Cert.OptimiserIdeal.main_v4_0)) (v13 : (c : Dev Cert.OptimiserIdeal.nD) → Buf (Elt Ideal) ((c.tc : Thread Cert.OptimiserIdeal.nD Cert.OptimiserIdeal.τ).loc Cert.OptimiserIdeal.main_v4_1)) (v14 : (c : Dev Cert.OptimiserIdeal.nD) → Buf (Elt Ideal) ((c.tc : Thread Cert.OptimiserIdeal.nD Cert.OptimiserIdeal.τ).loc Cert.OptimiserIdeal.main_v4_2)) (v15 : (c : Dev Cert.OptimiserIdeal.nD) → Buf (Elt Ideal) ((c.tc : Thread Cert.OptimiserIdeal.nD Cert.OptimiserIdeal.τ).loc Cert.OptimiserIdeal.main_v5_0)) (v16 : (c : Dev Cert.OptimiserIdeal.nD) → Buf (Elt Ideal) ((c.tc : Thread Cert.OptimiserIdeal.nD Cert.OptimiserIdeal.τ).loc Cert.OptimiserIdeal.main_v5_1)) (v17 : (c : Dev Cert.OptimiserIdeal.nD) → Buf (Elt Ideal) ((c.tc : Thread Cert.OptimiserIdeal.nD Cert.OptimiserIdeal.τ).loc Cert.OptimiserIdeal.main_v5_2)) (v18 : (c : Dev Cert.OptimiserIdeal.nD) → Buf (Elt Ideal) ((c.tc : Thread Cert.OptimiserIdeal.nD Cert.OptimiserIdeal.τ).loc Cert.OptimiserIdeal.main_v6_0)) (v19 : (c : Dev Cert.OptimiserIdeal.nD) → Buf (Elt Ideal) ((c.tc : Thread Cert.OptimiserIdeal.nD Cert.OptimiserIdeal.τ).loc Cert.OptimiserIdeal.main_v6_1)) (v20 : (c : Dev Cert.OptimiserIdeal.nD) → Buf (Elt Ideal) ((c.tc : Thread Cert.OptimiserIdeal.nD Cert.OptimiserIdeal.τ).loc Cert.OptimiserIdeal.main_v6_2)),
      θ_run (Cert.OptimiserIdeal.defs (F := Ideal)) (onTc (τ := Cert.OptimiserIdeal.τ) (Cert.OptimiserIdeal.main (F := Ideal))) ⟨m, fun _ => 0, g⟩ (fun r => ∀ c : Dev Cert.OptimiserIdeal.nD,
          r.2.mem ((c.tc : Thread Cert.OptimiserIdeal.nD Cert.OptimiserIdeal.τ).loc Cert.OptimiserIdeal.main_v0_0) = v0 c
          ∧ r.2.mem ((c.tc : Thread Cert.OptimiserIdeal.nD Cert.OptimiserIdeal.τ).loc Cert.OptimiserIdeal.main_v0_1) = v1 c
          ∧ r.2.mem ((c.tc : Thread Cert.OptimiserIdeal.nD Cert.OptimiserIdeal.τ).loc Cert.OptimiserIdeal.main_v0_2) = v2 c
          ∧ r.2.mem ((c.tc : Thread Cert.OptimiserIdeal.nD Cert.OptimiserIdeal.τ).loc Cert.OptimiserIdeal.main_v1_0) = v3 c
          ∧ r.2.mem ((c.tc : Thread Cert.OptimiserIdeal.nD Cert.OptimiserIdeal.τ).loc Cert.OptimiserIdeal.main_v1_1) = v4 c
          ∧ r.2.mem ((c.tc : Thread Cert.OptimiserIdeal.nD Cert.OptimiserIdeal.τ).loc Cert.OptimiserIdeal.main_v1_2) = v5 c
          ∧ r.2.mem ((c.tc : Thread Cert.OptimiserIdeal.nD Cert.OptimiserIdeal.τ).loc Cert.OptimiserIdeal.main_v2_0) = v6 c
          ∧ r.2.mem ((c.tc : Thread Cert.OptimiserIdeal.nD Cert.OptimiserIdeal.τ).loc Cert.OptimiserIdeal.main_v2_1) = v7 c
          ∧ r.2.mem ((c.tc : Thread Cert.OptimiserIdeal.nD Cert.OptimiserIdeal.τ).loc Cert.OptimiserIdeal.main_v2_2) = v8 c
          ∧ r.2.mem ((c.tc : Thread Cert.OptimiserIdeal.nD Cert.OptimiserIdeal.τ).loc Cert.OptimiserIdeal.main_v3_0) = v9 c
          ∧ r.2.mem ((c.tc : Thread Cert.OptimiserIdeal.nD Cert.OptimiserIdeal.τ).loc Cert.OptimiserIdeal.main_v3_1) = v10 c
          ∧ r.2.mem ((c.tc : Thread Cert.OptimiserIdeal.nD Cert.OptimiserIdeal.τ).loc Cert.OptimiserIdeal.main_v3_2) = v11 c
          ∧ r.2.mem ((c.tc : Thread Cert.OptimiserIdeal.nD Cert.OptimiserIdeal.τ).loc Cert.OptimiserIdeal.main_v4_0) = v12 c
          ∧ r.2.mem ((c.tc : Thread Cert.OptimiserIdeal.nD Cert.OptimiserIdeal.τ).loc Cert.OptimiserIdeal.main_v4_1) = v13 c
          ∧ r.2.mem ((c.tc : Thread Cert.OptimiserIdeal.nD Cert.OptimiserIdeal.τ).loc Cert.OptimiserIdeal.main_v4_2) = v14 c
          ∧ r.2.mem ((c.tc : Thread Cert.OptimiserIdeal.nD Cert.OptimiserIdeal.τ).loc Cert.OptimiserIdeal.main_v5_0) = v15 c
          ∧ r.2.mem ((c.tc : Thread Cert.OptimiserIdeal.nD Cert.OptimiserIdeal.τ).loc Cert.OptimiserIdeal.main_v5_1) = v16 c
          ∧ r.2.mem ((c.tc : Thread Cert.OptimiserIdeal.nD Cert.OptimiserIdeal.τ).loc Cert.OptimiserIdeal.main_v5_2) = v17 c
          ∧ r.2.mem ((c.tc : Thread Cert.OptimiserIdeal.nD Cert.OptimiserIdeal.τ).loc Cert.OptimiserIdeal.main_v6_0) = v18 c
          ∧ r.2.mem ((c.tc : Thread Cert.OptimiserIdeal.nD Cert.OptimiserIdeal.τ).loc Cert.OptimiserIdeal.main_v6_1) = v19 c
          ∧ r.2.mem ((c.tc : Thread Cert.OptimiserIdeal.nD Cert.OptimiserIdeal.τ).loc Cert.OptimiserIdeal.main_v6_2) = v20 c
          ∧ r.2.mem ((c.tc : Thread Cert.OptimiserIdeal.nD Cert.OptimiserIdeal.τ).loc Cert.OptimiserIdeal.main_arg0) = m ((c.tc : Thread Cert.OptimiserIdeal.nD Cert.OptimiserIdeal.τ).loc Cert.OptimiserIdeal.main_arg0)
          ∧ r.2.mem ((c.tc : Thread Cert.OptimiserIdeal.nD Cert.OptimiserIdeal.τ).loc Cert.OptimiserIdeal.main_arg1) = m ((c.tc : Thread Cert.OptimiserIdeal.nD Cert.OptimiserIdeal.τ).loc Cert.OptimiserIdeal.main_arg1)
          ∧ r.2.mem ((c.tc : Thread Cert.OptimiserIdeal.nD Cert.OptimiserIdeal.τ).loc Cert.OptimiserIdeal.main_arg2) = m ((c.tc : Thread Cert.OptimiserIdeal.nD Cert.OptimiserIdeal.τ).loc Cert.OptimiserIdeal.main_arg2)
          ∧ r.2.mem ((c.tc : Thread Cert.OptimiserIdeal.nD Cert.OptimiserIdeal.τ).loc Cert.OptimiserIdeal.main_arg3) = m ((c.tc : Thread Cert.OptimiserIdeal.nD Cert.OptimiserIdeal.τ).loc Cert.OptimiserIdeal.main_arg3)
          ∧ r.2.mem ((c.tc : Thread Cert.OptimiserIdeal.nD Cert.OptimiserIdeal.τ).loc Cert.OptimiserIdeal.main_arg4) = m ((c.tc : Thread Cert.OptimiserIdeal.nD Cert.OptimiserIdeal.τ).loc Cert.OptimiserIdeal.main_arg4)
          ∧ r.2.mem ((c.tc : Thread Cert.OptimiserIdeal.nD Cert.OptimiserIdeal.τ).loc Cert.OptimiserIdeal.main_arg5) = m ((c.tc : Thread Cert.OptimiserIdeal.nD Cert.OptimiserIdeal.τ).loc Cert.OptimiserIdeal.main_arg5)
          ∧ r.2.mem ((c.tc : Thread Cert.OptimiserIdeal.nD Cert.OptimiserIdeal.τ).loc Cert.OptimiserIdeal.main_arg6) = m ((c.tc : Thread Cert.OptimiserIdeal.nD Cert.OptimiserIdeal.τ).loc Cert.OptimiserIdeal.main_arg6)
          ∧ r.2.mem ((c.tc : Thread Cert.OptimiserIdeal.nD Cert.OptimiserIdeal.τ).loc Cert.OptimiserIdeal.main_arg7) = m ((c.tc : Thread Cert.OptimiserIdeal.nD Cert.OptimiserIdeal.τ).loc Cert.OptimiserIdeal.main_arg7)
          ∧ r.2.mem ((c.tc : Thread Cert.OptimiserIdeal.nD Cert.OptimiserIdeal.τ).loc Cert.OptimiserIdeal.main_arg8) = m ((c.tc : Thread Cert.OptimiserIdeal.nD Cert.OptimiserIdeal.τ).loc Cert.OptimiserIdeal.main_arg8)
          ∧ r.2.mem ((c.tc : Thread Cert.OptimiserIdeal.nD Cert.OptimiserIdeal.τ).loc Cert.OptimiserIdeal.main_arg9) = m ((c.tc : Thread Cert.OptimiserIdeal.nD Cert.OptimiserIdeal.τ).loc Cert.OptimiserIdeal.main_arg9)
          ∧ r.2.mem ((c.tc : Thread Cert.OptimiserIdeal.nD Cert.OptimiserIdeal.τ).loc Cert.OptimiserIdeal.main_arg10) = m ((c.tc : Thread Cert.OptimiserIdeal.nD Cert.OptimiserIdeal.τ).loc Cert.OptimiserIdeal.main_arg10)
          ∧ r.2.mem ((c.tc : Thread Cert.OptimiserIdeal.nD Cert.OptimiserIdeal.τ).loc Cert.OptimiserIdeal.main_arg11) = m ((c.tc : Thread Cert.OptimiserIdeal.nD Cert.OptimiserIdeal.τ).loc Cert.OptimiserIdeal.main_arg11)
          ∧ r.2.mem ((c.tc : Thread Cert.OptimiserIdeal.nD Cert.OptimiserIdeal.τ).loc Cert.OptimiserIdeal.main_arg12) = m ((c.tc : Thread Cert.OptimiserIdeal.nD Cert.OptimiserIdeal.τ).loc Cert.OptimiserIdeal.main_arg12)
          ∧ r.2.mem ((c.tc : Thread Cert.OptimiserIdeal.nD Cert.OptimiserIdeal.τ).loc Cert.OptimiserIdeal.main_arg13) = m ((c.tc : Thread Cert.OptimiserIdeal.nD Cert.OptimiserIdeal.τ).loc Cert.OptimiserIdeal.main_arg13)
          ∧ r.2.mem ((c.tc : Thread Cert.OptimiserIdeal.nD Cert.OptimiserIdeal.τ).loc Cert.OptimiserIdeal.main_arg14) = m ((c.tc : Thread Cert.OptimiserIdeal.nD Cert.OptimiserIdeal.τ).loc Cert.OptimiserIdeal.main_arg14)
          ∧ r.2.mem ((c.tc : Thread Cert.OptimiserIdeal.nD Cert.OptimiserIdeal.τ).loc Cert.OptimiserIdeal.main_arg15) = m ((c.tc : Thread Cert.OptimiserIdeal.nD Cert.OptimiserIdeal.τ).loc Cert.OptimiserIdeal.main_arg15)
          ∧ r.2.mem ((c.tc : Thread Cert.OptimiserIdeal.nD Cert.OptimiserIdeal.τ).loc Cert.OptimiserIdeal.main_arg16) = m ((c.tc : Thread Cert.OptimiserIdeal.nD Cert.OptimiserIdeal.τ).loc Cert.OptimiserIdeal.main_arg16)
          ∧ r.2.mem ((c.tc : Thread Cert.OptimiserIdeal.nD Cert.OptimiserIdeal.τ).loc Cert.OptimiserIdeal.main_arg17) = m ((c.tc : Thread Cert.OptimiserIdeal.nD Cert.OptimiserIdeal.τ).loc Cert.OptimiserIdeal.main_arg17)
          ∧ r.2.mem ((c.tc : Thread Cert.OptimiserIdeal.nD Cert.OptimiserIdeal.τ).loc Cert.OptimiserIdeal.main_arg18) = m ((c.tc : Thread Cert.OptimiserIdeal.nD Cert.OptimiserIdeal.τ).loc Cert.OptimiserIdeal.main_arg18)
          ∧ r.2.mem ((c.tc : Thread Cert.OptimiserIdeal.nD Cert.OptimiserIdeal.τ).loc Cert.OptimiserIdeal.main_arg19) = m ((c.tc : Thread Cert.OptimiserIdeal.nD Cert.OptimiserIdeal.τ).loc Cert.OptimiserIdeal.main_arg19)
          ∧ r.2.mem ((c.tc : Thread Cert.OptimiserIdeal.nD Cert.OptimiserIdeal.τ).loc Cert.OptimiserIdeal.main_arg20) = m ((c.tc : Thread Cert.OptimiserIdeal.nD Cert.OptimiserIdeal.τ).loc Cert.OptimiserIdeal.main_arg20)
          ∧ r.2.mem ((c.tc : Thread Cert.OptimiserIdeal.nD Cert.OptimiserIdeal.τ).loc Cert.OptimiserIdeal.main_arg21) = m ((c.tc : Thread Cert.OptimiserIdeal.nD Cert.OptimiserIdeal.τ).loc Cert.OptimiserIdeal.main_arg21)
          ∧ r.2.mem ((c.tc : Thread Cert.OptimiserIdeal.nD Cert.OptimiserIdeal.τ).loc Cert.OptimiserIdeal.main_arg22) = m ((c.tc : Thread Cert.OptimiserIdeal.nD Cert.OptimiserIdeal.τ).loc Cert.OptimiserIdeal.main_arg22)
          ∧ r.2.mem ((c.tc : Thread Cert.OptimiserIdeal.nD Cert.OptimiserIdeal.τ).loc Cert.OptimiserIdeal.main_arg23) = m ((c.tc : Thread Cert.OptimiserIdeal.nD Cert.OptimiserIdeal.τ).loc Cert.OptimiserIdeal.main_arg23)
          ∧ r.2.mem ((c.tc : Thread Cert.OptimiserIdeal.nD Cert.OptimiserIdeal.τ).loc Cert.OptimiserIdeal.main_arg24) = m ((c.tc : Thread Cert.OptimiserIdeal.nD Cert.OptimiserIdeal.τ).loc Cert.OptimiserIdeal.main_arg24)
          ∧ r.2.mem ((c.tc : Thread Cert.OptimiserIdeal.nD Cert.OptimiserIdeal.τ).loc Cert.OptimiserIdeal.main_arg25) = m ((c.tc : Thread Cert.OptimiserIdeal.nD Cert.OptimiserIdeal.τ).loc Cert.OptimiserIdeal.main_arg25)
          ∧ r.2.mem ((c.tc : Thread Cert.OptimiserIdeal.nD Cert.OptimiserIdeal.τ).loc Cert.OptimiserIdeal.main_arg26) = m ((c.tc : Thread Cert.OptimiserIdeal.nD Cert.OptimiserIdeal.τ).loc Cert.OptimiserIdeal.main_arg26)
          ∧ r.2.mem ((c.tc : Thread Cert.OptimiserIdeal.nD Cert.OptimiserIdeal.τ).loc Cert.OptimiserIdeal.main_arg27) = m ((c.tc : Thread Cert.OptimiserIdeal.nD Cert.OptimiserIdeal.τ).loc Cert.OptimiserIdeal.main_arg27))
      ∧ θ_run (Cert.OptimiserReferenceIdeal.defs (F := Ideal)) (onTc (τ := Cert.OptimiserReferenceIdeal.τ) (Cert.OptimiserReferenceIdeal.main (F := Ideal))) ⟨m', fun _ => 0, g'⟩ (fun r => ∀ c : Dev Cert.OptimiserReferenceIdeal.nD,
          r.2.mem ((c.tc : Thread Cert.OptimiserReferenceIdeal.nD Cert.OptimiserReferenceIdeal.τ).loc Cert.OptimiserReferenceIdeal.main_v23) = v0 c
          ∧ r.2.mem ((c.tc : Thread Cert.OptimiserReferenceIdeal.nD Cert.OptimiserReferenceIdeal.τ).loc Cert.OptimiserReferenceIdeal.main_v4) = v1 c
          ∧ r.2.mem ((c.tc : Thread Cert.OptimiserReferenceIdeal.nD Cert.OptimiserReferenceIdeal.τ).loc Cert.OptimiserReferenceIdeal.main_v10) = v2 c
          ∧ r.2.mem ((c.tc : Thread Cert.OptimiserReferenceIdeal.nD Cert.OptimiserReferenceIdeal.τ).loc Cert.OptimiserReferenceIdeal.main_v47) = v3 c
          ∧ r.2.mem ((c.tc : Thread Cert.OptimiserReferenceIdeal.nD Cert.OptimiserReferenceIdeal.τ).loc Cert.OptimiserReferenceIdeal.main_v28) = v4 c
          ∧ r.2.mem ((c.tc : Thread Cert.OptimiserReferenceIdeal.nD Cert.OptimiserReferenceIdeal.τ).loc Cert.OptimiserReferenceIdeal.main_v34) = v5 c
          ∧ r.2.mem ((c.tc : Thread Cert.OptimiserReferenceIdeal.nD Cert.OptimiserReferenceIdeal.τ).loc Cert.OptimiserReferenceIdeal.main_v71) = v6 c
          ∧ r.2.mem ((c.tc : Thread Cert.OptimiserReferenceIdeal.nD Cert.OptimiserReferenceIdeal.τ).loc Cert.OptimiserReferenceIdeal.main_v52) = v7 c
          ∧ r.2.mem ((c.tc : Thread Cert.OptimiserReferenceIdeal.nD Cert.OptimiserReferenceIdeal.τ).loc Cert.OptimiserReferenceIdeal.main_v58) = v8 c
          ∧ r.2.mem ((c.tc : Thread Cert.OptimiserReferenceIdeal.nD Cert.OptimiserReferenceIdeal.τ).loc Cert.OptimiserReferenceIdeal.main_v95) = v9 c
          ∧ r.2.mem ((c.tc : Thread Cert.OptimiserReferenceIdeal.nD Cert.OptimiserReferenceIdeal.τ).loc Cert.OptimiserReferenceIdeal.main_v76) = v10 c
          ∧ r.2.mem ((c.tc : Thread Cert.OptimiserReferenceIdeal.nD Cert.OptimiserReferenceIdeal.τ).loc Cert.OptimiserReferenceIdeal.main_v82) = v11 c
          ∧ r.2.mem ((c.tc : Thread Cert.OptimiserReferenceIdeal.nD Cert.OptimiserReferenceIdeal.τ).loc Cert.OptimiserReferenceIdeal.main_v119) = v12 c
          ∧ r.2.mem ((c.tc : Thread Cert.OptimiserReferenceIdeal.nD Cert.OptimiserReferenceIdeal.τ).loc Cert.OptimiserReferenceIdeal.main_v100) = v13 c
          ∧ r.2.mem ((c.tc : Thread Cert.OptimiserReferenceIdeal.nD Cert.OptimiserReferenceIdeal.τ).loc Cert.OptimiserReferenceIdeal.main_v106) = v14 c
          ∧ r.2.mem ((c.tc : Thread Cert.OptimiserReferenceIdeal.nD Cert.OptimiserReferenceIdeal.τ).loc Cert.OptimiserReferenceIdeal.main_v143) = v15 c
          ∧ r.2.mem ((c.tc : Thread Cert.OptimiserReferenceIdeal.nD Cert.OptimiserReferenceIdeal.τ).loc Cert.OptimiserReferenceIdeal.main_v124) = v16 c
          ∧ r.2.mem ((c.tc : Thread Cert.OptimiserReferenceIdeal.nD Cert.OptimiserReferenceIdeal.τ).loc Cert.OptimiserReferenceIdeal.main_v130) = v17 c
          ∧ r.2.mem ((c.tc : Thread Cert.OptimiserReferenceIdeal.nD Cert.OptimiserReferenceIdeal.τ).loc Cert.OptimiserReferenceIdeal.main_v167) = v18 c
          ∧ r.2.mem ((c.tc : Thread Cert.OptimiserReferenceIdeal.nD Cert.OptimiserReferenceIdeal.τ).loc Cert.OptimiserReferenceIdeal.main_v148) = v19 c
          ∧ r.2.mem ((c.tc : Thread Cert.OptimiserReferenceIdeal.nD Cert.OptimiserReferenceIdeal.τ).loc Cert.OptimiserReferenceIdeal.main_v154) = v20 c
          ∧ r.2.mem ((c.tc : Thread Cert.OptimiserReferenceIdeal.nD Cert.OptimiserReferenceIdeal.τ).loc Cert.OptimiserReferenceIdeal.main_arg0) = m' ((c.tc : Thread Cert.OptimiserReferenceIdeal.nD Cert.OptimiserReferenceIdeal.τ).loc Cert.OptimiserReferenceIdeal.main_arg0)
          ∧ r.2.mem ((c.tc : Thread Cert.OptimiserReferenceIdeal.nD Cert.OptimiserReferenceIdeal.τ).loc Cert.OptimiserReferenceIdeal.main_arg1) = m' ((c.tc : Thread Cert.OptimiserReferenceIdeal.nD Cert.OptimiserReferenceIdeal.τ).loc Cert.OptimiserReferenceIdeal.main_arg1)
          ∧ r.2.mem ((c.tc : Thread Cert.OptimiserReferenceIdeal.nD Cert.OptimiserReferenceIdeal.τ).loc Cert.OptimiserReferenceIdeal.main_arg2) = m' ((c.tc : Thread Cert.OptimiserReferenceIdeal.nD Cert.OptimiserReferenceIdeal.τ).loc Cert.OptimiserReferenceIdeal.main_arg2)
          ∧ r.2.mem ((c.tc : Thread Cert.OptimiserReferenceIdeal.nD Cert.OptimiserReferenceIdeal.τ).loc Cert.OptimiserReferenceIdeal.main_arg3) = m' ((c.tc : Thread Cert.OptimiserReferenceIdeal.nD Cert.OptimiserReferenceIdeal.τ).loc Cert.OptimiserReferenceIdeal.main_arg3)
          ∧ r.2.mem ((c.tc : Thread Cert.OptimiserReferenceIdeal.nD Cert.OptimiserReferenceIdeal.τ).loc Cert.OptimiserReferenceIdeal.main_arg4) = m' ((c.tc : Thread Cert.OptimiserReferenceIdeal.nD Cert.OptimiserReferenceIdeal.τ).loc Cert.OptimiserReferenceIdeal.main_arg4)
          ∧ r.2.mem ((c.tc : Thread Cert.OptimiserReferenceIdeal.nD Cert.OptimiserReferenceIdeal.τ).loc Cert.OptimiserReferenceIdeal.main_arg5) = m' ((c.tc : Thread Cert.OptimiserReferenceIdeal.nD Cert.OptimiserReferenceIdeal.τ).loc Cert.OptimiserReferenceIdeal.main_arg5)
          ∧ r.2.mem ((c.tc : Thread Cert.OptimiserReferenceIdeal.nD Cert.OptimiserReferenceIdeal.τ).loc Cert.OptimiserReferenceIdeal.main_arg6) = m' ((c.tc : Thread Cert.OptimiserReferenceIdeal.nD Cert.OptimiserReferenceIdeal.τ).loc Cert.OptimiserReferenceIdeal.main_arg6)
          ∧ r.2.mem ((c.tc : Thread Cert.OptimiserReferenceIdeal.nD Cert.OptimiserReferenceIdeal.τ).loc Cert.OptimiserReferenceIdeal.main_arg7) = m' ((c.tc : Thread Cert.OptimiserReferenceIdeal.nD Cert.OptimiserReferenceIdeal.τ).loc Cert.OptimiserReferenceIdeal.main_arg7)
          ∧ r.2.mem ((c.tc : Thread Cert.OptimiserReferenceIdeal.nD Cert.OptimiserReferenceIdeal.τ).loc Cert.OptimiserReferenceIdeal.main_arg8) = m' ((c.tc : Thread Cert.OptimiserReferenceIdeal.nD Cert.OptimiserReferenceIdeal.τ).loc Cert.OptimiserReferenceIdeal.main_arg8)
          ∧ r.2.mem ((c.tc : Thread Cert.OptimiserReferenceIdeal.nD Cert.OptimiserReferenceIdeal.τ).loc Cert.OptimiserReferenceIdeal.main_arg9) = m' ((c.tc : Thread Cert.OptimiserReferenceIdeal.nD Cert.OptimiserReferenceIdeal.τ).loc Cert.OptimiserReferenceIdeal.main_arg9)
          ∧ r.2.mem ((c.tc : Thread Cert.OptimiserReferenceIdeal.nD Cert.OptimiserReferenceIdeal.τ).loc Cert.OptimiserReferenceIdeal.main_arg10) = m' ((c.tc : Thread Cert.OptimiserReferenceIdeal.nD Cert.OptimiserReferenceIdeal.τ).loc Cert.OptimiserReferenceIdeal.main_arg10)
          ∧ r.2.mem ((c.tc : Thread Cert.OptimiserReferenceIdeal.nD Cert.OptimiserReferenceIdeal.τ).loc Cert.OptimiserReferenceIdeal.main_arg11) = m' ((c.tc : Thread Cert.OptimiserReferenceIdeal.nD Cert.OptimiserReferenceIdeal.τ).loc Cert.OptimiserReferenceIdeal.main_arg11)
          ∧ r.2.mem ((c.tc : Thread Cert.OptimiserReferenceIdeal.nD Cert.OptimiserReferenceIdeal.τ).loc Cert.OptimiserReferenceIdeal.main_arg12) = m' ((c.tc : Thread Cert.OptimiserReferenceIdeal.nD Cert.OptimiserReferenceIdeal.τ).loc Cert.OptimiserReferenceIdeal.main_arg12)
          ∧ r.2.mem ((c.tc : Thread Cert.OptimiserReferenceIdeal.nD Cert.OptimiserReferenceIdeal.τ).loc Cert.OptimiserReferenceIdeal.main_arg13) = m' ((c.tc : Thread Cert.OptimiserReferenceIdeal.nD Cert.OptimiserReferenceIdeal.τ).loc Cert.OptimiserReferenceIdeal.main_arg13)
          ∧ r.2.mem ((c.tc : Thread Cert.OptimiserReferenceIdeal.nD Cert.OptimiserReferenceIdeal.τ).loc Cert.OptimiserReferenceIdeal.main_arg14) = m' ((c.tc : Thread Cert.OptimiserReferenceIdeal.nD Cert.OptimiserReferenceIdeal.τ).loc Cert.OptimiserReferenceIdeal.main_arg14)
          ∧ r.2.mem ((c.tc : Thread Cert.OptimiserReferenceIdeal.nD Cert.OptimiserReferenceIdeal.τ).loc Cert.OptimiserReferenceIdeal.main_arg15) = m' ((c.tc : Thread Cert.OptimiserReferenceIdeal.nD Cert.OptimiserReferenceIdeal.τ).loc Cert.OptimiserReferenceIdeal.main_arg15)
          ∧ r.2.mem ((c.tc : Thread Cert.OptimiserReferenceIdeal.nD Cert.OptimiserReferenceIdeal.τ).loc Cert.OptimiserReferenceIdeal.main_arg16) = m' ((c.tc : Thread Cert.OptimiserReferenceIdeal.nD Cert.OptimiserReferenceIdeal.τ).loc Cert.OptimiserReferenceIdeal.main_arg16)
          ∧ r.2.mem ((c.tc : Thread Cert.OptimiserReferenceIdeal.nD Cert.OptimiserReferenceIdeal.τ).loc Cert.OptimiserReferenceIdeal.main_arg17) = m' ((c.tc : Thread Cert.OptimiserReferenceIdeal.nD Cert.OptimiserReferenceIdeal.τ).loc Cert.OptimiserReferenceIdeal.main_arg17)
          ∧ r.2.mem ((c.tc : Thread Cert.OptimiserReferenceIdeal.nD Cert.OptimiserReferenceIdeal.τ).loc Cert.OptimiserReferenceIdeal.main_arg18) = m' ((c.tc : Thread Cert.OptimiserReferenceIdeal.nD Cert.OptimiserReferenceIdeal.τ).loc Cert.OptimiserReferenceIdeal.main_arg18)
          ∧ r.2.mem ((c.tc : Thread Cert.OptimiserReferenceIdeal.nD Cert.OptimiserReferenceIdeal.τ).loc Cert.OptimiserReferenceIdeal.main_arg19) = m' ((c.tc : Thread Cert.OptimiserReferenceIdeal.nD Cert.OptimiserReferenceIdeal.τ).loc Cert.OptimiserReferenceIdeal.main_arg19)
          ∧ r.2.mem ((c.tc : Thread Cert.OptimiserReferenceIdeal.nD Cert.OptimiserReferenceIdeal.τ).loc Cert.OptimiserReferenceIdeal.main_arg20) = m' ((c.tc : Thread Cert.OptimiserReferenceIdeal.nD Cert.OptimiserReferenceIdeal.τ).loc Cert.OptimiserReferenceIdeal.main_arg20)
          ∧ r.2.mem ((c.tc : Thread Cert.OptimiserReferenceIdeal.nD Cert.OptimiserReferenceIdeal.τ).loc Cert.OptimiserReferenceIdeal.main_arg21) = m' ((c.tc : Thread Cert.OptimiserReferenceIdeal.nD Cert.OptimiserReferenceIdeal.τ).loc Cert.OptimiserReferenceIdeal.main_arg21)
          ∧ r.2.mem ((c.tc : Thread Cert.OptimiserReferenceIdeal.nD Cert.OptimiserReferenceIdeal.τ).loc Cert.OptimiserReferenceIdeal.main_arg22) = m' ((c.tc : Thread Cert.OptimiserReferenceIdeal.nD Cert.OptimiserReferenceIdeal.τ).loc Cert.OptimiserReferenceIdeal.main_arg22)
          ∧ r.2.mem ((c.tc : Thread Cert.OptimiserReferenceIdeal.nD Cert.OptimiserReferenceIdeal.τ).loc Cert.OptimiserReferenceIdeal.main_arg23) = m' ((c.tc : Thread Cert.OptimiserReferenceIdeal.nD Cert.OptimiserReferenceIdeal.τ).loc Cert.OptimiserReferenceIdeal.main_arg23)
          ∧ r.2.mem ((c.tc : Thread Cert.OptimiserReferenceIdeal.nD Cert.OptimiserReferenceIdeal.τ).loc Cert.OptimiserReferenceIdeal.main_arg24) = m' ((c.tc : Thread Cert.OptimiserReferenceIdeal.nD Cert.OptimiserReferenceIdeal.τ).loc Cert.OptimiserReferenceIdeal.main_arg24)
          ∧ r.2.mem ((c.tc : Thread Cert.OptimiserReferenceIdeal.nD Cert.OptimiserReferenceIdeal.τ).loc Cert.OptimiserReferenceIdeal.main_arg25) = m' ((c.tc : Thread Cert.OptimiserReferenceIdeal.nD Cert.OptimiserReferenceIdeal.τ).loc Cert.OptimiserReferenceIdeal.main_arg25)
          ∧ r.2.mem ((c.tc : Thread Cert.OptimiserReferenceIdeal.nD Cert.OptimiserReferenceIdeal.τ).loc Cert.OptimiserReferenceIdeal.main_arg26) = m' ((c.tc : Thread Cert.OptimiserReferenceIdeal.nD Cert.OptimiserReferenceIdeal.τ).loc Cert.OptimiserReferenceIdeal.main_arg26)
          ∧ r.2.mem ((c.tc : Thread Cert.OptimiserReferenceIdeal.nD Cert.OptimiserReferenceIdeal.τ).loc Cert.OptimiserReferenceIdeal.main_arg27) = m' ((c.tc : Thread Cert.OptimiserReferenceIdeal.nD Cert.OptimiserReferenceIdeal.τ).loc Cert.OptimiserReferenceIdeal.main_arg27))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerReferenceIdeal : Cert.MixerReferenceIdeal.Facts) (hProjections : Cert.Projections.Facts) (hProjectionsIdeal : Cert.ProjectionsIdeal.Facts) (hProjectionsReferenceIdeal : Cert.ProjectionsReferenceIdeal.Facts) (hOptimiser : Cert.Optimiser.Facts) (hOptimiserIdeal : Cert.OptimiserIdeal.Facts) (hOptimiserReferenceIdeal : Cert.OptimiserReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_Optimiser (hOptimiser := hOptimiser)
    ∧ quiescent_OptimiserIdeal (hOptimiserIdeal := hOptimiserIdeal)
    ∧ quiescent_OptimiserReferenceIdeal (hOptimiserReferenceIdeal := hOptimiserReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mixer_MixerIdeal
    ∧ algebraic_MixerIdeal_MixerReferenceIdeal (hMixerIdeal := hMixerIdeal) (hMixerReferenceIdeal := hMixerReferenceIdeal)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_Optimiser_OptimiserIdeal
    ∧ algebraic_OptimiserIdeal_OptimiserReferenceIdeal (hOptimiserIdeal := hOptimiserIdeal) (hOptimiserReferenceIdeal := hOptimiserReferenceIdeal)
-- ==== Pre_finite.lean ====
abbrev S4096x4x192 : Shape := ⟨3, ![4096, 4, 192]⟩
abbrev S4096x4x128 : Shape := ⟨3, ![4096, 4, 128]⟩
abbrev S_ : Shape := ⟨0, ![]⟩

class Facts : Prop where
  bcast_S_S4096x4x192 : S_.BroadcastsInDim S4096x4x192 (![] : Fin 0 → Fin S4096x4x192.rank)
  reducesTo_S4096x4x192_S_d0_1_2 : S4096x4x192.ReducesTo [0, 1, 2] S_
  h_S_ : 0 < S_.numel
  bcast_S_S4096x4x128 : S_.BroadcastsInDim S4096x4x128 (![] : Fin 0 → Fin S4096x4x128.rank)
  reducesTo_S4096x4x128_S_d0_1_2 : S4096x4x128.ReducesTo [0, 1, 2] S_

variable [Facts]

def fn_part1 {F : FTy → Type} [FloatOps F] (main_v13 : IVec S_ 1) (main_v16 : IVec S4096x4x128 1) : IVec S_ 1 :=
  let main_c_5 : IVec S_ 1 := constantI S_ 1 1#1
  let main_v17 : IVec S_ 1 := (fun x v => Host.reduce IntOp.andi x v reducesTo_S4096x4x128_S_d0_1_2 h_S_) main_v16 main_c_5
  let main_v18 : IVec S_ 1 := andi main_v13 main_v17
  main_v18

def fn {F : FTy → Type} [FloatOps F] (main_arg0 : FVec F S4096x4x192 .f32) (main_arg1 : FVec F S4096x4x192 .f32) (main_arg2 : FVec F S4096x4x128 .f32) (main_arg3 : FVec F S4096x4x128 .f32) : IVec S_ 1 :=
  let main_v0 : FVec F S4096x4x192 .f32 := Host.absf main_arg0
  let main_cst : FVec F S_ .f32 := constant S_ .f32 0x7F800000#32
  let main_v1 : FVec F S4096x4x192 .f32 := broadcastInDim S4096x4x192 ![] bcast_S_S4096x4x192 main_cst
  let main_v2 : IVec S4096x4x192 1 := cmpf .olt main_v0 main_v1
  let main_c : IVec S_ 1 := constantI S_ 1 1#1
  let main_v3 : IVec S_ 1 := (fun x v => Host.reduce IntOp.andi x v reducesTo_S4096x4x192_S_d0_1_2 h_S_) main_v2 main_c
  let main_v4 : FVec F S4096x4x192 .f32 := Host.absf main_arg1
  let main_cst_0 : FVec F S_ .f32 := constant S_ .f32 0x7F800000#32
  let main_v5 : FVec F S4096x4x192 .f32 := broadcastInDim S4096x4x192 ![] bcast_S_S4096x4x192 main_cst_0
  let main_v6 : IVec S4096x4x192 1 := cmpf .olt main_v4 main_v5
  let main_c_1 : IVec S_ 1 := constantI S_ 1 1#1
  let main_v7 : IVec S_ 1 := (fun x v => Host.reduce IntOp.andi x v reducesTo_S4096x4x192_S_d0_1_2 h_S_) main_v6 main_c_1
  let main_v8 : IVec S_ 1 := andi main_v3 main_v7
  let main_v9 : FVec F S4096x4x128 .f32 := Host.absf main_arg2
  let main_cst_2 : FVec F S_ .f32 := constant S_ .f32 0x7F800000#32
  let main_v10 : FVec F S4096x4x128 .f32 := broadcastInDim S4096x4x128 ![] bcast_S_S4096x4x128 main_cst_2
  let main_v11 : IVec S4096x4x128 1 := cmpf .olt main_v9 main_v10
  let main_c_3 : IVec S_ 1 := constantI S_ 1 1#1
  let main_v12 : IVec S_ 1 := (fun x v => Host.reduce IntOp.andi x v reducesTo_S4096x4x128_S_d0_1_2 h_S_) main_v11 main_c_3
  let main_v13 : IVec S_ 1 := andi main_v8 main_v12
  let main_v14 : FVec F S4096x4x128 .f32 := Host.absf main_arg3
  let main_cst_4 : FVec F S_ .f32 := constant S_ .f32 0x7F800000#32
  let main_v15 : FVec F S4096x4x128 .f32 := broadcastInDim S4096x4x128 ![] bcast_S_S4096x4x128 main_cst_4
  let main_v16 : IVec S4096x4x128 1 := cmpf .olt main_v14 main_v15
  fn_part1 (F := F) main_v13 main_v16
-- ==== Kernel.lean ====
abbrev S4096x4x192 : Shape := ⟨3, ![4096, 4, 192]⟩
abbrev S4096x4x128 : Shape := ⟨3, ![4096, 4, 128]⟩
abbrev S4096 : Shape := ⟨1, ![4096]⟩
abbrev S4x4096x4096 : Shape := ⟨3, ![4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4096x4 : Shape := ⟨2, ![4096, 4]⟩
abbrev S4x4096x192 : Shape := ⟨3, ![4, 4096, 192]⟩
abbrev S4x4096x256 : Shape := ⟨3, ![4, 4096, 256]⟩
abbrev S4096x512 : Shape := ⟨2, ![4096, 512]⟩
abbrev S4096x4x1 : Shape := ⟨3, ![4096, 4, 1]⟩
abbrev S1x1024x256 : Shape := ⟨3, ![1, 1024, 256]⟩
abbrev S1024x128 : Shape := ⟨2, ![1024, 128]⟩
abbrev S1x4096x256 : Shape := ⟨3, ![1, 4096, 256]⟩
abbrev S1024x256 : Shape := ⟨2, ![1024, 256]⟩
abbrev S4096x256 : Shape := ⟨2, ![4096, 256]⟩
abbrev S1024x1024 : Shape := ⟨2, ![1024, 1024]⟩
abbrev S1024x1 : Shape := ⟨2, ![1024, 1]⟩

abbrev nBuf : Space → Nat
  | .hbm => 62
  | .vmem => 20
  | .smem => 0
  | _ => 0

abbrev bufTy : (tb : Table) → Fin (tcTables nBuf tb) → BufTy
  | .hbm, ⟨0, _⟩ => ⟨S4096x4x192, .f32⟩
  | .hbm, ⟨1, _⟩ => ⟨S4096x4x192, .f32⟩
  | .hbm, ⟨2, _⟩ => ⟨S4096x4x128, .f32⟩
  | .hbm, ⟨3, _⟩ => ⟨S4096x4x128, .f32⟩
  | .hbm, ⟨4, _⟩ => ⟨S4096, .i32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4096x4096, .i1⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x128x4096, .f32⟩
  | .hbm, ⟨31, _⟩ => ⟨S4096x4x128, .f32⟩
  | .hbm, ⟨32, _⟩ => ⟨S4x4096x1, .f32⟩
  | .hbm, ⟨33, _⟩ => ⟨S4x4096x1, .f32⟩
  | .hbm, ⟨34, _⟩ => ⟨S4x4096, .f32⟩
  | .hbm, ⟨35, _⟩ => ⟨S4096x4, .f32⟩
  | .hbm, ⟨36, _⟩ => ⟨S4096x4x128, .f32⟩
  | .hbm, ⟨37, _⟩ => ⟨S_, .f32⟩
  | .hbm, ⟨38, _⟩ => ⟨S4096x4, .f32⟩
  | .hbm, ⟨39, _⟩ => ⟨S4x4096x192, .f32⟩
  | .hbm, ⟨40, _⟩ => ⟨S_, .i32⟩
  | .hbm, ⟨41, _⟩ => ⟨S_, .f32⟩
  | .hbm, ⟨42, _⟩ => ⟨S4x4096x256, .f32⟩
  | .hbm, ⟨43, _⟩ => ⟨S4x4096x256, .bf16⟩
  | .hbm, ⟨44, _⟩ => ⟨S4x4096x192, .f32⟩
  | .hbm, ⟨45, _⟩ => ⟨S_, .i32⟩
  | .hbm, ⟨46, _⟩ => ⟨S_, .f32⟩
  | .hbm, ⟨47, _⟩ => ⟨S4x4096x256, .f32⟩
  | .hbm, ⟨48, _⟩ => ⟨S4x4096x256, .bf16⟩
  | .hbm, ⟨49, _⟩ => ⟨S4096x512, .f32⟩
  | .hbm, ⟨50, _⟩ => ⟨S4096x512, .bf16⟩
  | .hbm, ⟨51, _⟩ => ⟨S4096x4x1, .f32⟩
  | .hbm, ⟨52, _⟩ => ⟨S4096x4x128, .f32⟩
  | .hbm, ⟨53, _⟩ => ⟨S4096x512, .f32⟩
  | .hbm, ⟨54, _⟩ => ⟨S4096x512, .f32⟩
  | .hbm, ⟨55, _⟩ => ⟨S4096x512, .bf16⟩
  | .hbm, ⟨56, _⟩ => ⟨S4096x4x1, .f32⟩
  | .hbm, ⟨57, _⟩ => ⟨S4096x4x128, .f32⟩
  | .hbm, ⟨58, _⟩ => ⟨S4096x512, .f32⟩
  | .hbm, ⟨59, _⟩ => ⟨S4x4096x256, .f32⟩
  | .hbm, ⟨60, _⟩ => ⟨S4x4096x256, .f32⟩
  | .hbm, ⟨61, _⟩ => ⟨S4096x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1x4096x256, .f32⟩
  | .local _ .vmem, ⟨13, _⟩ => ⟨S1x4096x256, .f32⟩
  | .local _ .vmem, ⟨14, _⟩ => ⟨S1x1024x256, .f32⟩
  | .local _ .vmem, ⟨15, _⟩ => ⟨S1x1024x256, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | _, _ => ⟨S4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v43_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let arg1 : BitVec 32 := BitVec.ofNat 32 (i 1).val
  let c1024_i32_3 : BitVec 32 := 1024#32
  let v10 : BitVec 32 := Scalar.muli arg1 c1024_i32_3
  let c10_i32_4 : BitVec 32 := 10#32
  let v11 : BitVec 32 := Scalar.shrsi v10 c10_i32_4
  let v12 : BitVec 1 := Scalar.cmpi .sge arg2 v11
  let c1_i32 : BitVec 32 := 1#32
  let v13 : BitVec 32 := Scalar.addi arg1 c1_i32
  let c1024_i32_5 : BitVec 32 := 1024#32
  let v14 : BitVec 32 := Scalar.muli v13 c1024_i32_5
  let c1_i32_6 : BitVec 32 := 1#32
  let v15 : BitVec 32 := Scalar.subi v14 c1_i32_6
  let c1024_i32_7 : BitVec 32 := 1024#32
  let v16 : BitVec 32 := Scalar.muli arg2 c1024_i32_7
  let v17 : BitVec 1 := Scalar.cmpi .sgt v15 v16
  let v_true : BitVec 1 := 1#1
  let v18 : BitVec 1 := Scalar.xori v17 v_true
  let v19 : BitVec 1 := Scalar.andi v12 v18
  let v20 : BitVec 32 := Scalar.extui v19
  let c0_i32_8 : BitVec 32 := 0#32
  let v21 : BitVec 1 := Scalar.cmpi .ne v20 c0_i32_8
  v21

def k0_mult1 (i : grid0.Coords) : BitVec 32 :=
  let arg2 : BitVec 32 := BitVec.ofNat 32 (i 2).val
  let c1024_i32_37 : BitVec 32 := 1024#32
  let v66 : BitVec 32 := Scalar.muli arg2 c1024_i32_37
  v66
def k0_off1 (i : grid0.Coords) : Fin 3 → Nat :=
  let c0_38 : Index := 0#32
  let arg2 : BitVec 32 := BitVec.ofNat 32 (i 2).val
  let c1024_i32_37 : BitVec 32 := 1024#32
  let v66 : BitVec 32 := Scalar.muli arg2 c1024_i32_37
  let v67 : BitVec 32 := v66
  let v68 : Index := Scalar.indexCast v67
  let c0_39 : Index := 0#32
  ![0, v68.toNat, 0]
def k0_cond4 (i : grid0.Coords) : BitVec 1 :=
  let arg2 : BitVec 32 := BitVec.ofNat 32 (i 2).val
  let arg1 : BitVec 32 := BitVec.ofNat 32 (i 1).val
  let c1024_i32_3 : BitVec 32 := 1024#32
  let v10 : BitVec 32 := Scalar.muli arg1 c1024_i32_3
  let c10_i32_4 : BitVec 32 := 10#32
  let v11 : BitVec 32 := Scalar.shrsi v10 c10_i32_4
  let v12 : BitVec 1 := Scalar.cmpi .sge arg2 v11
  let c1_i32 : BitVec 32 := 1#32
  let v13 : BitVec 32 := Scalar.addi arg1 c1_i32
  let c1024_i32_5 : BitVec 32 := 1024#32
  let v14 : BitVec 32 := Scalar.muli v13 c1024_i32_5
  let c1_i32_6 : BitVec 32 := 1#32
  let v15 : BitVec 32 := Scalar.subi v14 c1_i32_6
  let c1024_i32_7 : BitVec 32 := 1024#32
  let v16 : BitVec 32 := Scalar.muli arg2 c1024_i32_7
  let v17 : BitVec 1 := Scalar.cmpi .sgt v15 v16
  let v22 : BitVec 1 := Scalar.andi v12 v17
  let v23 : BitVec 32 := Scalar.extui v22
  let c0_i32_9 : BitVec 32 := 0#32
  let v24 : BitVec 1 := Scalar.cmpi .ne v23 c0_i32_9
  v24

def k0_mult2 (i : grid0.Coords) : BitVec 32 :=
  let arg2 : BitVec 32 := BitVec.ofNat 32 (i 2).val
  let c1024_i32_40 : BitVec 32 := 1024#32
  let v77 : BitVec 32 := Scalar.muli arg2 c1024_i32_40
  v77
def k0_off2 (i : grid0.Coords) : Fin 3 → Nat :=
  let c0_41 : Index := 0#32
  let arg2 : BitVec 32 := BitVec.ofNat 32 (i 2).val
  let c1024_i32_40 : BitVec 32 := 1024#32
  let v77 : BitVec 32 := Scalar.muli arg2 c1024_i32_40
  let v78 : BitVec 32 := v77
  let v79 : Index := Scalar.indexCast v78
  let c0_42 : Index := 0#32
  ![0, v79.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_10 : BitVec 32 := 0#32
  let v27 : BitVec 1 := Scalar.cmpi .ne v26 c0_i32_10
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c10_i32 : BitVec 32 := 10#32
  let v1 : BitVec 32 := Scalar.shrsi v0 c10_i32
  let v2 : BitVec 32 := Scalar.maxsi arg2 v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c10_i32 : BitVec 32 := 10#32
  let v1 : BitVec 32 := Scalar.shrsi v0 c10_i32
  let v2 : BitVec 32 := Scalar.maxsi arg2 v1
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c10_i32 : BitVec 32 := 10#32
  let v1 : BitVec 32 := Scalar.shrsi v0 c10_i32
  let v2 : BitVec 32 := Scalar.maxsi arg2 v1
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c10_i32 : BitVec 32 := 10#32
  let v1 : BitVec 32 := Scalar.shrsi v0 c10_i32
  let v2 : BitVec 32 := Scalar.maxsi arg2 v1
  let c0_i32 : BitVec 32 := 0#32
  ![v2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4096x4x192 : Shape := ⟨3, ![4096, 4, 192]⟩
abbrev S4096x4x128 : Shape := ⟨3, ![4096, 4, 128]⟩
abbrev S4096 : Shape := ⟨1, ![4096]⟩
abbrev S4x4096x4096 : Shape := ⟨3, ![4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x192 : Shape := ⟨3, ![4, 4096, 192]⟩
abbrev S4x4096x256 : Shape := ⟨3, ![4, 4096, 256]⟩
abbrev S4096x512 : Shape := ⟨2, ![4096, 512]⟩

abbrev nBuf : Space → Nat
  | .hbm => 99
  | .vmem => 0
  | .smem => 0
  | _ => 0

abbrev bufTy : (tb : Table) → Fin (tcTables nBuf tb) → BufTy
  | .hbm, ⟨0, _⟩ => ⟨S4096x4x192, .f32⟩
  | .hbm, ⟨1, _⟩ => ⟨S4096x4x192, .f32⟩
  | .hbm, ⟨2, _⟩ => ⟨S4096x4x128, .f32⟩
  | .hbm, ⟨3, _⟩ => ⟨S4096x4x128, .f32⟩
  | .hbm, ⟨4, _⟩ => ⟨S4096, .i32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4x4096x4096, .i1⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .i1⟩
  | .hbm, ⟨36, _⟩ => ⟨S_, .f32⟩
  | .hbm, ⟨37, _⟩ => ⟨S4x4096, .f32⟩
  | .hbm, ⟨38, _⟩ => ⟨S4x4096, .i1⟩
  | .hbm, ⟨39, _⟩ => ⟨S_, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S4x4096, .f32⟩
  | .hbm, ⟨46, _⟩ => ⟨S4x4096, .f32⟩
  | .hbm, ⟨47, _⟩ => ⟨S4x4096x1, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S4x4096x4096, .f32⟩
  | .hbm, ⟨55, _⟩ => ⟨S4x4096x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x128x4096, .f32⟩
  | .hbm, ⟨61, _⟩ => ⟨S4096x4x128, .f32⟩
  | .hbm, ⟨62, _⟩ => ⟨S4x128x4096, .f32⟩
  | .hbm, ⟨63, _⟩ => ⟨S4x4096x4096, .f32⟩
  | .hbm, ⟨64, _⟩ => ⟨S4x128x4096, .f32⟩
  | .hbm, ⟨65, _⟩ => ⟨S4096x4x128, .f32⟩
  | .hbm, ⟨66, _⟩ => ⟨S4x4096x4096, .f32⟩
  | .hbm, ⟨67, _⟩ => ⟨S4x4096x4096, .f32⟩
  | .hbm, ⟨68, _⟩ => ⟨S4x4096x4096, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S4x4096x1, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096, .f32⟩
  | .hbm, ⟨77, _⟩ => ⟨S4x4096x4096, .f32⟩
  | .hbm, ⟨78, _⟩ => ⟨S4x4096x4096, .f32⟩
  | .hbm, ⟨79, _⟩ => ⟨S4x4096x4096, .f32⟩
  | .hbm, ⟨80, _⟩ => ⟨S_, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096x4096, .f32⟩
  | .hbm, ⟨85, _⟩ => ⟨S4x4096x4096, .f32⟩
  | .hbm, ⟨86, _⟩ => ⟨S4x4096x192, .f32⟩
  | .hbm, ⟨87, _⟩ => ⟨S4096x4x192, .f32⟩
  | .hbm, ⟨88, _⟩ => ⟨S4x4096x192, .f32⟩
  | .hbm, ⟨89, _⟩ => ⟨S4096x4x192, .f32⟩
  | .hbm, ⟨90, _⟩ => ⟨S4x4096x192, .f32⟩
  | .hbm, ⟨91, _⟩ => ⟨S_, .i32⟩
  | .hbm, ⟨92, _⟩ => ⟨S_, .f32⟩
  | .hbm, ⟨93, _⟩ => ⟨S4x4096x256, .f32⟩
  | .hbm, ⟨94, _⟩ => ⟨S4x4096x192, .f32⟩
  | .hbm, ⟨95, _⟩ => ⟨S_, .i32⟩
  | .hbm, ⟨96, _⟩ => ⟨S_, .f32⟩
  | .hbm, ⟨97, _⟩ => ⟨S4x4096x256, .f32⟩
  | .hbm, ⟨98, _⟩ => ⟨S4096x512, .f32⟩
  | _, _ => ⟨S4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Mixer.lean ====
abbrev S4096x1024 : Shape := ⟨2, ![4096, 1024]⟩
abbrev S1024x4096 : Shape := ⟨2, ![1024, 4096]⟩
abbrev S1024 : Shape := ⟨1, ![1024]⟩
abbrev S2x512x4x1024 : Shape := ⟨4, ![2, 512, 4, 1024]⟩
abbrev S4x2x512x1024 : Shape := ⟨4, ![4, 2, 512, 1024]⟩
abbrev S4096x4096 : Shape := ⟨2, ![4096, 4096]⟩
abbrev S2048x1024 : Shape := ⟨2, ![2048, 1024]⟩
abbrev S1x2x512x1024 : Shape := ⟨4, ![1, 2, 512, 1024]⟩
abbrev S2x512x1024 : Shape := ⟨3, ![2, 512, 1024]⟩
abbrev S1024x1024 : Shape := ⟨2, ![1024, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩

abbrev nBuf : Space → Nat
  | .hbm => 22
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S2x512x4x1024, .f32⟩
  | .hbm, ⟨9, _⟩ => ⟨S4x2x512x1024, .f32⟩
  | .hbm, ⟨10, _⟩ => ⟨S4x2x512x1024, .bf16⟩
  | .hbm, ⟨11, _⟩ => ⟨S4096x1024, .bf16⟩
  | .hbm, ⟨12, _⟩ => ⟨S4096x4096, .bf16⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .f32⟩
  | .hbm, ⟨19, _⟩ => ⟨S4096x4096, .bf16⟩
  | .hbm, ⟨20, _⟩ => ⟨S4x2x512x1024, .f32⟩
  | .hbm, ⟨21, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2x512x1024, .bf16⟩
  | .local _ .vmem, ⟨3, _⟩ => ⟨S1x2x512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x4096, .bf16⟩
  | .local _ .vmem, ⟨7, _⟩ => ⟨S512x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S2048x1024, .bf16⟩
  | .local _ .vmem, ⟨27, _⟩ => ⟨S2048x1024, .bf16⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S4096x1024, .bf16⟩
  | .local _ .vmem, ⟨33, _⟩ => ⟨S4096x1024, .bf16⟩
  | .local _ .vmem, ⟨34, _⟩ => ⟨S4096x1024, .bf16⟩
  | .local _ .vmem, ⟨35, _⟩ => ⟨S1x2x512x1024, .f32⟩
  | .local _ .vmem, ⟨36, _⟩ => ⟨S1x2x512x1024, .f32⟩
  | .local _ .vmem, ⟨37, _⟩ => ⟨S512x4096, .bf16⟩
  | .local _ .vmem, ⟨38, _⟩ => ⟨S512x4096, .bf16⟩
  | .local _ .vmem, ⟨39, _⟩ => ⟨S4x2x512x1024, .bf16⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem1_0 : DmaSem sig := 33
abbrev cc4_sem1_1 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x2x512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S4x2x512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== MixerReferenceIdeal.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x512x4x1024 : Shape := ⟨4, ![2, 512, 4, 1024]⟩
abbrev S4x2x512x1024 : Shape := ⟨4, ![4, 2, 512, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S1024x4096, .f32⟩
  | .hbm, ⟨30, _⟩ => ⟨S4096x1024, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S1024x4096, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S2x512x4x1024, .f32⟩
  | .hbm, ⟨70, _⟩ => ⟨S4x2x512x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Projections.lean ====
abbrev S4096x1024 : Shape := ⟨2, ![4096, 1024]⟩
abbrev S1024x2048 : Shape := ⟨2, ![1024, 2048]⟩
abbrev S1024x1024 : Shape := ⟨2, ![1024, 1024]⟩
abbrev S1024 : Shape := ⟨1, ![1024]⟩
abbrev S4096x2048 : Shape := ⟨2, ![4096, 2048]⟩
abbrev S1x1024 : Shape := ⟨2, ![1, 1024]⟩
abbrev S1024x1 : Shape := ⟨2, ![1024, 1]⟩

abbrev nBuf : Space → Nat
  | .hbm => 22
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4096x2048, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x2048, .bf16⟩
  | .hbm, ⟨11, _⟩ => ⟨S4096x1024, .bf16⟩
  | .hbm, ⟨12, _⟩ => ⟨S1024x2048, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .f32⟩
  | .hbm, ⟨20, _⟩ => ⟨S1024x2048, .f32⟩
  | .hbm, ⟨21, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S4096x1024, .bf16⟩
  | .local _ .vmem, ⟨19, _⟩ => ⟨S4096x1024, .bf16⟩
  | .local _ .vmem, ⟨20, _⟩ => ⟨S4096x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x2048, .bf16⟩
  | .local _ .vmem, ⟨24, _⟩ => ⟨S1024x2048, .bf16⟩
  | .local _ .vmem, ⟨25, _⟩ => ⟨S1024x2048, .bf16⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== ProjectionsReferenceIdeal.lean ====
abbrev S4096x1024 : Shape := ⟨2, ![4096, 1024]⟩
abbrev S1024x2048 : Shape := ⟨2, ![1024, 2048]⟩
abbrev S1024x1024 : Shape := ⟨2, ![1024, 1024]⟩
abbrev S1024 : Shape := ⟨1, ![1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2048x1024 : Shape := ⟨2, ![2048, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2048, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S4096x2048, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S2048x1024, .f32⟩
  | .hbm, ⟨50, _⟩ => ⟨S1024x2048, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Optimiser.lean ====
abbrev S4096x496 : Shape := ⟨2, ![4096, 496]⟩
abbrev S1024x192 : Shape := ⟨2, ![1024, 192]⟩
abbrev S512x256 : Shape := ⟨2, ![512, 256]⟩
abbrev S1024x1024 : Shape := ⟨2, ![1024, 1024]⟩
abbrev S4096x1024 : Shape := ⟨2, ![4096, 1024]⟩
abbrev S176x128 : Shape := ⟨2, ![176, 128]⟩
abbrev S512x496 : Shape := ⟨2, ![512, 496]⟩
abbrev S512x192 : Shape := ⟨2, ![512, 192]⟩
abbrev S512x1024 : Shape := ⟨2, ![512, 1024]⟩

abbrev nBuf : Space → Nat
  | .hbm => 49
  | .vmem => 84
  | .smem => 0
  | _ => 0

abbrev bufTy : (tb : Table) → Fin (tcTables nBuf tb) → BufTy
  | .hbm, ⟨0, _⟩ => ⟨S4096x496, .f32⟩
  | .hbm, ⟨1, _⟩ => ⟨S4096x496, .f32⟩
  | .hbm, ⟨2, _⟩ => ⟨S4096x496, .f32⟩
  | .hbm, ⟨3, _⟩ => ⟨S4096x496, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S176x128, .f32⟩
  | .hbm, ⟨25, _⟩ => ⟨S176x128, .f32⟩
  | .hbm, ⟨26, _⟩ => ⟨S176x128, .f32⟩
  | .hbm, ⟨27, _⟩ => ⟨S176x128, .f32⟩
  | .hbm, ⟨28, _⟩ => ⟨S4096x496, .f32⟩
  | .hbm, ⟨29, _⟩ => ⟨S4096x496, .f32⟩
  | .hbm, ⟨30, _⟩ => ⟨S4096x496, .f32⟩
  | .hbm, ⟨31, _⟩ => ⟨S1024x192, .f32⟩
  | .hbm, ⟨32, _⟩ => ⟨S1024x192, .f32⟩
  | .hbm, ⟨33, _⟩ => ⟨S1024x192, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S176x128, .f32⟩
  | .hbm, ⟨47, _⟩ => ⟨S176x128, .f32⟩
  | .hbm, ⟨48, _⟩ => ⟨S176x128, .f32⟩
  | .local _ .vmem, ⟨0, _⟩ => ⟨S512x496, .f32⟩
  | .local _ .vmem, ⟨1, _⟩ => ⟨S512x496, .f32⟩
  | .local _ .vmem, ⟨2, _⟩ => ⟨S512x496, .f32⟩
  | .local _ .vmem, ⟨3, _⟩ => ⟨S512x496, .f32⟩
  | .local _ .vmem, ⟨4, _⟩ => ⟨S512x496, .f32⟩
  | .local _ .vmem, ⟨5, _⟩ => ⟨S512x496, .f32⟩
  | .local _ .vmem, ⟨6, _⟩ => ⟨S512x496, .f32⟩
  | .local _ .vmem, ⟨7, _⟩ => ⟨S512x496, .f32⟩
  | .local _ .vmem, ⟨8, _⟩ => ⟨S512x496, .f32⟩
  | .local _ .vmem, ⟨9, _⟩ => ⟨S512x496, .f32⟩
  | .local _ .vmem, ⟨10, _⟩ => ⟨S512x496, .f32⟩
  | .local _ .vmem, ⟨11, _⟩ => ⟨S512x496, .f32⟩
  | .local _ .vmem, ⟨12, _⟩ => ⟨S512x496, .f32⟩
  | .local _ .vmem, ⟨13, _⟩ => ⟨S512x496, .f32⟩
  | .local _ .vmem, ⟨14, _⟩ => ⟨S512x192, .f32⟩
  | .local _ .vmem, ⟨15, _⟩ => ⟨S512x192, .f32⟩
  | .local _ .vmem, ⟨16, _⟩ => ⟨S512x192, .f32⟩
  | .local _ .vmem, ⟨17, _⟩ => ⟨S512x192, .f32⟩
  | .local _ .vmem, ⟨18, _⟩ => ⟨S512x192, .f32⟩
  | .local _ .vmem, ⟨19, _⟩ => ⟨S512x192, .f32⟩
  | .local _ .vmem, ⟨20, _⟩ => ⟨S512x192, .f32⟩
  | .local _ .vmem, ⟨21, _⟩ => ⟨S512x192, .f32⟩
  | .local _ .vmem, ⟨22, _⟩ => ⟨S512x192, .f32⟩
  | .local _ .vmem, ⟨23, _⟩ => ⟨S512x192, .f32⟩
  | .local _ .vmem, ⟨24, _⟩ => ⟨S512x192, .f32⟩
  | .local _ .vmem, ⟨25, _⟩ => ⟨S512x192, .f32⟩
  | .local _ .vmem, ⟨26, _⟩ => ⟨S512x192, .f32⟩
  | .local _ .vmem, ⟨27, _⟩ => ⟨S512x192, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S512x1024, .f32⟩
  | .local _ .vmem, ⟨76, _⟩ => ⟨S512x1024, .f32⟩
  | .local _ .vmem, ⟨77, _⟩ => ⟨S176x128, .f32⟩
  | .local _ .vmem, ⟨78, _⟩ => ⟨S176x128, .f32⟩
  | .local _ .vmem, ⟨79, _⟩ => ⟨S176x128, .f32⟩
  | .local _ .vmem, ⟨80, _⟩ => ⟨S176x128, .f32⟩
  | .local _ .vmem, ⟨81, _⟩ => ⟨S176x128, .f32⟩
  | .local _ .vmem, ⟨82, _⟩ => ⟨S176x128, .f32⟩
  | .local _ .vmem, ⟨83, _⟩ => ⟨S176x128, .f32⟩
  | _, _ => ⟨S4096x496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1_0 : Ref sig .tc := ⟨.hbm, 31, rfl⟩
abbrev main_v1_1 : Ref sig .tc := ⟨.hbm, 32, rfl⟩
abbrev main_v1_2 : Ref sig .tc := ⟨.hbm, 33, rfl⟩
abbrev main_v2_0 : Ref sig .tc := ⟨.hbm, 34, rfl⟩
abbrev main_v2_1 : Ref sig .tc := ⟨.hbm, 35, rfl⟩
abbrev main_v2_2 : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v6_0 : Ref sig .tc := ⟨.hbm, 46, rfl⟩
abbrev main_v6_1 : Ref sig .tc := ⟨.hbm, 47, rfl⟩
abbrev main_v6_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg1_1 : Ref sig .tc := ⟨.vmem, 52, rfl⟩
abbrev cc4_stg2_0 : Ref sig .tc := ⟨.vmem, 53, rfl⟩
abbrev cc4_stg2_1 : Ref sig .tc := ⟨.vmem, 54, rfl⟩
abbrev cc4_stg3_0 : Ref sig .tc := ⟨.vmem, 55, rfl⟩
abbrev cc4_stg3_1 : Ref sig .tc := ⟨.vmem, 56, rfl⟩
abbrev cc4_stg4_0 : Ref sig .tc := ⟨.vmem, 57, rfl⟩
abbrev cc4_stg4_1 : Ref sig .tc := ⟨.vmem, 58, rfl⟩
abbrev cc4_stg5_0 : Ref sig .tc := ⟨.vmem, 59, rfl⟩
abbrev cc4_stg5_1 : Ref sig .tc := ⟨.vmem, 60, rfl⟩
abbrev cc4_stg6_0 : Ref sig .tc := ⟨.vmem, 61, rfl⟩
abbrev cc4_stg6_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc5_stg3_0 : Ref sig .tc := ⟨.vmem, 69, rfl⟩
abbrev cc5_stg3_1 : Ref sig .tc := ⟨.vmem, 70, rfl⟩
abbrev cc5_stg4_0 : Ref sig .tc := ⟨.vmem, 71, rfl⟩
abbrev cc5_stg4_1 : Ref sig .tc := ⟨.vmem, 72, rfl⟩
abbrev cc5_stg5_0 : Ref sig .tc := ⟨.vmem, 73, rfl⟩
abbrev cc5_stg5_1 : Ref sig .tc := ⟨.vmem, 74, rfl⟩
abbrev cc5_stg6_0 : Ref sig .tc := ⟨.vmem, 75, rfl⟩
abbrev cc5_stg6_1 : Ref sig .tc := ⟨.vmem, 76, rfl⟩
abbrev cc6_stg0_0 : Ref sig .tc := ⟨.vmem, 77, rfl⟩
abbrev cc6_stg1_0 : Ref sig .tc := ⟨.vmem, 78, rfl⟩
abbrev cc6_stg2_0 : Ref sig .tc := ⟨.vmem, 79, rfl⟩
abbrev cc6_stg3_0 : Ref sig .tc := ⟨.vmem, 80, rfl⟩
abbrev cc6_stg4_0 : Ref sig .tc := ⟨.vmem, 81, rfl⟩
abbrev cc6_stg5_0 : Ref sig .tc := ⟨.vmem, 82, rfl⟩
abbrev cc6_stg6_0 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48
abbrev cc4_sem0_0 : DmaSem sig := 49
abbrev cc4_sem0_1 : DmaSem sig := 50
abbrev cc4_sem1_0 : DmaSem sig := 51
abbrev cc4_sem1_1 : DmaSem sig := 52
abbrev cc4_sem2_0 : DmaSem sig := 53
abbrev cc4_sem2_1 : DmaSem sig := 54
abbrev cc4_sem3_0 : DmaSem sig := 55
abbrev cc4_sem3_1 : DmaSem sig := 56
abbrev cc4_sem4_0 : DmaSem sig := 57
abbrev cc4_sem4_1 : DmaSem sig := 58
abbrev cc4_sem5_0 : DmaSem sig := 59
abbrev cc4_sem5_1 : DmaSem sig := 60
abbrev cc4_sem6_0 : DmaSem sig := 61
abbrev cc4_sem6_1 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem2_1 : DmaSem sig := 68
abbrev cc5_sem3_0 : DmaSem sig := 69
abbrev cc5_sem3_1 : DmaSem sig := 70
abbrev cc5_sem4_0 : DmaSem sig := 71
abbrev cc5_sem4_1 : DmaSem sig := 72
abbrev cc5_sem5_0 : DmaSem sig := 73
abbrev cc5_sem5_1 : DmaSem sig := 74
abbrev cc5_sem6_0 : DmaSem sig := 75
abbrev cc5_sem6_1 : DmaSem sig := 76
abbrev cc6_sem0_0 : DmaSem sig := 77
abbrev cc6_sem1_0 : DmaSem sig := 78
abbrev cc6_sem2_0 : DmaSem sig := 79
abbrev cc6_sem3_0 : DmaSem sig := 80
abbrev cc6_sem4_0 : DmaSem sig := 81
abbrev cc6_sem5_0 : DmaSem sig := 82
abbrev cc6_sem6_0 : DmaSem sig := 83

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x496 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x496 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x496 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x496 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x496 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x496 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x496 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S512x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S176x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S176x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S176x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S176x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S176x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S176x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S176x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== OptimiserReferenceIdeal.lean ====
abbrev S4096x496 : Shape := ⟨2, ![4096, 496]⟩
abbrev S1024x192 : Shape := ⟨2, ![1024, 192]⟩
abbrev S512x256 : Shape := ⟨2, ![512, 256]⟩
abbrev S1024x1024 : Shape := ⟨2, ![1024, 1024]⟩
abbrev S4096x1024 : Shape := ⟨2, ![4096, 1024]⟩
abbrev S176x128 : Shape := ⟨2, ![176, 128]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S4096x496, .f32⟩
  | 1 => ⟨S4096x496, .f32⟩
  | 2 => ⟨S4096x496, .f32⟩
  | 3 => ⟨S4096x496, .f32⟩
  | 4 => ⟨S1024x192, .f32⟩
  | 5 => ⟨S1024x192, .f32⟩
  | 6 => ⟨S1024x192, .f32⟩
  | 7 => ⟨S1024x192, .f32⟩
  | 8 => ⟨S512x256, .f32⟩
  | 9 => ⟨S512x256, .f32⟩
  | 10 => ⟨S512x256, .f32⟩
  | 11 => ⟨S512x256, .f32⟩
  | 12 => ⟨S1024x1024, .f32⟩
  | 13 => ⟨S1024x1024, .f32⟩
  | 14 => ⟨S1024x1024, .f32⟩
  | 15 => ⟨S1024x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S176x128, .f32⟩
  | 25 => ⟨S176x128, .f32⟩
  | 26 => ⟨S176x128, .f32⟩
  | 27 => ⟨S176x128, .f32⟩
  | 28 => ⟨S_, .f32⟩
  | 29 => ⟨S4096x496, .f32⟩
  | 30 => ⟨S4096x496, .f32⟩
  | 31 => ⟨S_, .f32⟩
  | 32 => ⟨S4096x496, .f32⟩
  | 33 => ⟨S4096x496, .f32⟩
  | 34 => ⟨S4096x496, .f32⟩
  | 35 => ⟨S_, .f32⟩
  | 36 => ⟨S4096x496, .f32⟩
  | 37 => ⟨S4096x496, .f32⟩
  | 38 => ⟨S4096x496, .f32⟩
  | 39 => ⟨S_, .f32⟩
  | 40 => ⟨S4096x496, .f32⟩
  | 41 => ⟨S4096x496, .f32⟩
  | 42 => ⟨S4096x496, .f32⟩
  | 43 => ⟨S_, .f32⟩
  | 44 => ⟨S4096x496, .f32⟩
  | 45 => ⟨S4096x496, .f32⟩
  | 46 => ⟨S_, .f32⟩
  | 47 => ⟨S4096x496, .f32⟩
  | 48 => ⟨S4096x496, .f32⟩
  | 49 => ⟨S4096x496, .f32⟩
  | 50 => ⟨S_, .f32⟩
  | 51 => ⟨S4096x496, .f32⟩
  | 52 => ⟨S4096x496, .f32⟩
  | 53 => ⟨S4096x496, .f32⟩
  | 54 => ⟨S_, .f32⟩
  | 55 => ⟨S4096x496, .f32⟩
  | 56 => ⟨S4096x496, .f32⟩
  | 57 => ⟨S4096x496, .f32⟩
  | 58 => ⟨S_, .f32⟩
  | 59 => ⟨S4096x496, .f32⟩
  | 60 => ⟨S4096x496, .f32⟩
  | 61 => ⟨S_, .f32⟩
  | 62 => ⟨S1024x192, .f32⟩
  | 63 => ⟨S1024x192, .f32⟩
  | 64 => ⟨S_, .f32⟩
  | 65 => ⟨S1024x192, .f32⟩
  | 66 => ⟨S1024x192, .f32⟩
  | 67 => ⟨S1024x192, .f32⟩
  | 68 => ⟨S_, .f32⟩
  | 69 => ⟨S1024x192, .f32⟩
  | 70 => ⟨S1024x192, .f32⟩
  | 71 => ⟨S1024x192, .f32⟩
  | 72 => ⟨S_, .f32⟩
  | 73 => ⟨S1024x192, .f32⟩
  | 74 => ⟨S1024x192, .f32⟩
  | 75 => ⟨S1024x192, .f32⟩
  | 76 => ⟨S_, .f32⟩
  | 77 => ⟨S1024x192, .f32⟩
  | 78 => ⟨S1024x192, .f32⟩
  | 79 => ⟨S_, .f32⟩
  | 80 => ⟨S1024x192, .f32⟩
  | 81 => ⟨S1024x192, .f32⟩
  | 82 => ⟨S1024x192, .f32⟩
  | 83 => ⟨S_, .f32⟩
  | 84 => ⟨S1024x192, .f32⟩
  | 85 => ⟨S1024x192, .f32⟩
  | 86 => ⟨S1024x192, .f32⟩
  | 87 => ⟨S_, .f32⟩
  | 88 => ⟨S1024x192, .f32⟩
  | 89 => ⟨S1024x192, .f32⟩
  | 90 => ⟨S1024x192, .f32⟩
  | 91 => ⟨S_, .f32⟩
  | 92 => ⟨S1024x192, .f32⟩
  | 93 => ⟨S1024x192, .f32⟩
  | 94 => ⟨S_, .f32⟩
  | 95 => ⟨S512x256, .f32⟩
  | 96 => ⟨S512x256, .f32⟩
  | 97 => ⟨S_, .f32⟩
  | 98 => ⟨S512x256, .f32⟩
  | 99 => ⟨S512x256, .f32⟩
  | 100 => ⟨S512x256, .f32⟩
  | 101 => ⟨S_, .f32⟩
  | 102 => ⟨S512x256, .f32⟩
  | 103 => ⟨S512x256, .f32⟩
  | 104 => ⟨S512x256, .f32⟩
  | 105 => ⟨S_, .f32⟩
  | 106 => ⟨S512x256, .f32⟩
  | 107 => ⟨S512x256, .f32⟩
  | 108 => ⟨S512x256, .f32⟩
  | 109 => ⟨S_, .f32⟩
  | 110 => ⟨S512x256, .f32⟩
  | 111 => ⟨S512x256, .f32⟩
  | 112 => ⟨S_, .f32⟩
  | 113 => ⟨S512x256, .f32⟩
  | 114 => ⟨S512x256, .f32⟩
  | 115 => ⟨S512x256, .f32⟩
  | 116 => ⟨S_, .f32⟩
  | 117 => ⟨S512x256, .f32⟩
  | 118 => ⟨S512x256, .f32⟩
  | 119 => ⟨S512x256, .f32⟩
  | 120 => ⟨S_, .f32⟩
  | 121 => ⟨S512x256, .f32⟩
  | 122 => ⟨S512x256, .f32⟩
  | 123 => ⟨S512x256, .f32⟩
  | 124 => ⟨S_, .f32⟩
  | 125 => ⟨S512x256, .f32⟩
  | 126 => ⟨S512x256, .f32⟩
  | 127 => ⟨S_, .f32⟩
  | _ => ⟨S4096x496, .f32⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S_, .f32⟩
  | 7 => ⟨S1024x1024, .f32⟩
  | 8 => ⟨S1024x1024, .f32⟩
  | 9 => ⟨S1024x1024, .f32⟩
  | 10 => ⟨S_, .f32⟩
  | 11 => ⟨S1024x1024, .f32⟩
  | 12 => ⟨S1024x1024, .f32⟩
  | 13 => ⟨S1024x1024, .f32⟩
  | 14 => ⟨S_, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S1024x1024, .f32⟩
  | 25 => ⟨S_, .f32⟩
  | 26 => ⟨S1024x1024, .f32⟩
  | 27 => ⟨S1024x1024, .f32⟩
  | 28 => ⟨S1024x1024, .f32⟩
  | 29 => ⟨S_, .f32⟩
  | 30 => ⟨S1024x1024, .f32⟩
  | 31 => ⟨S1024x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S_, .f32⟩
  | 99 => ⟨S176x128, .f32⟩
  | 100 => ⟨S176x128, .f32⟩
  | 101 => ⟨S_, .f32⟩
  | 102 => ⟨S176x128, .f32⟩
  | 103 => ⟨S176x128, .f32⟩
  | 104 => ⟨S176x128, .f32⟩
  | 105 => ⟨S_, .f32⟩
  | 106 => ⟨S176x128, .f32⟩
  | 107 => ⟨S176x128, .f32⟩
  | 108 => ⟨S176x128, .f32⟩
  | 109 => ⟨S_, .f32⟩
  | 110 => ⟨S176x128, .f32⟩
  | 111 => ⟨S176x128, .f32⟩
  | 112 => ⟨S176x128, .f32⟩
  | 113 => ⟨S_, .f32⟩
  | 114 => ⟨S176x128, .f32⟩
  | 115 => ⟨S176x128, .f32⟩
  | 116 => ⟨S_, .f32⟩
  | 117 => ⟨S176x128, .f32⟩
  | 118 => ⟨S176x128, .f32⟩
  | 119 => ⟨S176x128, .f32⟩
  | 120 => ⟨S_, .f32⟩
  | 121 => ⟨S176x128, .f32⟩
  | 122 => ⟨S176x128, .f32⟩
  | 123 => ⟨S176x128, .f32⟩
  | 124 => ⟨S_, .f32⟩
  | 125 => ⟨S176x128, .f32⟩
  | 126 => ⟨S176x128, .f32⟩
  | 127 => ⟨S176x128, .f32⟩
  | _ => ⟨S4096x496, .f32⟩

abbrev hbmTy0_2 (i : Nat) : BufTy := match i % 128 with
  | 0 => ⟨S_, .f32⟩
  | 1 => ⟨S176x128, .f32⟩
  | 2 => ⟨S176x128, .f32⟩
  | _ => ⟨S4096x496, .f32⟩

abbrev hbmTy (i : Nat) : BufTy := match i / 128 with
  | 0 => hbmTy0_0 i
  | 1 => hbmTy0_1 i
  | 2 => hbmTy0_2 i
  | _ => ⟨S4096x496, .f32⟩

abbrev bufTy : (tb : Table) → Fin (tcTables nBuf tb) → BufTy
  | .hbm, ⟨i, _⟩ => hbmTy i
  | _, _ => ⟨S4096x496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Proof.Ideal.Step.lean ====
/- What one grid point of the attention's backward kernel does, as functions of vectors.

   The kernel runs over (head, key tile j, query tile i). Between points it carries three arrays: the gradients of
   the keys and of the values of the tile j (two scratch buffers) and the gradient of the queries of the whole head (the
   staging buffer of its output, resident for all the points of a head). `Acc` holds the three, `Blk` the six
   input blocks of a point; `step` is the point's effect on `Acc`, one factor per guarded part of the body. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.Pipeline.TableIdle
public import Idealize.ShloMosaic.Lib.VecWindow

@[expose] public section

set_option maxRecDepth 16384

noncomputable section

namespace Cert.KernelIdeal.Bwd

open Idealize.ShloMosaic Idealize.ShloMosaic.TcCoe Idealize.ShloMosaic.Tactic
open Cert.KernelIdeal Cert.KernelIdeal.Gen

variable {F : FTy → Type} [FloatOps F] [Named F]

/-- The six input blocks of a point: query and key rows, value rows, the softmax's log normalisers, the output's
    gradient, and the row sums of gradient times output. -/
structure Blk (F : FTy → Type) where
  q : Vec F S1x1024x256 .bf16
  k : Vec F S1x1024x256 .bf16
  v : Vec F S1024x128 .bf16
  lse : Vec F S1024x128 .f32
  ct : Vec F S1024x128 .bf16
  dl : Vec F S1024x128 .f32

/-- What the points hand on: the key and value gradients of the current key tile, the query gradient of the head. -/
structure Acc (F : FTy → Type) where
  dk : Vec F S1024x256 .f32
  dv : Vec F S1024x128 .f32
  dq : Vec F S1x4096x256 .f32

/-- The first column of a block of 128 equal lanes: what the body loads of `lse` and of `dl`. -/
def col (x : Vec F S1024x128 .f32) : Vec F S1024x1 .f32 :=
  VecWindow.window x ![0, 0] S1024x1.size inb_S1024x128_S1024x1_0_0

/-- The point opens a key tile: its query tile is the first one the tile's keys reach. -/
abbrev Opens (i : grid0.Coords) : Prop :=
  Scalar.cmpi .ne (Scalar.extui (Scalar.cmpi .eq (BitVec.ofNat 32 (i 2).val)
    (Scalar.shrsi (Scalar.muli (BitVec.ofNat 32 (i 1).val) 1024#32) 10#32))) 0#32 = 1#1

/-- The rows of the query tile in the head's query gradient start here. -/
def rowOff (i : grid0.Coords) : Fin 3 → ℕ := ![0, 1024 * (i 2).val, 0]

theorem rowOff_inb (i : grid0.Coords) : ∀ a, rowOff i a + S1x1024x256.size a ≤ S1x4096x256.size a := by
  intro a
  have h : (i 2).val < 4 := (i 2).isLt
  fin_cases a
  · exact Nat.le_refl 1
  · show 1024 * (i 2).val + 1024 ≤ 4096
    omega
  · exact Nat.le_refl 256

/-- The first point of a head clears the query gradient. -/
def clearDq (i : grid0.Coords) (s : Acc F) : Acc F :=
  if k0_cond1 i = 1#1 then { s with dq := k0_pay1 } else s

/-- The first point of a key tile clears the tile's key and value gradients. -/
def clearDkv (i : grid0.Coords) (s : Acc F) : Acc F :=
  if Opens i then { s with dk := k0_pay2, dv := k0_pay3 } else s

/-- A tile below the diagonal: every score counts. -/
def below (i : grid0.Coords) (b : Blk F) (s : Acc F) : Acc F :=
  { dk := k0_pay4 (k0_pay10 b.q) (k0_pay14 b.q b.k b.ct (col b.lse) b.v (col b.dl)) s.dk (constant S1024x256 .f32 0x00000000#32)
    dv := k0_pay15 b.q b.k b.ct (col b.lse) s.dv
    dq := VecWindow.put s.dq (rowOff i) S1x1024x256.size
      (k0_pay5 (k0_pay11 b.k) (k0_pay14 b.q b.k b.ct (col b.lse) b.v (col b.dl))
        (VecWindow.window s.dq (rowOff i) S1x1024x256.size (rowOff_inb i))) }

/-- A tile the diagonal crosses: the scores above it are masked. -/
def crossing (i : grid0.Coords) (b : Blk F) (s : Acc F) : Acc F :=
  { dk := k0_pay7 (k0_pay16 b.q) (k0_pay20 (BitVec.ofNat 32 (i 1).val) (BitVec.ofNat 32 (i 2).val) b.q b.k b.ct (col b.lse) b.v (col b.dl)) s.dk
    dv := k0_pay6 (k0_pay18 b.ct) (k0_pay19 (BitVec.ofNat 32 (i 1).val) (BitVec.ofNat 32 (i 2).val) b.q b.k (col b.lse)) s.dv
    dq := VecWindow.put s.dq (rowOff i) S1x1024x256.size
      (k0_pay8 (k0_pay17 b.k) (k0_pay20 (BitVec.ofNat 32 (i 1).val) (BitVec.ofNat 32 (i 2).val) b.q b.k b.ct (col b.lse) b.v (col b.dl))
        (VecWindow.window s.dq (rowOff i) S1x1024x256.size (rowOff_inb i))) }

/-- The tile's contribution: none above the diagonal. -/
def accum (i : grid0.Coords) (b : Blk F) (s : Acc F) : Acc F :=
  if k0_cond3 i = 1#1 then below i b s else if k0_cond4 i = 1#1 then crossing i b s else s

/-- One point. -/
def step (i : grid0.Coords) (b : Blk F) (s : Acc F) : Acc F := accum i b (clearDkv i (clearDq i s))

/-- The six ways the five guards of the body fall at a point: which of "head opens", "key tile opens", "below the
    diagonal", "on the diagonal", "key tile closes" hold. -/
inductive Case (i : grid0.Coords) : Prop
  | first (h1 : k0_cond1 i = 1#1) (h2 : Opens i) (h3 : ¬k0_cond3 i = 1#1) (h4 : k0_cond4 i = 1#1) (h5 : ¬k0_cond5 i = 1#1)
  | diag (h1 : ¬k0_cond1 i = 1#1) (h2 : Opens i) (h3 : ¬k0_cond3 i = 1#1) (h4 : k0_cond4 i = 1#1) (h5 : ¬k0_cond5 i = 1#1)
  | corner (h1 : ¬k0_cond1 i = 1#1) (h2 : Opens i) (h3 : ¬k0_cond3 i = 1#1) (h4 : k0_cond4 i = 1#1) (h5 : k0_cond5 i = 1#1)
  | inner (h1 : ¬k0_cond1 i = 1#1) (h2 : ¬Opens i) (h3 : k0_cond3 i = 1#1) (h4 : ¬k0_cond4 i = 1#1) (h5 : ¬k0_cond5 i = 1#1)
  | last (h1 : ¬k0_cond1 i = 1#1) (h2 : ¬Opens i) (h3 : k0_cond3 i = 1#1) (h4 : ¬k0_cond4 i = 1#1) (h5 : k0_cond5 i = 1#1)
  | above (h1 : ¬k0_cond1 i = 1#1) (h2 : ¬Opens i) (h3 : ¬k0_cond3 i = 1#1) (h4 : ¬k0_cond4 i = 1#1) (h5 : ¬k0_cond5 i = 1#1)

/-- The guards in closed form at grid point `t`, which is head `t / 16`, key tile `t / 4 % 4`, query tile `t % 4`. -/
theorem guards : ∀ t : Fin cfg0.N,
    (k0_cond1 (grid0.coords t) = 1#1 ↔ t.val % 16 = 0) ∧ (Opens (grid0.coords t) ↔ t.val / 4 % 4 = t.val % 4)
      ∧ (k0_cond3 (grid0.coords t) = 1#1 ↔ t.val / 4 % 4 < t.val % 4) ∧ (k0_cond4 (grid0.coords t) = 1#1 ↔ t.val / 4 % 4 = t.val % 4)
      ∧ (k0_cond5 (grid0.coords t) = 1#1 ↔ t.val % 4 = 3) :=
  (by decide +kernel : ∀ t : Fin grid0.N, (k0_cond1 (grid0.coords t) = 1#1 ↔ t.val % 16 = 0) ∧ (Opens (grid0.coords t) ↔ t.val / 4 % 4 = t.val % 4)
      ∧ (k0_cond3 (grid0.coords t) = 1#1 ↔ t.val / 4 % 4 < t.val % 4) ∧ (k0_cond4 (grid0.coords t) = 1#1 ↔ t.val / 4 % 4 = t.val % 4)
      ∧ (k0_cond5 (grid0.coords t) = 1#1 ↔ t.val % 4 = 3))

theorem case_at (t : Fin cfg0.N) : Case (grid0.coords t) := by
  obtain ⟨g1, g2, g3, g4, g5⟩ := guards t
  by_cases e : t.val / 4 % 4 = t.val % 4
  · have n3 : ¬k0_cond3 (grid0.coords t) = 1#1 := fun h => by have := g3.mp h; omega
    by_cases z : t.val % 16 = 0
    · exact .first (g1.mpr z) (g2.mpr e) n3 (g4.mpr e) (fun h => by have := g5.mp h; omega)
    · by_cases l : t.val % 4 = 3
      · exact .corner (fun h => z (g1.mp h)) (g2.mpr e) n3 (g4.mpr e) (g5.mpr l)
      · exact .diag (fun h => z (g1.mp h)) (g2.mpr e) n3 (g4.mpr e) (fun h => l (g5.mp h))
  · have n1 : ¬k0_cond1 (grid0.coords t) = 1#1 := fun h => by have := g1.mp h; omega
    have n2 : ¬Opens (grid0.coords t) := fun h => e (g2.mp h)
    have n4 : ¬k0_cond4 (grid0.coords t) = 1#1 := fun h => e (g4.mp h)
    by_cases b : t.val / 4 % 4 < t.val % 4
    · by_cases l : t.val % 4 = 3
      · exact .last n1 n2 (g3.mpr b) n4 (g5.mpr l)
      · exact .inner n1 n2 (g3.mpr b) n4 (fun h => l (g5.mp h))
    · exact .above n1 n2 (fun h => b (g3.mp h)) n4 (fun h => by have := g5.mp h; omega)

/-- At a head's first point nothing of what was carried is read. -/
theorem step_first (i : grid0.Coords) (h1 : k0_cond1 i = 1#1) (h2 : Opens i) (b : Blk F) (s s' : Acc F) : step i b s = step i b s' := by
  unfold step clearDkv clearDq
  rw [if_pos h1, if_pos h2, if_pos h1, if_pos h2]

end Cert.KernelIdeal.Bwd

end
-- ==== Proof.Ideal.Run.lean ====
/- The kernel body run once, at a point in each of the six cases of its guards: from staging buffers and scratch
   at named contents it ends with the contents `step` says. -/
module

public import proofs.«01_k».proof.Proof.Ideal.Step

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg3 : Memref sig .tc .vmem S1x1024x256 .bf16) (harg3 : arg3.IsWhole) (arg4 : Memref sig .tc .vmem S1x1024x256 .bf16) (harg4 : arg4.IsWhole)
  (arg5 : Memref sig .tc .vmem S1024x128 .bf16) (harg5 : arg5.IsWhole) (arg6 : Memref sig .tc .vmem S1024x128 .f32) (harg6 : arg6.IsWhole)
  (arg7 : Memref sig .tc .vmem S1024x128 .bf16) (harg7 : arg7.IsWhole) (arg8 : Memref sig .tc .vmem S1024x128 .f32) (harg8 : arg8.IsWhole)
  (arg9 : Memref sig .tc .vmem S1x4096x256 .f32) (harg9 : arg9.IsWhole) (arg10 : Memref sig .tc .vmem S1x1024x256 .f32) (harg10 : arg10.IsWhole)
  (arg11 : Memref sig .tc .vmem S1024x128 .f32) (harg11 : arg11.IsWhole) (arg12 : Memref sig .tc .vmem S1024x256 .f32) (harg12 : arg12.IsWhole)
  (arg13 : Memref sig .tc .vmem S1024x128 .f32) (harg13 : arg13.IsWhole)

/-- The eleven buffers of the body at named contents: the six blocks, the two tile outputs, what is carried. -/
def held (b : Blk F) (x7 : Vec F S1x1024x256 .f32) (x8 : Vec F S1024x128 .f32) (s : Acc F) : sProp 𝕄 :=
  iprop(owns (c : Thread nD τ) arg3 fullShare b.q ∗ owns (c : Thread nD τ) arg4 fullShare b.k ∗ owns (c : Thread nD τ) arg5 fullShare b.v
    ∗ owns (c : Thread nD τ) arg6 fullShare b.lse ∗ owns (c : Thread nD τ) arg7 fullShare b.ct ∗ owns (c : Thread nD τ) arg8 fullShare b.dl
    ∗ owns (c : Thread nD τ) arg9 fullShare s.dq ∗ owns (c : Thread nD τ) arg10 fullShare x7 ∗ owns (c : Thread nD τ) arg11 fullShare x8
    ∗ owns (c : Thread nD τ) arg12 fullShare s.dk ∗ owns (c : Thread nD τ) arg13 fullShare s.dv)

/-- A buffer's stores given back as contents: what the buffer reads after them. -/
theorem rep_of_writes {sh : Shape} {e : EltTy} (m : Memref sig .tc .vmem sh e) (f : m.view.ty.Contents (Elt F))
    (L : List (View.Piece (Elt F) sh e)) (X : sh.Idx → Elt F e) (h : m.view.read (Elt F) (m.view.writes (Elt F) f L) = X) :
    (m.view.loc (c : Thread nD τ) ↦[m.view.set]{fullShare} m.view.writes (Elt F) f L)
      ⊢ (m.view.loc (c : Thread nD τ) ↦[m.view.set]{fullShare} m.view.rep X : sProp 𝕄) := by
  refine (show _ ⊢ (owns (c : Thread nD τ) m fullShare X : sProp 𝕄) from ?_).trans (rep_of_owns (c : Thread nD τ) m fullShare X)
  unfold owns
  iintro H
  iexists _
  isplitr
  · ipureintro; exact h
  iexact H

section Whole
variable {r : ℕ} {sz : Fin r → ℕ} {e : EltTy} (v : View sig .tc .vmem ⟨r, sz⟩ e)

/-- A load of a whole buffer, its sizes written out. -/
theorem load_whole (x : Shape.Idx ⟨r, sz⟩ → Elt F e) {off : Fin r → ℕ} (inb : ∀ a, off a + sz a ≤ sz a) :
    v.readAt (Elt F) (Rect.unit (s := ⟨r, sz⟩) off sz inb).toLoadRect (v.rep x) = x := View.readAt_rep_full v x inb

/-- What a buffer reads after a store of the whole of it. -/
theorem read_store_whole (f : v.ty.Contents (Elt F)) {off : Fin r → ℕ} (inb : ∀ a, off a + sz a ≤ sz a)
    (w : (Rect.unit (s := ⟨r, sz⟩) off sz inb).shape.Idx → Elt F e) (L : List (View.Piece (Elt F) ⟨r, sz⟩ e)) :
    v.read (Elt F) (v.writes (Elt F) f (⟨Rect.unit (s := ⟨r, sz⟩) off sz inb, w⟩ :: L)) = w := View.read_writes_full v f inb w L

/-- A load of a whole buffer after a store of the whole of it. -/
theorem load_store_whole {off off' : Fin r → ℕ} (inb : ∀ a, off a + sz a ≤ sz a) (inb' : ∀ a, off' a + sz a ≤ sz a)
    (w : (Rect.unit (s := ⟨r, sz⟩) off' sz inb').shape.Idx → Elt F e) (L : List (View.Piece (Elt F) ⟨r, sz⟩ e)) :
    v.readCov (⟨Rect.unit (s := ⟨r, sz⟩) off' sz inb', w⟩ :: L) (Rect.unit (s := ⟨r, sz⟩) off sz inb).toLoadRect = w :=
  View.readCov_full v inb inb' w L

end Whole

/-- The load of a block's first column. -/
theorem load_col (v : View sig .tc .vmem S1024x128 .f32) (x : Vec F S1024x128 .f32) :
    v.readAt (Elt F) (Rect.unit (s := S1024x128) ![0, 0] ![1024, 1] inb_S1024x128_S1024x1_0_0).toLoadRect (v.rep x) = col x :=
  View.readAt_rep_unit v x _ rfl _

set_option maxHeartbeats 4000000 in
/-- The body at a point of any of the six cases. Its five guards are decided by the case; the executor runs what is left
    of the body, and every buffer is then read back as `step` states it. -/
theorem run (hi : Case i) (b : Blk F) (x7 : Vec F S1x1024x256 .f32) (x8 : Vec F S1024x128 .f32) (s : Acc F) (E : Set ℕ) (K : PUnit → sProp 𝕄) :
    iprop(held c arg3 arg4 arg5 arg6 arg7 arg8 arg9 arg10 arg11 arg12 arg13 b x7 x8 s
        ∗ (held c arg3 arg4 arg5 arg6 arg7 arg8 arg9 arg10 arg11 arg12 arg13 b
            (if k0_cond5 i = 1#1 then k0_pay9 (step i b s).dk else x7) (if k0_cond5 i = 1#1 then (step i b s).dv else x8) (step i b s) -∗ K ⟨⟩))
      ⊢ wp frame (wpE (defs₀ (F := F)) Variants.none c none) E
          (cc0_mla_bwd i arg3 harg3 arg4 harg4 arg5 harg5 arg6 harg6 arg7 harg7 arg8 harg8 arg9 harg9 arg10 harg10 arg11 harg11 arg12 harg12 arg13 harg13) K := by
  unfold held
  simp only [cc0_mla_bwd_eq_skeleton]; unfold cc0_mla_bwd_skel
  simp only [k0_part1_eq_skeleton, k0_part2_eq_skeleton]
  simp only [owns_eq_rep]
  iintro ⟨⟨H0, H1, H2, H3, H4, H5, H6, H7, H8, HS0, HS1⟩, Hk⟩
  rcases hi with ⟨h1, h2, h3, h4, h5⟩ | ⟨h1, h2, h3, h4, h5⟩ | ⟨h1, h2, h3, h4, h5⟩ | ⟨h1, h2, h3, h4, h5⟩ | ⟨h1, h2, h3, h4, h5⟩ | ⟨h1, h2, h3, h4, h5⟩
  case first =>
    sl_exec (disch := first | sl_exact h1 | sl_exact h2 | sl_exact h3 | sl_exact h4 | sl_exact h5)
    sl_step
    iapply Hk
    isplitl [H0]; · iexact H0
    isplitl [H1]; · iexact H1
    isplitl [H2]; · iexact H2
    isplitl [H3]; · iexact H3
    isplitl [H4]; · iexact H4
    isplitl [H5]; · iexact H5
    have hs : step i b s = crossing i b { dk := k0_pay2, dv := k0_pay3, dq := k0_pay1 } := by
      unfold step clearDkv clearDq accum
      rw [if_neg h3, if_pos h4, if_pos h2, if_pos h1]
    simp only [hs, if_neg h5]
    isplitl [H6]
    · iapply (rep_of_writes (c := c) (h := ?_)) $$ H6
      sl_unfold_run_names
      simp only [load_whole, load_col, read_store_whole, load_store_whole, View.read_writes_cons_put arg9.view _ (k0_off2_inb i h4) _ _ (k0_off2_eq i), View.readAt_unit arg9.view _ (k0_off2_inb i h4) (k0_off2_eq i) (rowOff_inb i)]
      try rfl
    isplitl [H7]; · iexact H7
    isplitl [H8]; · iexact H8
    isplitl [HS0]
    · iapply (rep_of_writes (c := c) (h := ?_)) $$ HS0
      sl_unfold_run_names
      simp only [load_whole, load_col, read_store_whole, load_store_whole]
      try rfl
    · iapply (rep_of_writes (c := c) (h := ?_)) $$ HS1
      sl_unfold_run_names
      simp only [load_whole, load_col, read_store_whole, load_store_whole]
      try rfl
  case diag =>
    sl_exec (disch := first | sl_exact h1 | sl_exact h2 | sl_exact h3 | sl_exact h4 | sl_exact h5)
    sl_step
    iapply Hk
    isplitl [H0]; · iexact H0
    isplitl [H1]; · iexact H1
    isplitl [H2]; · iexact H2
    isplitl [H3]; · iexact H3
    isplitl [H4]; · iexact H4
    isplitl [H5]; · iexact H5
    have hs : step i b s = crossing i b { s with dk := k0_pay2, dv := k0_pay3 } := by
      unfold step clearDkv clearDq accum
      rw [if_neg h3, if_pos h4, if_pos h2, if_neg h1]
    simp only [hs, if_neg h5]
    isplitl [H6]
    · iapply (rep_of_writes (c := c) (h := ?_)) $$ H6
      sl_unfold_run_names
      simp only [load_whole, load_col, read_store_whole, load_store_whole, View.read_writes_rep_unit arg9.view _ (k0_off2_inb i h4) _ (k0_off2_eq i), View.readAt_rep_unit arg9.view _ (k0_off2_inb i h4) (k0_off2_eq i) (rowOff_inb i)]
      try rfl
    isplitl [H7]; · iexact H7
    isplitl [H8]; · iexact H8
    isplitl [HS0]
    · iapply (rep_of_writes (c := c) (h := ?_)) $$ HS0
      sl_unfold_run_names
      simp only [load_whole, load_col, read_store_whole, load_store_whole]
      try rfl
    · iapply (rep_of_writes (c := c) (h := ?_)) $$ HS1
      sl_unfold_run_names
      simp only [load_whole, load_col, read_store_whole, load_store_whole]
      try rfl
  case corner =>
    sl_exec (disch := first | sl_exact h1 | sl_exact h2 | sl_exact h3 | sl_exact h4 | sl_exact h5)
    sl_step
    iapply Hk
    isplitl [H0]; · iexact H0
    isplitl [H1]; · iexact H1
    isplitl [H2]; · iexact H2
    isplitl [H3]; · iexact H3
    isplitl [H4]; · iexact H4
    isplitl [H5]; · iexact H5
    have hs : step i b s = crossing i b { s with dk := k0_pay2, dv := k0_pay3 } := by
      unfold step clearDkv clearDq accum
      rw [if_neg h3, if_pos h4, if_pos h2, if_neg h1]
    simp only [hs, if_pos h5]
    isplitl [H6]
    · iapply (rep_of_writes (c := c) (h := ?_)) $$ H6
      sl_unfold_run_names
      simp only [load_whole, load_col, read_store_whole, load_store_whole, View.read_writes_rep_unit arg9.view _ (k0_off2_inb i h4) _ (k0_off2_eq i), View.readAt_rep_unit arg9.view _ (k0_off2_inb i h4) (k0_off2_eq i) (rowOff_inb i)]
      try rfl
    isplitl [H7]
    · iapply (rep_of_writes (c := c) (h := ?_)) $$ H7
      sl_unfold_run_names
      simp only [load_whole, load_col, read_store_whole, load_store_whole]
      try rfl
    isplitl [H8]
    · iapply (rep_of_writes (c := c) (h := ?_)) $$ H8
      sl_unfold_run_names
      simp only [load_whole, load_col, read_store_whole, load_store_whole]
      try rfl
    isplitl [HS0]
    · iapply (rep_of_writes (c := c) (h := ?_)) $$ HS0
      sl_unfold_run_names
      simp only [load_whole, load_col, read_store_whole, load_store_whole]
      try rfl
    · iapply (rep_of_writes (c := c) (h := ?_)) $$ HS1
      sl_unfold_run_names
      simp only [load_whole, load_col, read_store_whole, load_store_whole]
      try rfl
  case inner =>
    sl_exec (disch := first | sl_exact h1 | sl_exact h2 | sl_exact h3 | sl_exact h4 | sl_exact h5)
    sl_step
    iapply Hk
    isplitl [H0]; · iexact H0
    isplitl [H1]; · iexact H1
    isplitl [H2]; · iexact H2
    isplitl [H3]; · iexact H3
    isplitl [H4]; · iexact H4
    isplitl [H5]; · iexact H5
    have hs : step i b s = below i b s := by
      unfold step clearDkv clearDq accum
      rw [if_pos h3, if_neg h2, if_neg h1]
    simp only [hs, if_neg h5]
    isplitl [H6]
    · iapply (rep_of_writes (c := c) (h := ?_)) $$ H6
      sl_unfold_run_names
      simp only [load_whole, load_col, read_store_whole, load_store_whole, View.read_writes_rep_unit arg9.view _ (k0_off1_inb i h3) _ (k0_off1_eq i), View.readAt_rep_unit arg9.view _ (k0_off1_inb i h3) (k0_off1_eq i) (rowOff_inb i)]
      try rfl
    isplitl [H7]; · iexact H7
    isplitl [H8]; · iexact H8
    isplitl [HS0]
    · iapply (rep_of_writes (c := c) (h := ?_)) $$ HS0
      sl_unfold_run_names
      simp only [load_whole, load_col, read_store_whole, load_store_whole]
      try rfl
    · iapply (rep_of_writes (c := c) (h := ?_)) $$ HS1
      sl_unfold_run_names
      simp only [load_whole, load_col, read_store_whole, load_store_whole]
      try rfl
  case last =>
    sl_exec (disch := first | sl_exact h1 | sl_exact h2 | sl_exact h3 | sl_exact h4 | sl_exact h5)
    sl_step
    iapply Hk
    isplitl [H0]; · iexact H0
    isplitl [H1]; · iexact H1
    isplitl [H2]; · iexact H2
    isplitl [H3]; · iexact H3
    isplitl [H4]; · iexact H4
    isplitl [H5]; · iexact H5
    have hs : step i b s = below i b s := by
      unfold step clearDkv clearDq accum
      rw [if_pos h3, if_neg h2, if_neg h1]
    simp only [hs, if_pos h5]
    isplitl [H6]
    · iapply (rep_of_writes (c := c) (h := ?_)) $$ H6
      sl_unfold_run_names
      simp only [load_whole, load_col, read_store_whole, load_store_whole, View.read_writes_rep_unit arg9.view _ (k0_off1_inb i h3) _ (k0_off1_eq i), View.readAt_rep_unit arg9.view _ (k0_off1_inb i h3) (k0_off1_eq i) (rowOff_inb i)]
      try rfl
    isplitl [H7]
    · iapply (rep_of_writes (c := c) (h := ?_)) $$ H7
      sl_unfold_run_names
      simp only [load_whole, load_col, read_store_whole, load_store_whole]
      try rfl
    isplitl [H8]
    · iapply (rep_of_writes (c := c) (h := ?_)) $$ H8
      sl_unfold_run_names
      simp only [load_whole, load_col, read_store_whole, load_store_whole]
      try rfl
    isplitl [HS0]
    · iapply (rep_of_writes (c := c) (h := ?_)) $$ HS0
      sl_unfold_run_names
      simp only [load_whole, load_col, read_store_whole, load_store_whole]
      try rfl
    · iapply (rep_of_writes (c := c) (h := ?_)) $$ HS1
      sl_unfold_run_names
      simp only [load_whole, load_col, read_store_whole, load_store_whole]
      try rfl
  case above =>
    sl_exec (disch := first | sl_exact h1 | sl_exact h2 | sl_exact h3 | sl_exact h4 | sl_exact h5)
    sl_step
    iapply Hk
    isplitl [H0]; · iexact H0
    isplitl [H1]; · iexact H1
    isplitl [H2]; · iexact H2
    isplitl [H3]; · iexact H3
    isplitl [H4]; · iexact H4
    isplitl [H5]; · iexact H5
    have hs : step i b s = s := by
      unfold step clearDkv clearDq accum
      rw [if_neg h3, if_neg h4, if_neg h2, if_neg h1]
    simp only [hs, if_neg h5]
    isplitl [H6]; · iexact H6
    isplitl [H7]; · iexact H7
    isplitl [H8]; · iexact H8
    isplitl [HS0]; · iexact HS0
    iexact HS1

end Cert.KernelIdeal.Bwd

end
-- ==== Proof.Ideal.Launch.lean ====
/- The whole launch of the attention's backward kernel: what every grid point finds and leaves, and what the
   result arrays hold after the last. -/
module

public import proofs.«01_k».proof.Proof.Ideal.Run
public import Idealize.ShloMosaic.Lib.Claim

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The six input blocks at point `t`. -/
def blkAt (c : Dev nD) (t : Fin cfg0.N) : Blk F where
  q := iblk m c 0 t
  k := iblk m c 1 t
  v := iblk m c 2 t
  lse := iblk m c 3 t
  ct := iblk m c 4 t
  dl := iblk m c 5 t

/-- What is carried before point `n`: the steps of the points before it, in order. -/
def acc (c : Dev nD) : ℕ → Acc F
  | 0 => ⟨k0_pay2, k0_pay3, k0_pay1⟩
  | n + 1 => if h : n < cfg0.N then step (grid0.coords ⟨n, h⟩) (blkAt m c ⟨n, h⟩) (acc c n) else acc c n

theorem acc_succ (c : Dev nD) (t : Fin cfg0.N) : acc m c (t.val + 1) = step (grid0.coords t) (blkAt m c t) (acc m c t.val) := by
  show (if h : t.val < cfg0.N then _ else _) = _
  rw [dif_pos t.isLt]

/-- Above the diagonal a point leaves what is carried alone. -/
theorem acc_above (c : Dev nD) (t : Fin cfg0.N) (h : t.val % 4 < t.val / 4 % 4) : acc m c (t.val + 1) = acc m c t.val := by
  obtain ⟨g1, g2, g3, g4, g5⟩ := guards t
  rw [acc_succ]
  unfold step accum clearDkv clearDq
  rw [if_neg (fun e => by have := g3.mp e; omega), if_neg (fun e => by have := g4.mp e; omega),
    if_neg (fun e => by have := g2.mp e; omega), if_neg (fun e => by have := g1.mp e; omega)]

/-- The two scratch buffers. -/
abbrev scDk : Memref sig .tc .vmem S1024x256 .f32 := Memref.whole cc0_scratch0
abbrev scDv : Memref sig .tc .vmem S1024x128 .f32 := Memref.whole cc0_scratch1

/-- Between points the scratch buffers hold what is carried; before the first, anything. -/
def PhiS (c : Dev nD) : (n : ℕ) → n ≤ cfg0.N → sProp 𝕄
  | 0, _ => Pipeline.ΦA spec0 c
  | n + 1, _ => iprop((owns (c : Thread nD τ) scDk fullShare (acc m c (n + 1)).dk ∗ owns (c : Thread nD τ) scDv fullShare (acc m c (n + 1)).dv)
      ∗ (∃ r, prngReg c r))

theorem PhiS_pos (c : Dev nD) (n : ℕ) (h : n ≤ cfg0.N) (hz : n ≠ 0) :
    PhiS m c n h = iprop((owns (c : Thread nD τ) scDk fullShare (acc m c n).dk ∗ owns (c : Thread nD τ) scDv fullShare (acc m c n).dv)
      ∗ (∃ r, prngReg c r)) := by
  cases n with
  | zero => exact absurd rfl hz
  | succ n => rfl

theorem PhiA_eq (c : Dev nD) : (Pipeline.ΦA spec0 c : sProp 𝕄)
    = iprop(((∃ d, owns (c : Thread nD τ) scDk fullShare d) ∗ (∃ d, owns (c : Thread nD τ) scDv fullShare d)) ∗ (∃ r, prngReg c r)) := by
  unfold Pipeline.ΦA; rw [scopedRest0_eq]; simp only [scDk, scDv, owns_whole]; try rfl

/-- The proof data: each input's buffer at its block, the query gradient's at the carried one, the tile outputs' at
    the scratch buffers' contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (acc m c (t.val + 1)).dq
    | ⟨7, _⟩ => k0_pay9 (acc m c (t.val + 1)).dk
    | ⟨8, _⟩ => (acc m c (t.val + 1)).dv
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_6 (c : Dev nD) (t : Fin cfg0.N) : (dats m 0 c).after 6 t = (acc m c (t.val + 1)).dq := by dsimp only [dats]
theorem after_7 (c : Dev nD) (t : Fin cfg0.N) : (dats m 0 c).after 7 t = k0_pay9 (acc m c (t.val + 1)).dk := by dsimp only [dats]
theorem after_8 (c : Dev nD) (t : Fin cfg0.N) : (dats m 0 c).after 8 t = (acc m c (t.val + 1)).dv := by dsimp only [dats]

/-- Each input's buffer holds its block at every point. -/
theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d

/-! ## When an output's buffer is written -/

/-- The query gradient's buffer is left alone exactly above the diagonal, -/
theorem idle_6 : ∀ t : Fin cfg0.N, cfg0.idle 6 (grid0.coords t) = decide (t.val % 4 < t.val / 4 % 4) :=
  (by decide +kernel : ∀ t : Fin grid0.N, cfg0.idle 6 (grid0.coords t) = decide (t.val % 4 < t.val / 4 % 4))
/-- the tile outputs' except where the key tile closes. -/
theorem idle_7 : ∀ t : Fin cfg0.N, cfg0.idle 7 (grid0.coords t) = decide (t.val % 4 ≠ 3) :=
  (by decide +kernel : ∀ t : Fin grid0.N, cfg0.idle 7 (grid0.coords t) = decide (t.val % 4 ≠ 3))
theorem idle_8 : ∀ t : Fin cfg0.N, cfg0.idle 8 (grid0.coords t) = decide (t.val % 4 ≠ 3) :=
  (by decide +kernel : ∀ t : Fin grid0.N, cfg0.idle 8 (grid0.coords t) = decide (t.val % 4 ≠ 3))

/-- The query gradient's buffer is fresh at the first point of a head only. -/
theorem fresh_6 (t : Fin cfg0.N) : cfg0.fresh 6 t.val = decide (t.val % 16 = 0) := by
  refine Pipeline.Cfg.fresh_tab cfg0 6 (fun n => decide (n % 16 = 0)) rfl (fun t => ?_) t.val (Nat.le_of_lt t.isLt)
  rw [show cfg0.idle 6 (cfg0.grid.coords t) = _ from idle_6 t]
  by_cases h : t.val % 16 = 15
  · rw [(flush0_6 t).mpr h, Bool.true_or]
    exact decide_eq_true (by omega)
  · rw [Bool.eq_false_iff.mpr (fun e => h ((flush0_6 t).mp e)), Bool.false_or]
    show decide ((t.val + 1) % 16 = 0) = (decide _ && decide (t.val % 16 = 0))
    rw [decide_eq_false (show ¬(t.val + 1) % 16 = 0 by omega)]
    by_cases z : t.val % 16 = 0
    · rw [decide_eq_false (show ¬t.val % 4 < t.val / 4 % 4 by omega), Bool.false_and]
    · rw [decide_eq_false z, Bool.and_false]

/-- Inside a head the query gradient's buffer holds what is carried. -/
theorem before_6 (c : Dev nD) (t : Fin cfg0.N) (h : ¬t.val % 16 = 0) (d) : (dats m 0 c).before 6 t d = (acc m c t.val).dq := by
  rw [Dat.before_out_traj (dats m 0 c) 6 rfl (fun _ _ => rfl) ?_ t.val t rfl d, if_neg (by rw [fresh_6, decide_eq_false h]; exact Bool.false_ne_true), after_6]
  · show (acc m c (t.val - 1 + 1)).dq = _
    rw [Nat.sub_add_cancel (by omega)]
  · intro t h0 hi _
    have hi' : t.val % 4 < t.val / 4 % 4 := of_decide_eq_true ((idle_6 t).symm.trans hi)
    rw [after_6, after_6, acc_above m c t hi']
    show _ = (acc m c (t.val - 1 + 1)).dq
    rw [Nat.sub_add_cancel (by omega)]

/-! ## What the body leaves in an output's buffer is what the launch expects there -/

theorem leaves_6 (c : Dev nD) (t : Fin cfg0.N) :
    (owns (c : Thread nD τ) (st0_6 t) fullShare (acc m c (t.val + 1)).dq : sProp 𝕄) ⊢ (dats m 0 c).leavesExact 6 t := by
  by_cases h : t.val % 4 < t.val / 4 % 4
  · rw [Dat.leavesExact_idle (dats m 0 c) 6 t ((idle_6 t).trans (decide_eq_true h)) (Bool.eq_false_iff.mpr fun e => by have := (flush0_6 t).mp e; omega)]
    iintro H
    iexists (acc m c t.val).dq
    rw [before_6 m c t (by omega), ← acc_above m c t h]
    iexact H
  · rw [show (dats m 0 c).leavesExact 6 t = owns (c : Thread nD τ) (st0_6 t) fullShare ((dats m 0 c).after 6 t) from by
      unfold Dat.leavesExact; rw [show cfg0.idle 6 (cfg0.grid.coords t) = false from (idle_6 t).trans (decide_eq_false h)], after_6]

theorem leaves_7 (c : Dev nD) (t : Fin cfg0.N) (d) :
    (owns (c : Thread nD τ) (st0_7 t) fullShare
      (if k0_cond5 (grid0.coords t) = 1#1 then k0_pay9 (acc m c (t.val + 1)).dk else (dats m 0 c).before 7 t d) : sProp 𝕄)
      ⊢ (dats m 0 c).leavesExact 7 t := by
  by_cases h : t.val % 4 = 3
  · rw [show (dats m 0 c).leavesExact 7 t = owns (c : Thread nD τ) (st0_7 t) fullShare ((dats m 0 c).after 7 t) from by
      unfold Dat.leavesExact; rw [show cfg0.idle 7 (cfg0.grid.coords t) = false from (idle_7 t).trans (decide_eq_false (not_not.mpr h))], after_7]
    rw [if_pos ((guards t).2.2.2.2.mpr h)]
  · rw [Dat.leavesExact_idle (dats m 0 c) 7 t ((idle_7 t).trans (decide_eq_true h)) (Bool.eq_false_iff.mpr fun e => h ((flush0_7 t).mp e)),
      if_neg (fun e => h ((guards t).2.2.2.2.mp e))]
    iintro H
    iexists d
    iexact H

theorem leaves_8 (c : Dev nD) (t : Fin cfg0.N) (d) :
    (owns (c : Thread nD τ) (st0_8 t) fullShare
      (if k0_cond5 (grid0.coords t) = 1#1 then (acc m c (t.val + 1)).dv else (dats m 0 c).before 8 t d) : sProp 𝕄)
      ⊢ (dats m 0 c).leavesExact 8 t := by
  by_cases h : t.val % 4 = 3
  · rw [show (dats m 0 c).leavesExact 8 t = owns (c : Thread nD τ) (st0_8 t) fullShare ((dats m 0 c).after 8 t) from by
      unfold Dat.leavesExact; rw [show cfg0.idle 8 (cfg0.grid.coords t) = false from (idle_8 t).trans (decide_eq_false (not_not.mpr h))], after_8]
    rw [if_pos ((guards t).2.2.2.2.mpr h)]
  · rw [Dat.leavesExact_idle (dats m 0 c) 8 t ((idle_8 t).trans (decide_eq_true h)) (Bool.eq_false_iff.mpr fun e => h ((flush0_8 t).mp e)),
      if_neg (fun e => h ((guards t).2.2.2.2.mp e))]
    iintro H
    iexists d
    iexact H

/-! ## The body at every point -/

/-- The body at a point, from any carried contents `s` that the point takes to what is carried after it. -/
theorem sound_at (c : Dev nD) (t : Fin cfg0.N) (s : Acc F) (hs : step (grid0.coords t) (blkAt m c t) s = acc m c (t.val + 1)) (d7 d8) :
    iprop(held c (st0_0 t) (st0_1 t) (st0_2 t) (st0_3 t) (st0_4 t) (st0_5 t) (st0_6 t) (st0_7 t) (st0_8 t) scDk scDv (blkAt m c t)
        ((dats m 0 c).before 7 t d7) ((dats m 0 c).before 8 t d8) s
        ∗ (∃ r, prngReg c r) ∗ (dats m 0 c).owesAt () t.castSucc)
      ⊢ wp frame (wpE (defs₀ (F := F)) Variants.none c none) Set.univ (bodyAt0 t) (fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t ∗ (dats m 0 c).leavesExact 5 t
          ∗ (dats m 0 c).leavesExact 6 t ∗ (dats m 0 c).leavesExact 7 t ∗ (dats m 0 c).leavesExact 8 t)) := by
  unfold bodyAt0
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  iintro ⟨H, Hg, Ho⟩
  iapply (run c (grid0.coords t) _ _ _ _ _ _ _ _ _ _ _ _ _ _ _ _ _ _ _ _ _ _ (case_at t) (blkAt m c t)
    ((dats m 0 c).before 7 t d7) ((dats m 0 c).before 8 t d8) s)
  isplitl [H]; · iexact H
  rw [hs]
  unfold held
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m c t) $$ H6
  isplitl [H7]; · iapply (leaves_7 m c t d7) $$ H7
  iapply (leaves_8 m c t d8) $$ H8

theorem defs₀_row (t : Fin cfg0.N) : defs₀ (F := F) .tc cfg0.body (cfg0.bodyArgs t (cfg0.slots t)) = bodyAt0 t := by
  unfold defs₀; rw [Defs.onTc_tc]

/-- What the region hands the body at a point is what `sound_at` asks for. -/
theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t ∗ (dats m 0 c).leavesExact 5 t
          ∗ (dats m 0 c).leavesExact 6 t ∗ (dats m 0 c).leavesExact 7 t ∗ (dats m 0 c).leavesExact 8 t)) := by
  simp only [before_0, before_1, before_2, before_3, before_4, before_5]
  rw [Phi_castSucc]
  have open_scratch : PhiS m c t.val (Nat.le_of_lt t.isLt)
      ⊢ iprop(∃ dk dv, ⌜¬t.val % 16 = 0 → dk = (acc m c t.val).dk ∧ dv = (acc m c t.val).dv⌝
        ∗ owns (c : Thread nD τ) scDk fullShare dk ∗ owns (c : Thread nD τ) scDv fullShare dv ∗ (∃ r, prngReg c r)) := by
    by_cases hz : t.val = 0
    · rw [show PhiS m c t.val (Nat.le_of_lt t.isLt) = Pipeline.ΦA spec0 c from by
        have : ∀ n h, n = 0 → PhiS m c n h = Pipeline.ΦA spec0 c := fun n h e => by subst e; rfl
        exact this _ _ hz, PhiA_eq]
      iintro ⟨⟨⟨%dk, HS0⟩, ⟨%dv, HS1⟩⟩, Hg⟩
      iexists dk; iexists dv
      isplitr; · ipureintro; intro h; omega
      isplitl [HS0]; · iexact HS0
      isplitl [HS1]; · iexact HS1
      iexact Hg
    · rw [PhiS_pos m c _ _ hz]
      iintro ⟨⟨HS0, HS1⟩, Hg⟩
      iexists _; iexists _
      isplitr; · ipureintro; intro _; exact ⟨rfl, rfl⟩
      isplitl [HS0]; · iexact HS0
      isplitl [HS1]; · iexact HS1
      iexact Hg
  refine (sep_mono open_scratch .rfl).trans ?_
  iintro ⟨⟨%dk, %dv, %hd, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_at m c t ⟨dk, dv, (dats m 0 c).before 6 t d6⟩ (by
    rw [acc_succ]
    by_cases h : t.val % 16 = 0
    · exact step_first _ ((guards t).1.mpr h) ((guards t).2.1.mpr (by omega)) _ _ _
    · rw [before_6 m c t h, (hd h).1, (hd h).2]) d7 d8)
  isplitr [Hg Ho]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  isplitl [Hg]; · iexact Hg
  iexact Ho

theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 64 := N_0; omega), PhiA_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every fair execution ends, with the arrays at what the proof data says, nothing else changed, no counter raised. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Bwd

end
-- ==== Proof.Attn.lean ====
/- Causal attention of one head and its gradients, over the reals; and the few facts that carry the extended reals'
   operations to the reals when every number is finite.

   `Q`, `K` are a head's queries and keys, `V` its values, `C` the gradient of its output. -/
module

public import Idealize.ShloMosaic.PureOps.Ideal
public import Idealize.ShloMosaic.PureOps.Ideal.Laws
public import Idealize.ShloMosaic.Lib.WordCmp
public import Idealize.ShloMosaic.Lib.Pointwise

@[expose] public section

noncomputable section

namespace Cert.Attn

open Idealize.ShloMosaic

/-! ## Literals and sums in the extended reals -/

/-- The softmax's scale: the rational of its binary32 word. -/
def scale : ℝ := (Ideal.ofBits .f32 0x3D93CD3A#32).toReal

theorem ofBits_scale : Ideal.ofBits .f32 0x3D93CD3A#32 = (scale : EReal) := by
  have h : ∃ x : ℝ, Ideal.ofBits .f32 0x3D93CD3A#32 = (x : EReal) := by
    simp only [Ideal.ofBits, Ideal.ieee]
    rw [if_neg (by decide), if_neg (by decide)]
    exact ⟨_, rfl⟩
  obtain ⟨x, hx⟩ := h
  unfold scale
  rw [hx, EReal.toReal_coe]

theorem ofBits_neg_inf : Ideal.ofBits .f32 0xFF800000#32 = ⊥ := by
  simp only [Ideal.ofBits, Ideal.ieee]
  rw [if_pos (by decide), if_pos (by decide), if_pos (by decide)]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe_coe {x y : ℝ} (h : y ≠ 0) : Ideal.div (x : EReal) (y : EReal) = ((x / y : ℝ) : EReal) := by
  rw [Ideal.div_coe h, ← EReal.coe_mul, mul_one_div]

theorem log_coe_pos {x : ℝ} (h : 0 < x) : Ideal.log (x : EReal) = (Real.log x : EReal) := by
  rw [Ideal.log_coe, if_neg (not_le.2 h)]

/-- A weight of the softmax: an exponential where the key counts, zero where it is masked. -/
theorem exp_masked (p : Prop) [Decidable p] (s M : ℝ) :
    Ideal.exp ((if p then (s : EReal) else ⊥) - (M : EReal)) = (((if p then Real.exp s else 0) * Real.exp (-M) : ℝ) : EReal) := by
  split
  · rw [← EReal.coe_sub, Ideal.exp_coe, ← Real.exp_add, sub_eq_add_neg]
  · rw [zero_mul, sub_eq_add_neg, EReal.bot_add]; rfl

/-- A sum over 256 lanes of which the last 64 are zero. -/
theorem sum_lanes (f : Fin 192 → ℝ) : (∑ x : Fin 256, if h : x.val < 192 then f ⟨x.val, h⟩ else 0) = ∑ x, f x := by
  rw [show (256 : ℕ) = 192 + 64 from rfl, Fin.sum_univ_add]
  have h1 : ∀ i : Fin 192, (if h : (Fin.castAdd 64 i).val < 192 then f ⟨(Fin.castAdd 64 i).val, h⟩ else 0) = f i := fun i => dif_pos i.isLt
  have h2 : ∀ i : Fin 64, (if h : (Fin.natAdd 192 i).val < 192 then f ⟨(Fin.natAdd 192 i).val, h⟩ else 0) = 0 := fun i =>
    dif_neg (by simp)
  rw [Finset.sum_congr rfl fun i _ => h1 i, Finset.sum_congr rfl fun i _ => h2 i, Finset.sum_const_zero, add_zero]

/-! ## The mask, as index words -/

/-- `select` under a comparison of two row numbers. -/
theorem select_le {α : Type} {a b : ℕ} (ha : a < 2 ^ 31) (hb : b < 2 ^ 31) (x y : α) :
    Scalar.select (IntOp.cmpi .sle (BitVec.ofNat 32 a) (BitVec.ofNat 32 b)) x y = if a ≤ b then x else y := by
  by_cases h : a ≤ b
  · rw [(WordCmp.cmpi_sle_ofNat_eq_one_iff (by simpa using ha) (by simpa using hb)).2 h, if_pos h]; rfl
  · rw [(WordCmp.cmpi_sle_ofNat_eq_zero_iff (by simpa using ha) (by simpa using hb)).2 (by omega), if_neg h]; rfl

/-! ## Attention over the reals -/

/-- Four heads of queries, keys, values and gradients of the output, by head, row and lane. -/
structure Args where
  q : Fin 4 → Fin 4096 → Fin 192 → ℝ
  k : Fin 4 → Fin 4096 → Fin 192 → ℝ
  v : Fin 4 → Fin 4096 → Fin 128 → ℝ
  ct : Fin 4 → Fin 4096 → Fin 128 → ℝ

/-- 192 lanes padded to 256. -/
def lanes (f : Fin 192 → ℝ) (x : Fin 256) : ℝ := if h : x.val < 192 then f ⟨x.val, h⟩ else 0

section

variable (Q K : Fin 4096 → Fin 192 → ℝ) (V C : Fin 4096 → Fin 128 → ℝ)

/-- The scaled scores. -/
def S (r k : Fin 4096) : ℝ := (∑ x, Q r x * K k x) * scale

/-- The weights before they are normalised: none for a key after the query. -/
def W (r k : Fin 4096) : ℝ := if k ≤ r then Real.exp (S Q K r k) else 0

/-- The normalisers. -/
def Z (r : Fin 4096) : ℝ := ∑ k, W Q K r k

/-- The softmax. -/
def P (r k : Fin 4096) : ℝ := W Q K r k / Z Q K r

/-- The gradient of the softmax's value at a query and a key. -/
def DP (r k : Fin 4096) : ℝ := ∑ x, C r x * V k x

/-- The row sums of gradient times output. -/
def D (r : Fin 4096) : ℝ := ∑ x, C r x * ∑ k, V k x * P Q K r k

/-- The gradient of the unscaled scores. -/
def DS (r k : Fin 4096) : ℝ := P Q K r k * (DP V C r k - D Q K V C r) * scale

/-- The gradient of the queries. -/
def dQ (r : Fin 4096) (x : Fin 192) : ℝ := ∑ k, DS Q K V C r k * K k x

/-- The gradient of the keys. -/
def dK (k : Fin 4096) (x : Fin 192) : ℝ := ∑ r, DS Q K V C r k * Q r x

/-- The gradient of the values. -/
def dV (k : Fin 4096) (x : Fin 128) : ℝ := ∑ r, P Q K r k * C r x

theorem W_nonneg (r k : Fin 4096) : 0 ≤ W Q K r k := by
  unfold W; split
  · exact (Real.exp_pos _).le
  · exact le_rfl

theorem Z_pos (r : Fin 4096) : 0 < Z Q K r := by
  refine Finset.sum_pos' (fun k _ => W_nonneg Q K r k) ⟨r, Finset.mem_univ _, ?_⟩
  unfold W; rw [if_pos le_rfl]; exact Real.exp_pos _

theorem P_masked {r k : Fin 4096} (h : ¬k ≤ r) : P Q K r k = 0 := by
  unfold P W; rw [if_neg h, zero_div]

theorem DS_masked {r k : Fin 4096} (h : ¬k ≤ r) : DS Q K V C r k = 0 := by
  unfold DS; rw [P_masked Q K h, zero_mul, zero_mul]

/-- The row sum of gradient times output is the softmax's mean of the softmax's gradient. -/
theorem D_eq (r : Fin 4096) : D Q K V C r = ∑ k, DP V C r k * P Q K r k := by
  unfold D DP
  simp only [Finset.mul_sum, Finset.sum_mul]
  rw [Finset.sum_comm]
  exact Finset.sum_congr rfl fun k _ => Finset.sum_congr rfl fun x _ => by ring

/-- The softmax from the log of the normaliser. -/
theorem P_of_log (r k : Fin 4096) (h : k ≤ r) : Real.exp (S Q K r k - Real.log (Z Q K r)) = P Q K r k := by
  rw [Real.exp_sub, Real.exp_log (Z_pos Q K r)]
  unfold P W; rw [if_pos h]

/-- The softmax from weights and normaliser that carry a common factor. -/
theorem P_of_shift (r k : Fin 4096) (M : ℝ) : W Q K r k * Real.exp (-M) / (Z Q K r * Real.exp (-M)) = P Q K r k :=
  mul_div_mul_right _ _ (Real.exp_pos _).ne'

/-- The rows' maximum is a number: the query's own key is never masked. -/
theorem rowMax (s : Fin 4096 → ℝ) (r : Fin 4096) :
    ∃ M : ℝ, (Finset.univ.fold max (⊥ : EReal) fun k : Fin 4096 => if k.val ≤ r.val then (s k : EReal) else ⊥) = (M : EReal) := by
  have e : (Finset.univ.fold max (⊥ : EReal) fun k : Fin 4096 => if k.val ≤ r.val then (s k : EReal) else ⊥)
      = Finset.univ.sup fun k : Fin 4096 => if k.val ≤ r.val then (s k : EReal) else ⊥ := rfl
  rw [e]
  have ht : (Finset.univ.sup fun k : Fin 4096 => if k.val ≤ r.val then (s k : EReal) else ⊥) < ⊤ :=
    (Finset.sup_lt_iff bot_lt_top).2 fun k _ => by split <;> simp [EReal.coe_lt_top]
  have hb : (s r : EReal) ≤ Finset.univ.sup fun k : Fin 4096 => if k.val ≤ r.val then (s k : EReal) else ⊥ := by
    have := Finset.le_sup (f := fun k : Fin 4096 => if k.val ≤ r.val then (s k : EReal) else ⊥) (Finset.mem_univ r)
    simpa using this
  exact ⟨_, (EReal.coe_toReal ht.ne (ne_bot_of_gt (lt_of_lt_of_le (EReal.bot_lt_coe _) hb))).symm⟩

end

end Cert.Attn

end
-- ==== Proof.Stages.lean ====
/- The host operations of the attention's forward and backward pass, stage by stage, over arbitrary arrays, and what
   each stage holds at an index where its arguments are numbers. The reference is these stages from the scores to the gradients;
   the host operations before the kernel's region are the first of them. -/
module

public import proofs.«01_k».proof.Proof.Gen.ReferenceIdeal.Run
public import proofs.«01_k».proof.Proof.Attn
public import Idealize.ShloMosaic.Lib.Pointwise

@[expose] public section

set_option maxRecDepth 16384

noncomputable section

namespace Cert.ReferenceIdeal.Stage

open Idealize.ShloMosaic
open Cert.ReferenceIdeal Cert.ReferenceIdeal.Gen

/-- Which keys a query sees: those not after it. -/
def mask :=
  broadcastInDim S4x4096x4096 ![1, 2] bcast_S4096x4096_S4x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The scaled scores, minus infinity where masked. -/
def scores (q k : FVec Ideal S4096x4x192 .f32) : FVec Ideal S4x4096x4096 .f32 :=
  select mask (mulf (Host.dotGeneral dot_S4096x4x192_S4096x4x192_S4x4096x4096_2_2_0_0_1_1 none q k) (broadcastInDim S4x4096x4096 ![] bcast_S_S4x4096x4096 (constant S_ .f32 0x3D93CD3A#32))) (broadcastInDim S4x4096x4096 ![] bcast_S_S4x4096x4096 (id (constant S_ .f32 0xFF800000#32)))

/-- The rows' maxima. -/
def top (s : FVec Ideal S4x4096x4096 .f32) : FVec Ideal S4x4096 .f32 :=
  Host.reduce FloatOps.maximumf s (constant S_ .f32 0xFF800000#32) reducesTo_S4x4096x4096_S4x4096_d2 h_S_

/-- A number per row, against minus infinity. -/
def again (x : FVec Ideal S4x4096 .f32) : FVec Ideal S4x4096 .f32 :=
  maximumf (broadcastInDim S4x4096 ![] bcast_S_S4x4096 (constant S_ .f32 0xFF800000#32)) x

/-- A number per row, along the row. -/
def along (x : FVec Ideal S4x4096 .f32) : FVec Ideal S4x4096x4096 .f32 :=
  broadcastInDim S4x4096x4096 ![0, 1, 2] bcast_S4x4096x1_S4x4096x4096_0_1_2 (broadcastInDim S4x4096x1 ![0, 1] bcast_S4x4096_S4x4096x1_0_1 x)

/-- The exponentials of the scores less the maxima. -/
def exps (s : FVec Ideal S4x4096x4096 .f32) (mx : FVec Ideal S4x4096 .f32) : FVec Ideal S4x4096x4096 .f32 := Host.exp (subf s (along mx))

/-- The rows' sums. -/
def sums (e : FVec Ideal S4x4096x4096 .f32) : FVec Ideal S4x4096 .f32 :=
  Host.reduceAdd e (constant S_ .f32 0x00000000#32) reducesTo_S4x4096x4096_S4x4096_d2 h_S_

/-- The gradient of the softmax's value. -/
def dprob (v g : FVec Ideal S4096x4x128 .f32) : FVec Ideal S4x4096x4096 .f32 :=
  Host.dotGeneral dot_S4x128x4096_S4096x4x128_S4x4096x4096_1_2_2_0_0_1 none (transpose S4x128x4096 [1, 2, 0] g transposes_S4096x4x128_S4x128x4096_1_2_0) v

/-- That gradient times the exponentials over the square of their sums. -/
def scaled (d e : FVec Ideal S4x4096x4096 .f32) (l : FVec Ideal S4x4096 .f32) : FVec Ideal S4x4096x4096 .f32 :=
  mulf (mulf d (broadcastInDim S4x4096x4096 ![0, 1, 2] bcast_S4x4096x1_S4x4096x4096_0_1_2 (Host.divf (broadcastInDim S4x4096x1 ![] bcast_S_S4x4096x1 (constant S_ .f32 0x3F800000#32)) (mulf (broadcastInDim S4x4096x1 ![0, 1] bcast_S4x4096_S4x4096x1_0_1 l) (broadcastInDim S4x4096x1 ![0, 1] bcast_S4x4096_S4x4096x1_0_1 l))))) e

/-- Less its rows' sums. -/
def corr (x : FVec Ideal S4x4096x4096 .f32) : FVec Ideal S4x4096 .f32 :=
  Host.reduceAdd (Host.negf (shapeCast _ (Host.reduceAdd x (constant S_ .f32 0x00000000#32) reducesTo_S4x4096x4096_S4x4096_d2 h_S_) shapeCasts_S4x4096_S4x4096x1)) (constant S_ .f32 0x00000000#32) reducesTo_S4x4096x1_S4x4096_d2 h_S_

/-- The gradient of the scaled scores, then of the scores. -/
def dscore (d e : FVec Ideal S4x4096x4096 .f32) (l co : FVec Ideal S4x4096 .f32) : FVec Ideal S4x4096x4096 .f32 :=
  mulf (select mask (mulf (addf (Host.divf d (along l)) (broadcastInDim S4x4096x4096 ![0, 1] bcast_S4x4096_S4x4096x4096_0_1 co)) e) (broadcastInDim S4x4096x4096 ![] bcast_S_S4x4096x4096 (constant S_ .f32 0x00000000#32))) (broadcastInDim S4x4096x4096 ![] bcast_S_S4x4096x4096 (constant S_ .f32 0x3D93CD3A#32))

/-- The padded gradient of the queries. -/
def dq (ds : FVec Ideal S4x4096x4096 .f32) (k : FVec Ideal S4096x4x192 .f32) : FVec Ideal S4x4096x256 .f32 :=
  pad S4x4096x256 ![0, 0, 0] ![0, 0, 64] ![0, 0, 0] (transpose S4x4096x192 [1, 0, 2] (transpose S4096x4x192 [1, 0, 2] (Host.dotGeneral dot_S4x4096x4096_S4096x4x192_S4x4096x192_2_0_1_2_0_1 none ds k) transposes_S4x4096x192_S4096x4x192_1_0_2) transposes_S4096x4x192_S4x4096x192_1_0_2) (sitofp .f32 (constantI S_ 32 0#32)) pads_S4x4096x192_S4x4096x256_000_000_0640 h_S_

/-- The padded gradient of the keys. -/
def dk (ds : FVec Ideal S4x4096x4096 .f32) (q : FVec Ideal S4096x4x192 .f32) : FVec Ideal S4x4096x256 .f32 :=
  pad S4x4096x256 ![0, 0, 0] ![0, 0, 64] ![0, 0, 0] (transpose S4x4096x192 [1, 0, 2] (transpose S4096x4x192 [1, 0, 2] (Host.dotGeneral dot_S4x4096x4096_S4096x4x192_S4x4096x192_1_0_2_2_0_1 none ds q) transposes_S4x4096x192_S4096x4x192_1_0_2) transposes_S4096x4x192_S4x4096x192_1_0_2) (sitofp .f32 (constantI S_ 32 0#32)) pads_S4x4096x192_S4x4096x256_000_000_0640 h_S_

/-- The flat gradient of the values. -/
def dv (g : FVec Ideal S4096x4x128 .f32) (e : FVec Ideal S4x4096x4096 .f32) (l : FVec Ideal S4x4096 .f32) : FVec Ideal S4096x512 .f32 :=
  shapeCast _ (transpose S4096x4x128 [2, 0, 1] (Host.dotGeneral dot_S4x128x4096_S4x4096x4096_S4x128x4096_2_1_1_2_0_0 none (transpose S4x128x4096 [1, 2, 0] g transposes_S4096x4x128_S4x128x4096_1_2_0) (Host.divf e (along l))) transposes_S4x128x4096_S4096x4x128_2_0_1) shapeCasts_S4096x4x128_S4096x512

/-! ## At an index -/

open Attn (Args)

variable (A : Args) (M : Fin 4 → Fin 4096 → ℝ)
variable {q k : FVec Ideal S4096x4x192 .f32} (hq : ∀ r h x, q (ix3 r h x) = (A.q h r x : EReal)) (hk : ∀ r h x, k (ix3 r h x) = (A.k h r x : EReal))
variable {v g : FVec Ideal S4096x4x128 .f32} (hv : ∀ r h x, v (ix3 r h x) = (A.v h r x : EReal)) (hg : ∀ r h x, g (ix3 r h x) = (A.ct h r x : EReal))

include hq hk in
theorem scores_at (h : Fin 4) (r x : Fin 4096) :
    scores q k (ix3 h r x) = if x.val ≤ r.val then (Attn.S (A.q h) (A.k h) r x : EReal) else ⊥ := by
  pointwise [scores, mask]
  simp only [hq, hk, Attn.ofBits_scale, ← EReal.coe_mul, ← Attn.coe_sum]
  rw [Attn.select_le (by omega) (by omega)]
  exact if_congr Iff.rfl rfl Attn.ofBits_neg_inf

theorem top_apply (s : FVec Ideal S4x4096x4096 .f32) (h : Fin 4) (r : Fin 4096) :
    top s (ix2 h r) = Finset.univ.fold max (⊥ : EReal) fun x : Fin 4096 => s (ix3 h r x) := by
  pointwise [top]
  rw [Attn.ofBits_neg_inf]

theorem sums_apply (s : FVec Ideal S4x4096x4096 .f32) (h : Fin 4) (r : Fin 4096) :
    sums s (ix2 h r) = ∑ x : Fin 4096, s (ix3 h r x) := by
  pointwise [sums]

theorem corr_apply (s : FVec Ideal S4x4096x4096 .f32) (h : Fin 4) (r : Fin 4096) :
    corr s (ix2 h r) = -∑ x : Fin 4096, s (ix3 h r x) := by
  pointwise [corr]
  simp

include hq hk in
/-- The rows' maxima are numbers. -/
theorem top_at : ∃ M : Fin 4 → Fin 4096 → ℝ, ∀ h r, top (scores q k) (ix2 h r) = (M h r : EReal) := by
  have : ∀ h r, ∃ x : ℝ, top (scores q k) (ix2 h r) = (x : EReal) := fun h r => by
    obtain ⟨x, hx⟩ := Attn.rowMax (Attn.S (A.q h) (A.k h) r) r
    refine ⟨x, ?_⟩
    rw [top_apply, ← hx]
    exact Finset.fold_congr fun x _ => scores_at A hq hk h r x
  choose M hM using this
  exact ⟨M, hM⟩

theorem again_apply (x : FVec Ideal S4x4096 .f32) (h : Fin 4) (r : Fin 4096) : again x (ix2 h r) = x (ix2 h r) := by
  pointwise [again]
  rw [Attn.ofBits_neg_inf]
  exact bot_sup_eq _

include hq hk in
theorem exps_at {mx : FVec Ideal S4x4096 .f32} (hM : ∀ h r, mx (ix2 h r) = (M h r : EReal)) (h : Fin 4) (r x : Fin 4096) :
    exps (scores q k) mx (ix3 h r x) = (Attn.W (A.q h) (A.k h) r x * Real.exp (-M h r) : ℝ) := by
  pointwise [exps, along]
  rw [scores_at A hq hk, hM, Attn.exp_masked]
  rfl

variable {e : FVec Ideal S4x4096x4096 .f32} (he : ∀ h r x, e (ix3 h r x) = (Attn.W (A.q h) (A.k h) r x * Real.exp (-M h r) : ℝ))
variable {l : FVec Ideal S4x4096 .f32} (hl : ∀ h r, l (ix2 h r) = (Attn.Z (A.q h) (A.k h) r * Real.exp (-M h r) : ℝ))

include he in
theorem sums_at (h : Fin 4) (r : Fin 4096) : sums e (ix2 h r) = (Attn.Z (A.q h) (A.k h) r * Real.exp (-M h r) : ℝ) := by
  rw [sums_apply, Finset.sum_congr rfl fun x _ => he h r x, ← Attn.coe_sum, ← Finset.sum_mul]; rfl

include hv hg in
theorem dprob_at (h : Fin 4) (r x : Fin 4096) : dprob v g (ix3 h r x) = (Attn.DP (A.v h) (A.ct h) r x : EReal) := by
  pointwise [dprob]
  simp only [hv, hg, ← EReal.coe_mul, ← Attn.coe_sum]
  rfl

/-- The softmax. -/
theorem prob_eq (h : Fin 4) (r x : Fin 4096) :
    Ideal.div (Attn.W (A.q h) (A.k h) r x * Real.exp (-M h r) : ℝ) (Attn.Z (A.q h) (A.k h) r * Real.exp (-M h r) : ℝ)
      = (Attn.P (A.q h) (A.k h) r x : EReal) := by
  rw [Attn.div_coe_coe (mul_pos (Attn.Z_pos _ _ _) (Real.exp_pos _)).ne', Attn.P_of_shift]

variable {d : FVec Ideal S4x4096x4096 .f32} (hd : ∀ h r x, d (ix3 h r x) = (Attn.DP (A.v h) (A.ct h) r x : EReal))

include he hl hd in
theorem scaled_at (h : Fin 4) (r x : Fin 4096) :
    scaled d e l (ix3 h r x) = (Attn.DP (A.v h) (A.ct h) r x * Attn.P (A.q h) (A.k h) r x / (Attn.Z (A.q h) (A.k h) r * Real.exp (-M h r)) : ℝ) := by
  have hz := (mul_pos (Attn.Z_pos (A.q h) (A.k h) r) (Real.exp_pos (-M h r))).ne'
  pointwise [scaled]
  rw [he, hd, hl, ← EReal.coe_mul, ← EReal.coe_one, Attn.div_coe_coe (mul_ne_zero hz hz), ← EReal.coe_mul, ← EReal.coe_mul,
    ← Attn.P_of_shift _ _ r x (M h r)]
  congr 1
  field_simp

variable {co : FVec Ideal S4x4096 .f32} (hco : ∀ h r, co (ix2 h r) = (-(Attn.D (A.q h) (A.k h) (A.v h) (A.ct h) r / (Attn.Z (A.q h) (A.k h) r * Real.exp (-M h r))) : ℝ))

include he hl hd in
theorem corr_at (h : Fin 4) (r : Fin 4096) :
    corr (scaled d e l) (ix2 h r) = (-(Attn.D (A.q h) (A.k h) (A.v h) (A.ct h) r / (Attn.Z (A.q h) (A.k h) r * Real.exp (-M h r))) : ℝ) := by
  rw [corr_apply, Finset.sum_congr rfl fun x _ => scaled_at A M he hl hd h r x, ← Attn.coe_sum, Attn.D_eq, Finset.sum_div, EReal.coe_neg]

include he hl hd hco in
theorem dscore_at (h : Fin 4) (r x : Fin 4096) :
    dscore d e l co (ix3 h r x) = (Attn.DS (A.q h) (A.k h) (A.v h) (A.ct h) r x : EReal) := by
  have hz := (mul_pos (Attn.Z_pos (A.q h) (A.k h) r) (Real.exp_pos (-M h r))).ne'
  pointwise [dscore, mask, along]
  rw [Attn.select_le (by omega) (by omega), he, hd, hl, hco, Attn.ofBits_scale, Attn.div_coe_coe hz, ← EReal.coe_add, ← EReal.coe_mul]
  split
  · rw [← EReal.coe_mul]
    unfold Attn.DS
    rw [← Attn.P_of_shift _ _ r x (M h r)]
    congr 2
    field_simp
    ring
  · rename_i hn
    rw [Attn.DS_masked _ _ _ _ (fun h' => hn h')]
    exact EReal.coe_zero.symm

/-- 192 numbers padded to 256 lanes by the number of the word zero. -/
theorem lanes_eq (f : Fin 192 → ℝ) (x : Fin 256) :
    (if h : x.val < 192 then ((f ⟨x.val, h⟩ : ℝ) : EReal) else (FloatOps.sitofp (F := Ideal) .f32 (0#32 : BitVec 32) : EReal)) = (Attn.lanes f x : EReal) := by
  unfold Attn.lanes
  split
  · rfl
  · show (((0#32).toInt : ℝ) : EReal) = ((0 : ℝ) : EReal)
    simp

variable {ds : FVec Ideal S4x4096x4096 .f32} (hds : ∀ h r x, ds (ix3 h r x) = (Attn.DS (A.q h) (A.k h) (A.v h) (A.ct h) r x : EReal))

include hk hds in
theorem dq_at (h : Fin 4) (r : Fin 4096) (x : Fin 256) :
    dq ds k (ix3 h r x) = (Attn.lanes (Attn.dQ (A.q h) (A.k h) (A.v h) (A.ct h) r) x : EReal) := by
  pointwise [dq]
  simp only [hk, hds, ← EReal.coe_mul, ← Attn.coe_sum]
  exact lanes_eq (Attn.dQ (A.q h) (A.k h) (A.v h) (A.ct h) r) x

include hq hds in
theorem dk_at (h : Fin 4) (r : Fin 4096) (x : Fin 256) :
    dk ds q (ix3 h r x) = (Attn.lanes (Attn.dK (A.q h) (A.k h) (A.v h) (A.ct h) r) x : EReal) := by
  pointwise [dk]
  simp only [hq, hds, ← EReal.coe_mul, ← Attn.coe_sum]
  exact lanes_eq (Attn.dK (A.q h) (A.k h) (A.v h) (A.ct h) r) x

include hg he hl in
theorem dv_at (r : Fin 4096) (x : Fin 512) :
    dv g e l (ix2 r x) = (Attn.dV (A.q ⟨x.val / 128, by omega⟩) (A.k ⟨x.val / 128, by omega⟩) (A.ct ⟨x.val / 128, by omega⟩) r ⟨x.val % 128, by omega⟩ : EReal) := by
  pointwise [dv, along]
  simp only [hg, he, hl, prob_eq, ← EReal.coe_mul, ← Attn.coe_sum]
  congr 1
  exact Finset.sum_congr rfl fun i _ => mul_comm _ _

end Cert.ReferenceIdeal.Stage

end
-- ==== Proof.Ideal.HostReads.lean ====
/- What the host operations before the region leave in the six arrays the kernel reads, at an index, when every
   argument is a number: the padded heads of queries and keys, the flat values and output gradients, the logarithms of the
   softmax's normalisers and the row sums of gradient times output. -/
module

public import proofs.«01_k».proof.Proof.Gen.KernelIdeal.Frame
public import proofs.«01_k».proof.Proof.Stages
public import Idealize.ShloMosaic.Lib.StableHlo.ReadAt

@[expose] public section

set_option maxRecDepth 16384

noncomputable section

namespace Cert.KernelIdeal.Bwd

open Idealize.ShloMosaic Idealize.ShloMosaic.TcCoe
open Cert.KernelIdeal Cert.KernelIdeal.Gen
open Cert.ReferenceIdeal.Stage (scores top exps sums along)
open Attn (Args)

/-- The memory's arguments on core `c` are the numbers `A`. -/
structure Holds (m : (ℓ : Loc nD τ sig) → Buf (Elt Ideal) ℓ) (c : Dev nD) (A : Args) : Prop where
  q : ∀ r h x, m (c, Proc.tc.devRef main_arg0) (ix3 r h x) = (A.q h r x : EReal)
  k : ∀ r h x, m (c, Proc.tc.devRef main_arg1) (ix3 r h x) = (A.k h r x : EReal)
  v : ∀ r h x, m (c, Proc.tc.devRef main_arg2) (ix3 r h x) = (A.v h r x : EReal)
  ct : ∀ r h x, m (c, Proc.tc.devRef main_arg3) (ix3 r h x) = (A.ct h r x : EReal)

/-! ## The two arrays that repeat a number along a head's lanes -/

/-- The number of a head and a row, along the head's 128 lanes. -/
def flatLanes (x : FVec Ideal S4096x4 .f32) : FVec Ideal S4096x512 .f32 :=
  shapeCast _ (broadcastInDim S4096x4x128 ![0, 1, 2] bcast_S4096x4x1_S4096x4x128_0_1_2 (broadcastInDim S4096x4x1 ![0, 1] bcast_S4096x4_S4096x4x1_0_1 x))
    shapeCasts_S4096x4x128_S4096x512

theorem flatLanes_at (y : FVec Ideal S4096x4 .f32) (r : Fin 4096) (x : Fin 512) : flatLanes y (ix2 r x) = y (ix2 r ⟨x.val / 128, by omega⟩) := by
  pointwise [flatLanes]

/-- The maximum plus the logarithm of the sum, rows first. -/
def logNorm (mx l : FVec Ideal S4x4096 .f32) : FVec Ideal S4096x4 .f32 :=
  transpose S4096x4 [1, 0] (shapeCast _ (addf (broadcastInDim S4x4096x1 ![0, 1] bcast_S4x4096_S4x4096x1_0_1 mx)
    (Host.log (broadcastInDim S4x4096x1 ![0, 1] bcast_S4x4096_S4x4096x1_0_1 l))) shapeCasts_S4x4096x1_S4x4096) transposes_S4x4096_S4096x4_1_0

theorem logNorm_at (mx l : FVec Ideal S4x4096 .f32) (h : Fin 4) (r : Fin 4096) :
    logNorm mx l (ix2 r h) = mx (ix2 h r) + Ideal.log (l (ix2 h r)) := by
  pointwise [logNorm]

/-- The row sums of gradient times output. -/
def outDot (g v : FVec Ideal S4096x4x128 .f32) (p : FVec Ideal S4x4096x4096 .f32) : FVec Ideal S4096x4 .f32 :=
  Host.reduceAdd (mulf g (transpose S4096x4x128 [2, 0, 1] (Host.dotGeneral dot_S4096x4x128_S4x4096x4096_S4x128x4096_0_2_2_1_1_0 none v p)
    transposes_S4x128x4096_S4096x4x128_2_0_1)) (constant S_ FTy.f32 0#32) reducesTo_S4096x4x128_S4096x4_d2 h_S_

theorem outDot_at (g v : FVec Ideal S4096x4x128 .f32) (p : FVec Ideal S4x4096x4096 .f32) (h : Fin 4) (r : Fin 4096) :
    outDot g v p (ix2 r h) = ∑ x : Fin 128, g (ix3 r h x) * ∑ k : Fin 4096, v (ix3 k h x) * p (ix3 h r k) := by
  pointwise [outDot]

/-- The softmax. -/
def probs (e : FVec Ideal S4x4096x4096 .f32) (l : FVec Ideal S4x4096 .f32) : FVec Ideal S4x4096x4096 .f32 := Host.divf e (along l)

theorem probs_at (e : FVec Ideal S4x4096x4096 .f32) (l : FVec Ideal S4x4096 .f32) (h : Fin 4) (r k : Fin 4096) :
    probs e l (ix3 h r k) = Ideal.div (e (ix3 h r k)) (l (ix2 h r)) := by
  pointwise [probs, along]

section
variable (m : (ℓ : Loc nD τ sig) → Buf (Elt Ideal) ℓ) (c : Dev nD)

def argQ : FVec Ideal S4096x4x192 .f32 := m (c, Proc.tc.devRef main_arg0)
def argK : FVec Ideal S4096x4x192 .f32 := m (c, Proc.tc.devRef main_arg1)
def argV : FVec Ideal S4096x4x128 .f32 := m (c, Proc.tc.devRef main_arg2)
def argC : FVec Ideal S4096x4x128 .f32 := m (c, Proc.tc.devRef main_arg3)
def theTop := top (scores (argQ m c) (argK m c))
def theExps := exps (scores (argQ m c) (argK m c)) (theTop m c)
def theSums := sums (theExps m c)

theorem V37_eq : V m c main_v37 = flatLanes (logNorm (theTop m c) (theSums m c)) := by
  unfold V
  after_reads_simp
  simp -implicitDefEqProofs only [StableHlo.TRef.toBuf, StableHlo.TRef.ofBuf, cast_cast, cast_eq]
  rfl

theorem V42_eq : V m c main_v42 = flatLanes (outDot (argC m c) (argV m c) (probs (theExps m c) (theSums m c))) := by
  unfold V
  after_reads_simp
  simp -implicitDefEqProofs only [StableHlo.TRef.toBuf, StableHlo.TRef.ofBuf, cast_cast, cast_eq]
  rfl
end

variable {m : (ℓ : Loc nD τ sig) → Buf (Elt Ideal) ℓ} {c : Dev nD} {A : Args} (hm : Holds m c A)
include hm

theorem exps_sums : ∃ M : Fin 4 → Fin 4096 → ℝ, (∀ h r, theTop m c (ix2 h r) = (M h r : EReal)) ∧
    (∀ h r x, theExps m c (ix3 h r x) = (Attn.W (A.q h) (A.k h) r x * Real.exp (-M h r) : ℝ)) ∧
    (∀ h r, theSums m c (ix2 h r) = (Attn.Z (A.q h) (A.k h) r * Real.exp (-M h r) : ℝ)) := by
  obtain ⟨M, hM⟩ := Cert.ReferenceIdeal.Stage.top_at A (q := argQ m c) (k := argK m c) hm.q hm.k
  have he := Cert.ReferenceIdeal.Stage.exps_at A M (q := argQ m c) (k := argK m c) hm.q hm.k (mx := theTop m c) hM
  exact ⟨M, hM, he, Cert.ReferenceIdeal.Stage.sums_at A M he⟩

theorem V_q (h : Fin 4) (r : Fin 4096) (x : Fin 256) : V m c main_v29 (ix3 h r x) = (Attn.lanes (A.q h r) x : EReal) := by
  unfold V
  after_reads_at
  simp only [hm.q]
  exact Cert.ReferenceIdeal.Stage.lanes_eq (A.q h r) x

theorem V_k (h : Fin 4) (r : Fin 4096) (x : Fin 256) : V m c main_v32 (ix3 h r x) = (Attn.lanes (A.k h r) x : EReal) := by
  unfold V
  after_reads_at
  simp only [hm.k]
  exact Cert.ReferenceIdeal.Stage.lanes_eq (A.k h r) x

theorem V_v (r : Fin 4096) (x : Fin 512) : V m c main_v34 (ix2 r x) = (A.v ⟨x.val / 128, by omega⟩ r ⟨x.val % 128, by omega⟩ : EReal) := by
  unfold V
  after_reads_at
  exact hm.v _ _ _

theorem V_ct (r : Fin 4096) (x : Fin 512) : V m c main_v39 (ix2 r x) = (A.ct ⟨x.val / 128, by omega⟩ r ⟨x.val % 128, by omega⟩ : EReal) := by
  unfold V
  after_reads_at
  exact hm.ct _ _ _

theorem V_lse (r : Fin 4096) (x : Fin 512) :
    V m c main_v37 (ix2 r x) = (Real.log (Attn.Z (A.q ⟨x.val / 128, by omega⟩) (A.k ⟨x.val / 128, by omega⟩) r) : EReal) := by
  obtain ⟨M, hM, -, hl⟩ := exps_sums hm
  have hz := Attn.Z_pos (A.q ⟨x.val / 128, by omega⟩) (A.k ⟨x.val / 128, by omega⟩) r
  rw [V37_eq, flatLanes_at, logNorm_at, hM, hl, Attn.log_coe_pos (mul_pos hz (Real.exp_pos _)), ← EReal.coe_add,
    Real.log_mul hz.ne' (Real.exp_pos _).ne', Real.log_exp]
  congr 1
  ring

theorem V_dl (r : Fin 4096) (x : Fin 512) :
    V m c main_v42 (ix2 r x) = (Attn.D (A.q ⟨x.val / 128, by omega⟩) (A.k ⟨x.val / 128, by omega⟩) (A.v ⟨x.val / 128, by omega⟩)
      (A.ct ⟨x.val / 128, by omega⟩) r : EReal) := by
  obtain ⟨M, -, he, hl⟩ := exps_sums hm
  rw [V42_eq, flatLanes_at, outDot_at]
  simp only [probs_at, he, hl, Cert.ReferenceIdeal.Stage.prob_eq]
  have hv : ∀ r h x, argV m c (ix3 r h x) = (A.v h r x : EReal) := hm.v
  have hg : ∀ r h x, argC m c (ix3 r h x) = (A.ct h r x : EReal) := hm.ct
  simp only [hv, hg, ← EReal.coe_mul, ← Attn.coe_sum]
  rfl

end Cert.KernelIdeal.Bwd

end
-- ==== Proof.Finite.lean ====
/- The precondition, read: where `finite` holds of the four arguments each of their entries is a real number. -/
module

public import proofs.«01_k».proof.Defs
public import proofs.«01_k».proof.Proof.Gen.Pre_finite
public import proofs.«01_k».proof.Proof.Ideal.HostReads
public import Idealize.ShloMosaic.Lib.ReduceAll
public import Idealize.ShloMosaic.Lib.Pointwise

@[expose] public section

set_option maxRecDepth 16384

noncomputable section

namespace Cert.Finite

open Idealize.ShloMosaic Idealize.ShloMosaic.TcCoe
open Cert.Pre_finite Cert.Pre_finite.Gen

/-- An array all of whose absolute values compare below infinity. -/
theorem real_of_all {S : Shape} {axes : List (Fin S.rank)} (x : FVec Ideal S .f32) (b : FVec Ideal S .f32) (hb : ∀ i, b i = (⊤ : EReal))
    (init : IVec S_ 1) (hr : S.ReducesTo axes S_) (hu : 0 < S_.numel) (j : S_.Idx)
    (e : Host.reduce IntOp.andi (cmpf .olt (Host.absf x) b) init hr hu j = 1#1) (i : S.Idx) : ∃ r : ℝ, x i = (r : EReal) := by
  have h := Host.reduce_andi_all _ _ _ _ _ e i
  have h' : Ideal.cmp .olt (max (x i) (-(x i))) (b i) = 1#1 := h
  rw [hb i] at h'
  generalize x i = z at h' ⊢
  have lt : max z (-z) < ⊤ := by
    by_contra hn
    rw [Ideal.cmp] at h'
    simp only [hn, decide_false] at h'
    exact absurd h' (by decide)
  rcases max_lt_iff.1 lt with ⟨hz, hz'⟩
  refine ⟨z.toReal, (EReal.coe_toReal (ne_of_lt hz) fun e => ?_).symm⟩
  rw [e] at hz'
  exact absurd hz' (by simp)

/-- The precondition holds: every entry of the four arguments is a number. -/
theorem reals (q k : FVec Ideal S4096x4x192 .f32) (v g : FVec Ideal S4096x4x128 .f32) (h : fn (F := Ideal) q k v g = fun _ => 1#1) :
    (∀ i, ∃ r : ℝ, q i = (r : EReal)) ∧ (∀ i, ∃ r : ℝ, k i = (r : EReal)) ∧ (∀ i, ∃ r : ℝ, v i = (r : EReal)) ∧ (∀ i, ∃ r : ℝ, g i = (r : EReal)) := by
  have h0 := congrFun h ix0
  dsimp only [fn, fn_part1] at h0
  obtain ⟨h1, hg⟩ := IntOp.andi_eq_one.1 h0
  obtain ⟨h2, hv⟩ := IntOp.andi_eq_one.1 h1
  obtain ⟨hq, hk⟩ := IntOp.andi_eq_one.1 h2
  exact ⟨real_of_all q _ (fun _ => rfl) _ _ _ _ hq, real_of_all k _ (fun _ => rfl) _ _ _ _ hk,
    real_of_all v _ (fun _ => rfl) _ _ _ _ hv, real_of_all g _ (fun _ => rfl) _ _ _ _ hg⟩

end Cert.Finite

end
-- ==== Proof.RefValue.lean ====
/- The reference's three results, at an index, where its arguments are numbers: the gradients of queries, keys and values. -/
module

public import proofs.«01_k».proof.Proof.Stages

@[expose] public section

set_option maxRecDepth 16384

noncomputable section

namespace Cert.ReferenceIdeal.Value

open Idealize.ShloMosaic Idealize.ShloMosaic.TcCoe
open Cert.ReferenceIdeal Cert.ReferenceIdeal.Gen Cert.ReferenceIdeal.Stage

variable (m : (ℓ : Loc nD τ sig) → Buf (Elt Ideal) ℓ) (c : Dev nD)

/-- The arguments. -/
def argQ : FVec Ideal S4096x4x192 .f32 := m ((c.tc : Thread nD τ).loc main_arg0)
def argK : FVec Ideal S4096x4x192 .f32 := m ((c.tc : Thread nD τ).loc main_arg1)
def argV : FVec Ideal S4096x4x128 .f32 := m ((c.tc : Thread nD τ).loc main_arg2)
def argC : FVec Ideal S4096x4x128 .f32 := m ((c.tc : Thread nD τ).loc main_arg3)

/-- The exponentials, their sums and the gradient of the scores, of the arguments. -/
def theExps := exps (scores (argQ m c) (argK m c)) (again (top (scores (argQ m c) (argK m c))))
def theSums := sums (theExps m c)
def theDs := dscore (dprob (argV m c) (argC m c)) (theExps m c) (theSums m c)
  (corr (scaled (dprob (argV m c) (argC m c)) (theExps m c) (theSums m c)))

theorem res65_eq : res_main_v65 m c = dq (theDs m c) (argK m c) := by
  unfold res_main_v65; rfl

theorem res67_eq : res_main_v67 m c = dk (theDs m c) (argQ m c) := by
  unfold res_main_v67; rfl

theorem res68_eq : res_main_v68 m c = dv (argC m c) (theExps m c) (theSums m c) := by
  unfold res_main_v68; rfl

open Attn (Args)

variable {m c} {A : Args} (hq : ∀ r h x, argQ m c (ix3 r h x) = (A.q h r x : EReal)) (hk : ∀ r h x, argK m c (ix3 r h x) = (A.k h r x : EReal))
variable (hv : ∀ r h x, argV m c (ix3 r h x) = (A.v h r x : EReal)) (hg : ∀ r h x, argC m c (ix3 r h x) = (A.ct h r x : EReal))

include hq hk in
theorem exps_sums : ∃ M : Fin 4 → Fin 4096 → ℝ,
    (∀ h r x, theExps m c (ix3 h r x) = (Attn.W (A.q h) (A.k h) r x * Real.exp (-M h r) : ℝ)) ∧
    (∀ h r, theSums m c (ix2 h r) = (Attn.Z (A.q h) (A.k h) r * Real.exp (-M h r) : ℝ)) := by
  obtain ⟨M, hM⟩ := top_at A hq hk
  have he := exps_at A M hq hk (mx := again (top (scores (argQ m c) (argK m c)))) fun h r => by rw [again_apply, hM]
  exact ⟨M, he, sums_at A M he⟩

include hq hk hv hg

theorem ds_at (h r x) : theDs m c (ix3 h r x) = (Attn.DS (A.q h) (A.k h) (A.v h) (A.ct h) r x : EReal) := by
  obtain ⟨M, he, hl⟩ := exps_sums hq hk
  exact dscore_at A M he hl (dprob_at A hv hg) (corr_at A M he hl (dprob_at A hv hg)) h r x

theorem res65_at (h : Fin 4) (r : Fin 4096) (x : Fin 256) :
    res_main_v65 m c (ix3 h r x) = (Attn.lanes (Attn.dQ (A.q h) (A.k h) (A.v h) (A.ct h) r) x : EReal) := by
  rw [res65_eq]
  exact dq_at A hk (ds_at hq hk hv hg) h r x

theorem res67_at (h : Fin 4) (r : Fin 4096) (x : Fin 256) :
    res_main_v67 m c (ix3 h r x) = (Attn.lanes (Attn.dK (A.q h) (A.k h) (A.v h) (A.ct h) r) x : EReal) := by
  rw [res67_eq]
  exact dk_at A hq (ds_at hq hk hv hg) h r x

omit hv in
theorem res68_at (r : Fin 4096) (x : Fin 512) :
    res_main_v68 m c (ix2 r x)
      = (Attn.dV (A.q ⟨x.val / 128, by omega⟩) (A.k ⟨x.val / 128, by omega⟩) (A.ct ⟨x.val / 128, by omega⟩) r ⟨x.val % 128, by omega⟩ : EReal) := by
  obtain ⟨M, he, hl⟩ := exps_sums hq hk
  rw [res68_eq]
  exact dv_at A M hg he hl r x

end Cert.ReferenceIdeal.Value

end
-- ==== Proof.Ideal.Tiles.lean ====
/- One point's arithmetic over the reals: where the six blocks of a point hold a query tile and a key tile of a head, the
   body's products add that tile's share of the three gradients. -/
module

public import proofs.«01_k».proof.Proof.Ideal.Step
public import proofs.«01_k».proof.Proof.Attn
public import Idealize.ShloMosaic.Lib.Pointwise

@[expose] public section

set_option maxRecDepth 16384

noncomputable section

namespace Cert.KernelIdeal.Bwd

open Idealize.ShloMosaic
open Cert.KernelIdeal Cert.KernelIdeal.Gen
open Attn (Args)

/-- Row `a` of tile `i`. -/
def row (i : Fin 4) (a : Fin 1024) : Fin 4096 := ⟨i.val * 1024 + a.val, by omega⟩

/-- The blocks hold query tile `i` and key tile `j` of head `h`. -/
structure Tile (A : Args) (h i j : Fin 4) (b : Blk Ideal) : Prop where
  q : ∀ a x, b.q (ix3 0 a x) = (Attn.lanes (A.q h (row i a)) x : EReal)
  k : ∀ a x, b.k (ix3 0 a x) = (Attn.lanes (A.k h (row j a)) x : EReal)
  v : ∀ a x, b.v (ix2 a x) = (A.v h (row j a) x : EReal)
  lse : ∀ a, b.lse (ix2 a 0) = (Real.log (Attn.Z (A.q h) (A.k h) (row i a)) : EReal)
  ct : ∀ a x, b.ct (ix2 a x) = (A.ct h (row i a) x : EReal)
  dl : ∀ a, b.dl (ix2 a 0) = (Attn.D (A.q h) (A.k h) (A.v h) (A.ct h) (row i a) : EReal)

/-- The products of 256 padded lanes are those of the 192. -/
theorem dot_lanes (f g : Fin 192 → ℝ) : ∑ x : Fin 256, Attn.lanes f x * Attn.lanes g x = ∑ x, f x * g x := by
  rw [← Attn.sum_lanes]
  refine Finset.sum_congr rfl fun x _ => ?_
  unfold Attn.lanes
  split
  · rfl
  · exact mul_zero _

theorem col_apply (x : Vec Ideal S1024x128 .f32) (a : Fin 1024) : col x (ix2 a 0) = x (ix2 a 0) := by
  unfold col VecWindow.window
  congr 1
  funext d
  refine Fin.ext ?_
  fin_cases d
  · show 0 + 1 * a.val = a.val
    omega
  · rfl

section

variable {A : Args} {h i j : Fin 4} {b : Blk Ideal} (T : Tile A h i j b)

/-- The masked score's weight. -/
theorem weight (a y : Fin 1024) :
    Ideal.exp ((if (row j y).val ≤ (row i a).val then (Attn.S (A.q h) (A.k h) (row i a) (row j y) : EReal) else ⊥)
      - (Real.log (Attn.Z (A.q h) (A.k h) (row i a)) : EReal)) = (Attn.P (A.q h) (A.k h) (row i a) (row j y) : EReal) := by
  rw [Attn.exp_masked, Real.exp_neg, Real.exp_log (Attn.Z_pos _ _ _)]
  rfl

include T

theorem p_below (hij : j < i) (a y : Fin 1024) :
    k0_pay13 b.q b.k (col b.lse) (ix2 a y) = (Attn.P (A.q h) (A.k h) (row i a) (row j y) : EReal) := by
  pointwise [k0_pay13, k0_pay10, k0_pay11]
  rw [col_apply]
  simp only [T.q, T.k, T.lse, Attn.ofBits_scale, ← EReal.coe_mul, ← Attn.coe_sum, dot_lanes]
  refine Eq.trans ?_ (weight a y)
  rw [if_pos (by show j.val * 1024 + y.val ≤ i.val * 1024 + a.val; have : j.val < i.val := hij; omega)]
  rfl

theorem ds_below (hij : j < i) (a y : Fin 1024) :
    k0_pay14 b.q b.k b.ct (col b.lse) b.v (col b.dl) (ix2 a y)
      = (Attn.DS (A.q h) (A.k h) (A.v h) (A.ct h) (row i a) (row j y) : EReal) := by
  pointwise [k0_pay14, k0_pay12]
  rw [col_apply, p_below T hij]
  simp only [T.ct, T.v, T.dl, Attn.ofBits_scale, ← EReal.coe_mul, ← EReal.coe_sub, ← Attn.coe_sum]
  rfl

theorem p_crossing (a y : Fin 1024) :
    k0_pay19 (BitVec.ofNat 32 j.val) (BitVec.ofNat 32 i.val) b.q b.k (col b.lse) (ix2 a y)
      = (Attn.P (A.q h) (A.k h) (row i a) (row j y) : EReal) := by
  have e : ∀ (x : Fin 1024) (n : Fin 4), IntOp.addi (BitVec.ofNat 32 x.val) (IntOp.muli (BitVec.ofNat 32 n.val) 1024#32)
      = BitVec.ofNat 32 (row n x).val := fun x n => by
    show BitVec.ofNat 32 x.val + BitVec.ofNat 32 n.val * 1024#32 = BitVec.ofNat 32 (n.val * 1024 + x.val)
    rw [BitVec.ofNat_add, BitVec.ofNat_mul, BitVec.add_comm]
  pointwise [k0_pay19, k0_pay16, k0_pay17]
  rw [col_apply]
  simp only [T.q, T.k, T.lse, Attn.ofBits_scale, ← EReal.coe_mul, ← Attn.coe_sum, dot_lanes]
  refine Eq.trans ?_ (weight a y)
  congr 2
  exact (congrArg₂ (fun u v => Scalar.select (IntOp.cmpi .sle u v) _ _) (e y j) (e a i)).trans (Attn.select_le (by omega) (by omega) _ _)

theorem ds_crossing (a y : Fin 1024) :
    k0_pay20 (BitVec.ofNat 32 j.val) (BitVec.ofNat 32 i.val) b.q b.k b.ct (col b.lse) b.v (col b.dl) (ix2 a y)
      = (Attn.DS (A.q h) (A.k h) (A.v h) (A.ct h) (row i a) (row j y) : EReal) := by
  pointwise [k0_pay20, k0_pay18]
  rw [col_apply, p_crossing T]
  simp only [T.ct, T.v, T.dl, Attn.ofBits_scale, ← EReal.coe_mul, ← EReal.coe_sub, ← Attn.coe_sum]
  rfl

end

/-! ## The six products -/

/-- A tile's share of the gradients of keys, values and queries. -/
def tileK (A : Args) (h i j : Fin 4) (y : Fin 1024) (d : Fin 256) : ℝ :=
  ∑ a, Attn.DS (A.q h) (A.k h) (A.v h) (A.ct h) (row i a) (row j y) * Attn.lanes (A.q h (row i a)) d
def tileV (A : Args) (h i j : Fin 4) (y : Fin 1024) (d : Fin 128) : ℝ :=
  ∑ a, Attn.P (A.q h) (A.k h) (row i a) (row j y) * A.ct h (row i a) d
def tileQ (A : Args) (h i j : Fin 4) (a : Fin 1024) (d : Fin 256) : ℝ :=
  ∑ y, Attn.DS (A.q h) (A.k h) (A.v h) (A.ct h) (row i a) (row j y) * Attn.lanes (A.k h (row j y)) d

section

variable {A : Args} {h i j : Fin 4} {b : Blk Ideal} (T : Tile A h i j b)
include T

theorem dk_below (hij : j < i) (s : Vec Ideal S1024x256 .f32) (y : Fin 1024) (d : Fin 256) (f : ℝ) (hs : s (ix2 y d) = (f : EReal)) :
    k0_pay4 (k0_pay10 b.q) (k0_pay14 b.q b.k b.ct (col b.lse) b.v (col b.dl)) s (constant S1024x256 .f32 0x00000000#32) (ix2 y d)
      = ((f + tileK A h i j y d : ℝ) : EReal) := by
  pointwise [k0_pay4, k0_pay10]
  simp only [ds_below T hij, T.q, hs, ← EReal.coe_mul, ← EReal.coe_add, ← Attn.coe_sum]
  rfl

theorem dk_crossing (s : Vec Ideal S1024x256 .f32) (y : Fin 1024) (d : Fin 256) (f : ℝ) (hs : s (ix2 y d) = (f : EReal)) :
    k0_pay7 (k0_pay16 b.q) (k0_pay20 (BitVec.ofNat 32 j.val) (BitVec.ofNat 32 i.val) b.q b.k b.ct (col b.lse) b.v (col b.dl)) s (ix2 y d)
      = ((f + tileK A h i j y d : ℝ) : EReal) := by
  pointwise [k0_pay7, k0_pay16]
  simp only [ds_crossing T, T.q, hs, ← EReal.coe_mul, ← EReal.coe_add, ← Attn.coe_sum]
  rfl

theorem dv_below (hij : j < i) (s : Vec Ideal S1024x128 .f32) (y : Fin 1024) (d : Fin 128) (f : ℝ) (hs : s (ix2 y d) = (f : EReal)) :
    k0_pay15 b.q b.k b.ct (col b.lse) s (ix2 y d) = ((f + tileV A h i j y d : ℝ) : EReal) := by
  pointwise [k0_pay15, k0_pay12]
  simp only [p_below T hij, T.ct, hs, ← EReal.coe_mul, ← EReal.coe_add, ← Attn.coe_sum]
  rfl

theorem dv_crossing (s : Vec Ideal S1024x128 .f32) (y : Fin 1024) (d : Fin 128) (f : ℝ) (hs : s (ix2 y d) = (f : EReal)) :
    k0_pay6 (k0_pay18 b.ct) (k0_pay19 (BitVec.ofNat 32 j.val) (BitVec.ofNat 32 i.val) b.q b.k (col b.lse)) s (ix2 y d)
      = ((f + tileV A h i j y d : ℝ) : EReal) := by
  pointwise [k0_pay6, k0_pay18]
  simp only [p_crossing T, T.ct, hs, ← EReal.coe_mul, ← EReal.coe_add, ← Attn.coe_sum]
  rfl

theorem dq_below (hij : j < i) (s : Vec Ideal S1x1024x256 .f32) (a : Fin 1024) (d : Fin 256) (f : ℝ) (hs : s (ix3 0 a d) = (f : EReal)) :
    k0_pay5 (k0_pay11 b.k) (k0_pay14 b.q b.k b.ct (col b.lse) b.v (col b.dl)) s (ix3 0 a d) = ((f + tileQ A h i j a d : ℝ) : EReal) := by
  pointwise [k0_pay5, k0_pay11]
  simp only [ds_below T hij, T.k, hs, ← EReal.coe_mul, ← EReal.coe_add, ← Attn.coe_sum]
  rfl

theorem dq_crossing (s : Vec Ideal S1x1024x256 .f32) (a : Fin 1024) (d : Fin 256) (f : ℝ) (hs : s (ix3 0 a d) = (f : EReal)) :
    k0_pay8 (k0_pay17 b.k) (k0_pay20 (BitVec.ofNat 32 j.val) (BitVec.ofNat 32 i.val) b.q b.k b.ct (col b.lse) b.v (col b.dl)) s (ix3 0 a d)
      = ((f + tileQ A h i j a d : ℝ) : EReal) := by
  pointwise [k0_pay8, k0_pay17]
  simp only [ds_crossing T, T.k, hs, ← EReal.coe_mul, ← EReal.coe_add, ← Attn.coe_sum]
  rfl

end

/-! ## Cleared accumulators -/

theorem pay1_at (r : Fin 4096) (d : Fin 256) : k0_pay1 (F := Ideal) (ix3 0 r d) = ((0 : ℝ) : EReal) := by
  pointwise [k0_pay1]
  try simp
theorem pay2_at (r : Fin 1024) (d : Fin 256) : k0_pay2 (F := Ideal) (ix2 r d) = ((0 : ℝ) : EReal) := by
  pointwise [k0_pay2]
  try simp
theorem pay3_at (r : Fin 1024) (d : Fin 128) : k0_pay3 (F := Ideal) (ix2 r d) = ((0 : ℝ) : EReal) := by
  pointwise [k0_pay3]
  try simp
theorem pay9_at (x : Vec Ideal S1024x256 .f32) (r : Fin 1024) (d : Fin 256) : k0_pay9 x (ix3 0 r d) = x (ix2 r d) := by
  pointwise [k0_pay9]

/-! ## No key of a tile above the diagonal counts -/

theorem tile_masked {i j : Fin 4} (hij : i < j) (a y : Fin 1024) : ¬row j y ≤ row i a := by
  show ¬j.val * 1024 + y.val ≤ i.val * 1024 + a.val
  have : i.val < j.val := hij
  omega

theorem tileK_masked (A : Args) (h : Fin 4) {i j : Fin 4} (hij : i < j) (y d) : tileK A h i j y d = 0 :=
  Finset.sum_eq_zero fun a _ => by rw [Attn.DS_masked _ _ _ _ (tile_masked hij a y), zero_mul]
theorem tileV_masked (A : Args) (h : Fin 4) {i j : Fin 4} (hij : i < j) (y d) : tileV A h i j y d = 0 :=
  Finset.sum_eq_zero fun a _ => by rw [Attn.P_masked _ _ (tile_masked hij a y), zero_mul]
theorem tileQ_masked (A : Args) (h : Fin 4) {i j : Fin 4} (hij : i < j) (a d) : tileQ A h i j a d = 0 :=
  Finset.sum_eq_zero fun y _ => by rw [Attn.DS_masked _ _ _ _ (tile_masked hij a y), zero_mul]

/-- A sum over the rows is one over tiles and rows of a tile. -/
theorem sum_rows (f : Fin 4096 → ℝ) : ∑ i : Fin 4, ∑ a : Fin 1024, f (row i a) = ∑ r, f r := by
  rw [← Fintype.sum_prod_type']
  refine Fintype.sum_equiv (finProdFinEquiv (m := 4) (n := 1024)) _ _ fun x => congrArg f (Fin.ext ?_)
  show x.1.val * 1024 + x.2.val = x.2.val + 1024 * x.1.val
  omega

theorem sum_tileK (A : Args) (h j : Fin 4) (y d) : ∑ i, tileK A h i j y d = Attn.lanes (Attn.dK (A.q h) (A.k h) (A.v h) (A.ct h) (row j y)) d := by
  unfold tileK
  rw [sum_rows fun r => Attn.DS (A.q h) (A.k h) (A.v h) (A.ct h) r (row j y) * Attn.lanes (A.q h r) d]
  unfold Attn.lanes
  split
  · rfl
  · exact Finset.sum_eq_zero fun _ _ => mul_zero _
theorem sum_tileV (A : Args) (h j : Fin 4) (y d) : ∑ i, tileV A h i j y d = Attn.dV (A.q h) (A.k h) (A.ct h) (row j y) d := by
  unfold tileV
  rw [sum_rows fun r => Attn.P (A.q h) (A.k h) r (row j y) * A.ct h r d]
  rfl
theorem sum_tileQ (A : Args) (h i : Fin 4) (a d) : ∑ j, tileQ A h i j a d = Attn.lanes (Attn.dQ (A.q h) (A.k h) (A.v h) (A.ct h) (row i a)) d := by
  unfold tileQ
  rw [sum_rows fun k => Attn.DS (A.q h) (A.k h) (A.v h) (A.ct h) (row i a) k * Attn.lanes (A.k h k) d]
  unfold Attn.lanes
  split
  · rfl
  · exact Finset.sum_eq_zero fun _ _ => mul_zero _

end Cert.KernelIdeal.Bwd

end
-- ==== Proof.Ideal.Carry.lean ====
/- What the grid points carry, over the reals: after the point (head h, key tile j, query tile i) with i ≥ j the two
   scratch buffers hold the shares of the query tiles up to i of the gradients of key tile j, and the query gradient's buffer
   holds, for every query tile, the shares of the key tiles already met. -/
module

public import proofs.«01_k».proof.Proof.Ideal.Tiles
public import proofs.«01_k».proof.Proof.Ideal.HostReads
public import proofs.«01_k».proof.Proof.Ideal.Launch
public import Idealize.ShloMosaic.Lib.Pipeline.ValueKit

@[expose] public section

set_option maxRecDepth 16384

noncomputable section

namespace Cert.KernelIdeal.Bwd

open Idealize.ShloMosaic Idealize.ShloMosaic.TcCoe
open Cert.KernelIdeal Cert.KernelIdeal.Gen
open Attn (Args)

/-! ## The blocks of a point -/

/-- The head, the key tile and the query tile of point `t`. -/
def hd (t : Fin cfg0.N) : Fin 4 := ⟨t.val / 16, by have : t.val < 64 := t.isLt; omega⟩
def kt (t : Fin cfg0.N) : Fin 4 := ⟨t.val / 4 % 4, by omega⟩
def qt (t : Fin cfg0.N) : Fin 4 := ⟨t.val % 4, by omega⟩

theorem coords_1 : ∀ t : Fin cfg0.N, (grid0.coords t 1).val = (kt t).val :=
  (by decide +kernel : ∀ t : Fin grid0.N, (grid0.coords t 1).val = t.val / 4 % 4)
theorem coords_2 : ∀ t : Fin cfg0.N, (grid0.coords t 2).val = (qt t).val :=
  (by decide +kernel : ∀ t : Fin grid0.N, (grid0.coords t 2).val = t.val % 4)

/-- Where the six inputs' blocks of point `t` lie. -/
theorem at_0 : ∀ t, t.val / 4 % 4 ≤ t.val % 4 → win0_0.index t = ![t.val / 16, t.val % 4, 0] := by decide +kernel
theorem at_1 : ∀ t, win0_1.index t = ![t.val / 16, t.val / 4 % 4, 0] := by decide +kernel
theorem at_2 : ∀ t, win0_2.index t = ![t.val / 4 % 4, t.val / 16] := by decide +kernel
theorem at_3 : ∀ t, t.val / 4 % 4 ≤ t.val % 4 → win0_3.index t = ![t.val % 4, t.val / 16] := by decide +kernel
theorem at_4 : ∀ t, t.val / 4 % 4 ≤ t.val % 4 → win0_4.index t = ![t.val % 4, t.val / 16] := by decide +kernel
theorem at_5 : ∀ t, t.val / 4 % 4 ≤ t.val % 4 → win0_5.index t = ![t.val % 4, t.val / 16] := by decide +kernel

/-- Lane `x` of head `h` among the 512. -/
def lane (h : Fin 4) (x : Fin 128) : Fin 512 := ⟨h.val * 128 + x.val, by omega⟩

theorem lane_div (h : Fin 4) (x : Fin 128) : (⟨(lane h x).val / 128, by omega⟩ : Fin 4) = h :=
  Fin.ext (by show (h.val * 128 + x.val) / 128 = h.val; omega)
theorem lane_mod (h : Fin 4) (x : Fin 128) : (⟨(lane h x).val % 128, by omega⟩ : Fin 128) = x :=
  Fin.ext (by show (h.val * 128 + x.val) % 128 = x.val; omega)

/-! A block of an array, at an index, is the array at the block's place. -/

section
variable {c : Dev nD}
theorem cut_0 (f : Buf (Elt Ideal) ((c.tc : Thread nD τ).loc main_v29)) (t : Fin cfg0.N) (ht : t.val / 4 % 4 ≤ t.val % 4) (a : Fin 1024) (x : Fin 256) :
    ((cfg0.win 0).blk t).view.read (Elt Ideal) f (ix3 0 a x) = f (ix3 (hd t) (row (qt t) a) x) := by
  unfold hd row qt
  blk_ext [at_0 t ht]
theorem cut_1 (f : Buf (Elt Ideal) ((c.tc : Thread nD τ).loc main_v32)) (t : Fin cfg0.N) (a : Fin 1024) (x : Fin 256) :
    ((cfg0.win 1).blk t).view.read (Elt Ideal) f (ix3 0 a x) = f (ix3 (hd t) (row (kt t) a) x) := by
  unfold hd row kt
  blk_ext [at_1 t]
theorem cut_2 (f : Buf (Elt Ideal) ((c.tc : Thread nD τ).loc main_v34)) (t : Fin cfg0.N) (a : Fin 1024) (x : Fin 128) :
    ((cfg0.win 2).blk t).view.read (Elt Ideal) f (ix2 a x) = f (ix2 (row (kt t) a) (lane (hd t) x)) := by
  unfold hd row kt lane
  blk_ext [at_2 t]
theorem cut_3 (f : Buf (Elt Ideal) ((c.tc : Thread nD τ).loc main_v37)) (t : Fin cfg0.N) (ht : t.val / 4 % 4 ≤ t.val % 4) (a : Fin 1024) (x : Fin 128) :
    ((cfg0.win 3).blk t).view.read (Elt Ideal) f (ix2 a x) = f (ix2 (row (qt t) a) (lane (hd t) x)) := by
  unfold hd row qt lane
  blk_ext [at_3 t ht]
theorem cut_4 (f : Buf (Elt Ideal) ((c.tc : Thread nD τ).loc main_v39)) (t : Fin cfg0.N) (ht : t.val / 4 % 4 ≤ t.val % 4) (a : Fin 1024) (x : Fin 128) :
    ((cfg0.win 4).blk t).view.read (Elt Ideal) f (ix2 a x) = f (ix2 (row (qt t) a) (lane (hd t) x)) := by
  unfold hd row qt lane
  blk_ext [at_4 t ht]
theorem cut_5 (f : Buf (Elt Ideal) ((c.tc : Thread nD τ).loc main_v42)) (t : Fin cfg0.N) (ht : t.val / 4 % 4 ≤ t.val % 4) (a : Fin 1024) (x : Fin 128) :
    ((cfg0.win 5).blk t).view.read (Elt Ideal) f (ix2 a x) = f (ix2 (row (qt t) a) (lane (hd t) x)) := by
  unfold hd row qt lane
  blk_ext [at_5 t ht]
end

section
variable {m : (ℓ : Loc nD τ sig) → Buf (Elt Ideal) ℓ} {c : Dev nD} {A : Args} (hm : Holds m c A)
include hm

omit hm in
theorem read_0 (t : Fin cfg0.N) (ht : t.val / 4 % 4 ≤ t.val % 4) (a : Fin 1024) (x : Fin 256) : iblk m c 0 t (ix3 0 a x) = V m c main_v29 (ix3 (hd t) (row (qt t) a) x) := by
  unfold iblk; exact cut_0 (V m c main_v29) t ht a x
omit hm in
theorem read_1 (t : Fin cfg0.N) (a : Fin 1024) (x : Fin 256) : iblk m c 1 t (ix3 0 a x) = V m c main_v32 (ix3 (hd t) (row (kt t) a) x) := by
  unfold iblk; exact cut_1 (V m c main_v32) t a x
omit hm in
theorem read_2 (t : Fin cfg0.N) (a : Fin 1024) (x : Fin 128) : iblk m c 2 t (ix2 a x) = V m c main_v34 (ix2 (row (kt t) a) (lane (hd t) x)) := by
  unfold iblk; exact cut_2 (V m c main_v34) t a x
omit hm in
theorem read_3 (t : Fin cfg0.N) (ht : t.val / 4 % 4 ≤ t.val % 4) (a : Fin 1024) (x : Fin 128) : iblk m c 3 t (ix2 a x) = V m c main_v37 (ix2 (row (qt t) a) (lane (hd t) x)) := by
  unfold iblk; exact cut_3 (V m c main_v37) t ht a x
omit hm in
theorem read_4 (t : Fin cfg0.N) (ht : t.val / 4 % 4 ≤ t.val % 4) (a : Fin 1024) (x : Fin 128) : iblk m c 4 t (ix2 a x) = V m c main_v39 (ix2 (row (qt t) a) (lane (hd t) x)) := by
  unfold iblk; exact cut_4 (V m c main_v39) t ht a x
omit hm in
theorem read_5 (t : Fin cfg0.N) (ht : t.val / 4 % 4 ≤ t.val % 4) (a : Fin 1024) (x : Fin 128) : iblk m c 5 t (ix2 a x) = V m c main_v42 (ix2 (row (qt t) a) (lane (hd t) x)) := by
  unfold iblk; exact cut_5 (V m c main_v42) t ht a x

theorem has_0 (t : Fin cfg0.N) (ht : t.val / 4 % 4 ≤ t.val % 4) (a : Fin 1024) (x : Fin 256) :
    iblk m c 0 t (ix3 0 a x) = (Attn.lanes (A.q (hd t) (row (qt t) a)) x : EReal) := by
  rw [read_0 t ht a x]; exact V_q hm _ _ _
theorem has_1 (t : Fin cfg0.N) (a : Fin 1024) (x : Fin 256) :
    iblk m c 1 t (ix3 0 a x) = (Attn.lanes (A.k (hd t) (row (kt t) a)) x : EReal) := by
  rw [read_1 t a x]; exact V_k hm _ _ _
theorem has_2 (t : Fin cfg0.N) (a : Fin 1024) (x : Fin 128) : iblk m c 2 t (ix2 a x) = (A.v (hd t) (row (kt t) a) x : EReal) := by
  rw [read_2 t a x]; exact (V_v hm _ _).trans (by rw [lane_div, lane_mod])
theorem has_3 (t : Fin cfg0.N) (ht : t.val / 4 % 4 ≤ t.val % 4) (a : Fin 1024) (x : Fin 128) :
    iblk m c 3 t (ix2 a x) = (Real.log (Attn.Z (A.q (hd t)) (A.k (hd t)) (row (qt t) a)) : EReal) := by
  rw [read_3 t ht a x]; exact (V_lse hm _ _).trans (by rw [lane_div])
theorem has_4 (t : Fin cfg0.N) (ht : t.val / 4 % 4 ≤ t.val % 4) (a : Fin 1024) (x : Fin 128) :
    iblk m c 4 t (ix2 a x) = (A.ct (hd t) (row (qt t) a) x : EReal) := by
  rw [read_4 t ht a x]; exact (V_ct hm _ _).trans (by rw [lane_div, lane_mod])
theorem has_5 (t : Fin cfg0.N) (ht : t.val / 4 % 4 ≤ t.val % 4) (a : Fin 1024) (x : Fin 128) :
    iblk m c 5 t (ix2 a x) = (Attn.D (A.q (hd t)) (A.k (hd t)) (A.v (hd t)) (A.ct (hd t)) (row (qt t) a) : EReal) := by
  have same : ∀ n : Fin 4, n = hd t → (Attn.D (A.q n) (A.k n) (A.v n) (A.ct n) (row (qt t) a) : EReal)
      = (Attn.D (A.q (hd t)) (A.k (hd t)) (A.v (hd t)) (A.ct (hd t)) (row (qt t) a) : EReal) := fun n e => by rw [e]
  rw [read_5 t ht a x, V_dl hm (row (qt t) a) (lane (hd t) x)]
  exact same _ (lane_div (hd t) x)

omit hm in
theorem tile_mk {h i j : Fin 4} (x0 x1 : Vec Ideal S1x1024x256 .bf16) (x2 : Vec Ideal S1024x128 .bf16) (x3 : Vec Ideal S1024x128 .f32)
    (x4 : Vec Ideal S1024x128 .bf16) (x5 : Vec Ideal S1024x128 .f32)
    (h0 : ∀ a x, x0 (ix3 0 a x) = (Attn.lanes (A.q h (row i a)) x : EReal)) (h1 : ∀ a x, x1 (ix3 0 a x) = (Attn.lanes (A.k h (row j a)) x : EReal))
    (h2 : ∀ a x, x2 (ix2 a x) = (A.v h (row j a) x : EReal)) (h3 : ∀ a x, x3 (ix2 a x) = (Real.log (Attn.Z (A.q h) (A.k h) (row i a)) : EReal))
    (h4 : ∀ a x, x4 (ix2 a x) = (A.ct h (row i a) x : EReal))
    (h5 : ∀ a x, x5 (ix2 a x) = (Attn.D (A.q h) (A.k h) (A.v h) (A.ct h) (row i a) : EReal)) : Tile A h i j ⟨x0, x1, x2, x3, x4, x5⟩ :=
  ⟨h0, h1, h2, fun a => h3 a 0, h4, fun a => h5 a 0⟩

/-- At a point on or below the diagonal the six blocks hold its query tile and its key tile. -/
theorem tile_at (t : Fin cfg0.N) (ht : t.val / 4 % 4 ≤ t.val % 4) : Tile A (hd t) (qt t) (kt t) (blkAt m c t) := by
  have h0 := has_0 hm t ht
  have h1 := has_1 hm t
  have h2 := has_2 hm t
  have h3 := has_3 hm t ht
  have h4 := has_4 hm t ht
  have h5 := has_5 hm t ht
  show Tile A (hd t) (qt t) (kt t) ⟨iblk m c 0 t, iblk m c 1 t, iblk m c 2 t, iblk m c 3 t, iblk m c 4 t, iblk m c 5 t⟩
  generalize iblk m c 0 t = x0 at *
  generalize iblk m c 1 t = x1 at *
  generalize iblk m c 2 t = x2 at *
  generalize iblk m c 3 t = x3 at *
  generalize iblk m c 4 t = x4 at *
  generalize iblk m c 5 t = x5 at *
  exact tile_mk x0 x1 x2 x3 x4 x5 h0 h1 h2 h3 h4 h5
end

/-! ## The rows of a query tile in the query gradient -/

theorem put_row (t : Fin cfg0.N) (x : S1x4096x256.Idx → EReal) (w : S1x1024x256.Idx → EReal) (i : Fin 4) (a : Fin 1024) (d : Fin 256) :
    VecWindow.put x (rowOff (grid0.coords t)) S1x1024x256.size w (ix3 0 (row i a) d)
      = if i = qt t then w (ix3 0 a d) else x (ix3 0 (row i a) d) := by
  have hc := coords_2 t
  unfold VecWindow.put
  by_cases hi : i = qt t
  · have hin : ∀ e, rowOff (grid0.coords t) e ≤ ((ix3 0 (row i a) d : S1x4096x256.Idx) e).val
        ∧ ((ix3 0 (row i a) d : S1x4096x256.Idx) e).val < rowOff (grid0.coords t) e + S1x1024x256.size e := fun e => by
      subst hi
      fin_cases e
      · exact ⟨Nat.le_refl 0, Nat.zero_lt_one⟩
      · show 1024 * (grid0.coords t 2).val ≤ (qt t).val * 1024 + a.val ∧ (qt t).val * 1024 + a.val < 1024 * (grid0.coords t 2).val + 1024
        omega
      · show 0 ≤ d.val ∧ d.val < 0 + 256
        omega
    rw [dif_pos hin, if_pos hi]
    congr 1
    funext e
    refine Fin.ext ?_
    subst hi
    fin_cases e
    · rfl
    · show (qt t).val * 1024 + a.val - 1024 * (grid0.coords t 2).val = a.val
      omega
    · show d.val - 0 = d.val
      omega
  · rw [dif_neg, if_neg hi]
    intro hin
    have h1 : 1024 * (grid0.coords t 2).val ≤ i.val * 1024 + a.val ∧ i.val * 1024 + a.val < 1024 * (grid0.coords t 2).val + 1024 := hin 1
    exact hi (Fin.ext (by omega))

theorem window_row (t : Fin cfg0.N) (x : S1x4096x256.Idx → EReal) (a : Fin 1024) (d : Fin 256) :
    VecWindow.window x (rowOff (grid0.coords t)) S1x1024x256.size (rowOff_inb (grid0.coords t)) (ix3 0 a d) = x (ix3 0 (row (qt t) a) d) := by
  have hc := coords_2 t
  unfold VecWindow.window
  congr 1
  funext e
  refine Fin.ext ?_
  fin_cases e
  · rfl
  · show 1024 * (grid0.coords t 2).val + 1 * a.val = (qt t).val * 1024 + a.val
    omega
  · show 0 + 1 * d.val = d.val
    omega

/-! ## Sums over the tiles met so far -/

/-- One more tile of four. -/
theorem sum_step (f : Fin 4 → ℝ) (p p' : Fin 4 → Prop) [DecidablePred p] [DecidablePred p'] (j : Fin 4) (hp : ∀ x, p' x ↔ p x ∨ x = j) (hj : ¬p j) :
    (∑ x, if p' x then f x else 0) = (∑ x, if p x then f x else 0) + f j := by
  rw [← Finset.sum_filter, ← Finset.sum_filter, show Finset.univ.filter p' = insert j (Finset.univ.filter p) from Finset.ext fun x => by
    simp [hp, or_comm], Finset.sum_insert (by simp [hj]), add_comm]

theorem sum_same (f : Fin 4 → ℝ) (p p' : Fin 4 → Prop) [DecidablePred p] [DecidablePred p'] (hp : ∀ x, p' x ↔ p x) :
    (∑ x, if p' x then f x else 0) = ∑ x, if p x then f x else 0 :=
  Finset.sum_congr rfl fun x _ => if_congr (hp x) rfl rfl

/-- Before point `t` adds its tile. -/
structure Pre (A : Args) (t : Fin cfg0.N) (s : Acc Ideal) : Prop where
  dk : kt t ≤ qt t → ∀ y d, s.dk (ix2 y d) = ((∑ i, if i < qt t then tileK A (hd t) i (kt t) y d else 0 : ℝ) : EReal)
  dv : kt t ≤ qt t → ∀ y d, s.dv (ix2 y d) = ((∑ i, if i < qt t then tileV A (hd t) i (kt t) y d else 0 : ℝ) : EReal)
  dq : ∀ i a d, s.dq (ix3 0 (row i a) d) = ((∑ j : Fin 4, if 4 * j.val + i.val < t.val % 16 then tileQ A (hd t) i j a d else 0 : ℝ) : EReal)

/-- After it has. -/
structure Post (A : Args) (t : Fin cfg0.N) (s : Acc Ideal) : Prop where
  dk : kt t ≤ qt t → ∀ y d, s.dk (ix2 y d) = ((∑ i, if i ≤ qt t then tileK A (hd t) i (kt t) y d else 0 : ℝ) : EReal)
  dv : kt t ≤ qt t → ∀ y d, s.dv (ix2 y d) = ((∑ i, if i ≤ qt t then tileV A (hd t) i (kt t) y d else 0 : ℝ) : EReal)
  dq : ∀ i a d, s.dq (ix3 0 (row i a) d) = ((∑ j : Fin 4, if 4 * j.val + i.val ≤ t.val % 16 then tileQ A (hd t) i j a d else 0 : ℝ) : EReal)

variable {A : Args} (t : Fin cfg0.N)

theorem stepK (f : Fin 4 → ℝ) : (∑ i, if i ≤ qt t then f i else 0) = (∑ i, if i < qt t then f i else 0) + f (qt t) :=
  sum_step f _ _ (qt t) (fun _ => le_iff_lt_or_eq) (lt_irrefl _)

theorem stepQ (f : Fin 4 → ℝ) : (∑ j : Fin 4, if 4 * j.val + (qt t).val ≤ t.val % 16 then f j else 0)
    = (∑ j : Fin 4, if 4 * j.val + (qt t).val < t.val % 16 then f j else 0) + f (kt t) :=
  sum_step f _ _ (kt t) (fun x => by
    rw [Fin.ext_iff]
    show 4 * x.val + t.val % 4 ≤ t.val % 16 ↔ 4 * x.val + t.val % 4 < t.val % 16 ∨ x.val = t.val / 4 % 4
    omega) (by show ¬4 * (t.val / 4 % 4) + t.val % 4 < t.val % 16; omega)

theorem sameQ (i : Fin 4) (hi : i ≠ qt t) (f : Fin 4 → ℝ) : (∑ j : Fin 4, if 4 * j.val + i.val ≤ t.val % 16 then f j else 0)
    = ∑ j : Fin 4, if 4 * j.val + i.val < t.val % 16 then f j else 0 :=
  sum_same f _ _ fun x => by
    have : i.val ≠ t.val % 4 := fun e => hi (Fin.ext e)
    omega

/-- The point adds its tile. -/
theorem added (b : Blk Ideal) (s : Acc Ideal) (T : kt t ≤ qt t → Tile A (hd t) (qt t) (kt t) b) (P : Pre A t s) :
    Post A t (accum (grid0.coords t) b s) := by
  obtain ⟨-, -, g3, g4, -⟩ := guards t
  unfold accum
  rcases lt_trichotomy (kt t) (qt t) with hlt | heq | hgt
  · rw [if_pos (g3.mpr hlt)]
    have T := T hlt.le
    refine ⟨fun _ y d => ?_, fun _ y d => ?_, fun i a d => ?_⟩
    · exact (dk_below T hlt s.dk y d _ (P.dk hlt.le y d)).trans (congrArg _ (stepK t fun i => tileK A (hd t) i (kt t) y d).symm)
    · exact (dv_below T hlt s.dv y d _ (P.dv hlt.le y d)).trans (congrArg _ (stepK t fun i => tileV A (hd t) i (kt t) y d).symm)
    · refine (put_row t s.dq _ i a d).trans ?_
      by_cases hi : i = qt t
      · subst hi
        rw [if_pos rfl]
        exact (dq_below T hlt _ a d _ ((window_row t s.dq a d).trans (P.dq _ a d))).trans (congrArg _ (stepQ t fun j => tileQ A (hd t) (qt t) j a d).symm)
      · rw [if_neg hi]
        exact (P.dq i a d).trans (congrArg _ (sameQ t i hi fun j => tileQ A (hd t) i j a d).symm)
  · have e : t.val / 4 % 4 = t.val % 4 := congrArg Fin.val heq
    rw [if_neg (fun h => by have := g3.mp h; omega), if_pos (g4.mpr e)]
    have T := T heq.le
    unfold crossing
    rw [coords_1, show (grid0.coords t 2).val = (qt t).val from coords_2 t]
    refine ⟨fun _ y d => ?_, fun _ y d => ?_, fun i a d => ?_⟩
    · exact (dk_crossing T s.dk y d _ (P.dk heq.le y d)).trans (congrArg _ (stepK t fun i => tileK A (hd t) i (kt t) y d).symm)
    · exact (dv_crossing T s.dv y d _ (P.dv heq.le y d)).trans (congrArg _ (stepK t fun i => tileV A (hd t) i (kt t) y d).symm)
    · refine (put_row t s.dq _ i a d).trans ?_
      by_cases hi : i = qt t
      · subst hi
        rw [if_pos rfl]
        exact (dq_crossing T _ a d _ ((window_row t s.dq a d).trans (P.dq _ a d))).trans (congrArg _ (stepQ t fun j => tileQ A (hd t) (qt t) j a d).symm)
      · rw [if_neg hi]
        exact (P.dq i a d).trans (congrArg _ (sameQ t i hi fun j => tileQ A (hd t) i j a d).symm)
  · have e : t.val % 4 < t.val / 4 % 4 := hgt
    rw [if_neg (fun h => by have := g3.mp h; omega), if_neg (fun h => by have := g4.mp h; omega)]
    refine ⟨fun h => absurd h (not_le.mpr hgt), fun h => absurd h (not_le.mpr hgt), fun i a d => ?_⟩
    refine (P.dq i a d).trans (congrArg _ ?_)
    by_cases hi : i = qt t
    · subst hi
      rw [stepQ t fun j => tileQ A (hd t) (qt t) j a d, tileQ_masked A _ hgt, add_zero]
    · exact (sameQ t i hi fun j => tileQ A (hd t) i j a d).symm

/-- What the last point left, cleared where a head or a key tile opens, is what the point adds to. -/
theorem cleared (s : Acc Ideal) (h : ∀ u : Fin cfg0.N, u.val + 1 = t.val → Post A u s) : Pre A t (clearDkv (grid0.coords t) (clearDq (grid0.coords t) s)) := by
  obtain ⟨g1, g2, -, -, -⟩ := guards t
  have prev : ¬t.val % 16 = 0 → ∃ u : Fin cfg0.N, u.val + 1 = t.val := fun hz => ⟨⟨t.val - 1, by omega⟩, by show t.val - 1 + 1 = t.val; omega⟩
  have dq : ∀ i a d, (clearDq (grid0.coords t) s).dq (ix3 0 (row i a) d)
      = ((∑ j : Fin 4, if 4 * j.val + i.val < t.val % 16 then tileQ A (hd t) i j a d else 0 : ℝ) : EReal) := fun i a d => by
    unfold clearDq
    by_cases hz : t.val % 16 = 0
    · rw [if_pos (g1.mpr hz)]
      refine (pay1_at (row i a) d).trans (congrArg _ (Finset.sum_eq_zero fun j _ => if_neg ?_).symm)
      omega
    · rw [if_neg (fun e => hz (g1.mp e))]
      obtain ⟨u, hu⟩ := prev hz
      refine ((h u hu).dq i a d).trans (congrArg _ ?_)
      rw [show hd u = hd t from Fin.ext (by show u.val / 16 = t.val / 16; omega)]
      exact sum_same _ _ _ fun x => by omega
  unfold clearDkv
  by_cases ho : t.val / 4 % 4 = t.val % 4
  · rw [if_pos (g2.mpr ho)]
    have below : ∀ i : Fin 4, i < qt t → i < kt t := fun i hi => by
      show i.val < t.val / 4 % 4
      have : i.val < t.val % 4 := hi
      omega
    refine ⟨fun _ y d => (pay2_at y d).trans (congrArg _ (Finset.sum_eq_zero fun i _ => ?_).symm),
      fun _ y d => (pay3_at y d).trans (congrArg _ (Finset.sum_eq_zero fun i _ => ?_).symm), dq⟩
    · split
      · exact tileK_masked A _ (below i ‹_›) y d
      · rfl
    · split
      · exact tileV_masked A _ (below i ‹_›) y d
      · rfl
  · rw [if_neg (fun e => ho (g2.mp e))]
    have fields : (clearDq (grid0.coords t) s).dk = s.dk ∧ (clearDq (grid0.coords t) s).dv = s.dv := by
      unfold clearDq; split <;> exact ⟨rfl, rfl⟩
    refine ⟨fun hle y d => ?_, fun hle y d => ?_, dq⟩
    all_goals
      have hle' : t.val / 4 % 4 ≤ t.val % 4 := hle
      obtain ⟨u, hu⟩ := prev (by omega)
      have eh : hd u = hd t := Fin.ext (by show u.val / 16 = t.val / 16; omega)
      have ek : kt u = kt t := Fin.ext (by show u.val / 4 % 4 = t.val / 4 % 4; omega)
      have hu' : kt u ≤ qt u := by show u.val / 4 % 4 ≤ u.val % 4; omega
      have eq : ∀ x : Fin 4, x < qt t ↔ x ≤ qt u := fun x => by
        show x.val < t.val % 4 ↔ x.val ≤ u.val % 4
        omega
    · rw [fields.1]
      refine ((h u hu).dk hu' y d).trans (congrArg _ ?_)
      rw [eh, ek]
      exact (sum_same _ _ _ eq).symm
    · rw [fields.2]
      refine ((h u hu).dv hu' y d).trans (congrArg _ ?_)
      rw [eh, ek]
      exact (sum_same _ _ _ eq).symm

section
variable {m : (ℓ : Loc nD τ sig) → Buf (Elt Ideal) ℓ} {c : Dev nD} (hm : Holds m c A)
include hm

/-- What is carried after every point. -/
theorem carried : ∀ (n : ℕ) (hn : n < cfg0.N), Post A ⟨n, hn⟩ (acc m c (n + 1)) := by
  intro n
  induction n with
  | zero =>
    intro hn
    rw [acc_succ m c ⟨0, hn⟩]
    exact added ⟨0, hn⟩ _ _ (tile_at hm ⟨0, hn⟩) (cleared ⟨0, hn⟩ _ fun u hu => absurd hu (Nat.succ_ne_zero _))
  | succ n ih =>
    intro hn
    rw [acc_succ m c ⟨n + 1, hn⟩]
    refine added ⟨n + 1, hn⟩ _ _ (tile_at hm ⟨n + 1, hn⟩) (cleared ⟨n + 1, hn⟩ _ fun u hu => ?_)
    have hun : u = ⟨n, by omega⟩ := Fin.ext (Nat.succ.inj hu)
    rw [hun]
    exact ih _

/-- A key tile's last point has met every query tile, -/
theorem closed_dk (t : Fin cfg0.N) (ht : t.val % 4 = 3) (y : Fin 1024) (d : Fin 256) :
    (acc m c (t.val + 1)).dk (ix2 y d) = (Attn.lanes (Attn.dK (A.q (hd t)) (A.k (hd t)) (A.v (hd t)) (A.ct (hd t)) (row (kt t) y)) d : EReal) := by
  rw [(carried hm t.val t.isLt).dk (by show t.val / 4 % 4 ≤ t.val % 4; omega) y d, ← sum_tileK]
  refine congrArg _ (Finset.sum_congr rfl fun i _ => if_pos ?_)
  show i.val ≤ t.val % 4
  omega
theorem closed_dv (t : Fin cfg0.N) (ht : t.val % 4 = 3) (y : Fin 1024) (d : Fin 128) :
    (acc m c (t.val + 1)).dv (ix2 y d) = (Attn.dV (A.q (hd t)) (A.k (hd t)) (A.ct (hd t)) (row (kt t) y) d : EReal) := by
  rw [(carried hm t.val t.isLt).dv (by show t.val / 4 % 4 ≤ t.val % 4; omega) y d, ← sum_tileV]
  refine congrArg _ (Finset.sum_congr rfl fun i _ => if_pos ?_)
  show i.val ≤ t.val % 4
  omega

/-- and a head's last point every tile. -/
theorem closed_dq (t : Fin cfg0.N) (ht : t.val % 16 = 15) (i : Fin 4) (a : Fin 1024) (d : Fin 256) :
    (acc m c (t.val + 1)).dq (ix3 0 (row i a) d)
      = (Attn.lanes (Attn.dQ (A.q (hd t)) (A.k (hd t)) (A.v (hd t)) (A.ct (hd t)) (row i a)) d : EReal) := by
  rw [(carried hm t.val t.isLt).dq i a d, ← sum_tileQ]
  refine congrArg _ (Finset.sum_congr rfl fun j _ => if_pos ?_)
  show 4 * j.val + i.val ≤ t.val % 16
  omega
end

end Cert.KernelIdeal.Bwd

end
-- ==== Proof.Ideal.Results.lean ====
/- The three result arrays after the run, where the arguments are numbers: at every index the gradients of queries, keys and
   values over the reals. -/
module

public import proofs.«01_k».proof.Proof.Ideal.Carry
public import Idealize.ShloMosaic.Lib.Claim

@[expose] public section

set_option maxRecDepth 16384

noncomputable section

namespace Cert.KernelIdeal.Bwd

open Idealize.ShloMosaic Idealize.ShloMosaic.TcCoe
open Cert.KernelIdeal Cert.KernelIdeal.Gen
open Attn (Args)

/-! ## Where the outputs' blocks lie -/

theorem at_6 : ∀ t, win0_6.index t = ![t.val / 16, 0, 0] := by decide +kernel
theorem at_7 : ∀ t, win0_7.index t = ![t.val / 16, t.val / 4 % 4, 0] := by decide +kernel
theorem at_8 : ∀ t, win0_8.index t = ![t.val / 4 % 4, t.val / 16] := by decide +kernel

/-- A row is its tile's row. -/
theorem row_split (r : Fin 4096) : row ⟨r.val / 1024, by omega⟩ ⟨r.val % 1024, by omega⟩ = r :=
  Fin.ext (by show r.val / 1024 * 1024 + r.val % 1024 = r.val; omega)

theorem idx_6 (y : S1x4096x256.Idx) : ∃ (r : Fin 4096) (d : Fin 256), y = ix3 0 r d :=
  ⟨y 1, y 2, by funext e; fin_cases e <;> [exact Fin.ext (Nat.lt_one_iff.mp (y 0).isLt); rfl; rfl]⟩
theorem idx_7 (y : S1x1024x256.Idx) : ∃ (r : Fin 1024) (d : Fin 256), y = ix3 0 r d :=
  ⟨y 1, y 2, by funext e; fin_cases e <;> [exact Fin.ext (Nat.lt_one_iff.mp (y 0).isLt); rfl; rfl]⟩
theorem idx_8 (y : S1024x128.Idx) : ∃ (r : Fin 1024) (d : Fin 128), y = ix2 r d :=
  ⟨y 0, y 1, by funext e; fin_cases e <;> rfl⟩

/-- The three results, by index. -/
def resQ (A : Args) : S4x4096x256.Idx → EReal := fun y =>
  (Attn.lanes (Attn.dQ (A.q (y 0)) (A.k (y 0)) (A.v (y 0)) (A.ct (y 0)) (y 1)) (y 2) : EReal)
def resK (A : Args) : S4x4096x256.Idx → EReal := fun y =>
  (Attn.lanes (Attn.dK (A.q (y 0)) (A.k (y 0)) (A.v (y 0)) (A.ct (y 0)) (y 1)) (y 2) : EReal)
def resV (A : Args) : S4096x512.Idx → EReal := fun y =>
  (Attn.dV (A.q ⟨(y 1).val / 128, by have : (y 1).val < 512 := (y 1).isLt; omega⟩) (A.k ⟨(y 1).val / 128, by have : (y 1).val < 512 := (y 1).isLt; omega⟩)
    (A.ct ⟨(y 1).val / 128, by have : (y 1).val < 512 := (y 1).isLt; omega⟩) (y 0) ⟨(y 1).val % 128, by omega⟩ : EReal)

variable {m : (ℓ : Loc nD τ sig) → Buf (Elt Ideal) ℓ} {c : Dev nD} {A : Args} (hm : Holds m c A)

theorem place_6 (t : Fin cfg0.N) (r : Fin 4096) (d : Fin 256) : ((cfg0.win 6).blk t).view.emb (ix3 0 r d) = (ix3 (hd t) r d : S4x4096x256.Idx) := by
  unfold hd; blk_ext [at_6 t]
theorem place_7 (t : Fin cfg0.N) (a : Fin 1024) (d : Fin 256) :
    ((cfg0.win 7).blk t).view.emb (ix3 0 a d) = (ix3 (hd t) (row (kt t) a) d : S4x4096x256.Idx) := by
  unfold hd row kt; blk_ext [at_7 t]
theorem place_8 (t : Fin cfg0.N) (a : Fin 1024) (d : Fin 128) :
    ((cfg0.win 8).blk t).view.emb (ix2 a d) = (ix2 (row (kt t) a) (lane (hd t) d) : S4096x512.Idx) := by
  unfold hd row kt lane; blk_ext [at_8 t]

include hm

theorem left_6 (t : Fin cfg0.N) (ht : t.val % 16 = 15) (y : S1x4096x256.Idx) :
    (acc m c (t.val + 1)).dq y = resQ A (((cfg0.win 6).blk t).view.emb y) := by
  obtain ⟨r, d, rfl⟩ := idx_6 y
  rw [place_6]
  have h := closed_dq hm t ht ⟨r.val / 1024, by omega⟩ ⟨r.val % 1024, by omega⟩ d
  rw [row_split r] at h
  exact h

theorem left_7 (t : Fin cfg0.N) (ht : t.val % 4 = 3) (y : S1x1024x256.Idx) :
    k0_pay9 (acc m c (t.val + 1)).dk y = resK A (((cfg0.win 7).blk t).view.emb y) := by
  obtain ⟨r, d, rfl⟩ := idx_7 y
  rw [place_7, pay9_at]
  exact closed_dk hm t ht r d

theorem left_8 (t : Fin cfg0.N) (ht : t.val % 4 = 3) (y : S1024x128.Idx) :
    (acc m c (t.val + 1)).dv y = resV A (((cfg0.win 8).blk t).view.emb y) := by
  obtain ⟨r, d, rfl⟩ := idx_8 y
  rw [place_8]
  have same : ∀ (n : Fin 4) (x : Fin 128), n = hd t → x = d → (Attn.dV (A.q (hd t)) (A.k (hd t)) (A.ct (hd t)) (row (kt t) r) d : EReal)
      = (Attn.dV (A.q n) (A.k n) (A.ct n) (row (kt t) r) x : EReal) := fun n x e e' => by rw [e, e']
  exact (closed_dv hm t ht r d).trans (same _ _ (lane_div (hd t) d) (lane_mod (hd t) d))

theorem out_6 : (dats m 0 c).arrAt 6 cfg0.N = resQ A := by
  refine (dats m 0 c).arrAt_eq_of_covers 6 _ (by decide +kernel) fun t hf y => ?_
  blk_simp
  rw [after_6]
  exact left_6 hm t ((flush0_6 t).mp hf) y

theorem out_7 : (dats m 0 c).arrAt 7 cfg0.N = resK A := by
  refine (dats m 0 c).arrAt_eq_of_covers 7 _ (by decide +kernel) fun t hf y => ?_
  blk_simp
  rw [after_7]
  exact left_7 hm t ((flush0_7 t).mp hf) y

theorem out_8 : (dats m 0 c).arrAt 8 cfg0.N = resV A := by
  refine (dats m 0 c).arrAt_eq_of_covers 8 _ (by decide +kernel) fun t hf y => ?_
  blk_simp
  rw [after_8]
  exact left_8 hm t ((flush0_8 t).mp hf) y

end Cert.KernelIdeal.Bwd

end
-- ==== Proof.Algebraic.lean ====
/- The value claim: from memories with the same finite arguments, the kernel and the reference leave the same three arrays, the
   gradients of the queries, the keys and the values over the reals. -/
module

public import proofs.«01_k».proof.Proof.Finite
public import proofs.«01_k».proof.Proof.RefValue
public import proofs.«01_k».proof.Proof.Ideal.Results
public import proofs.«01_k».proof.Proof.Ideal.Launch

@[expose] public section

set_option maxRecDepth 16384

noncomputable section

namespace Cert.Proof

open Idealize.ShloMosaic Idealize.ShloMosaic.TcCoe
open Attn (Args)
open Cert.KernelIdeal.Bwd (Holds resQ resK resV)

/-- Finite arguments are numbers, the same on every reading of them. -/
theorem holds_of_finite (m : (ℓ : Loc Cert.KernelIdeal.nD Cert.KernelIdeal.τ Cert.KernelIdeal.sig) → Buf (Elt Ideal) ℓ)
    (h : Cert.Pre_KernelIdeal_finite m) : ∀ c, ∃ A : Args, Holds m c A := fun c => by
  obtain ⟨hq, hk, hv, hg⟩ := Cert.Finite.reals _ _ _ _ (h c)
  choose q eq using hq
  choose k ek using hk
  choose v ev using hv
  choose g eg using hg
  exact ⟨⟨fun h r x => q (ix3 r h x), fun h r x => k (ix3 r h x), fun h r x => v (ix3 r h x), fun h r x => g (ix3 r h x)⟩,
    ⟨fun _ _ _ => eq _, fun _ _ _ => ek _, fun _ _ _ => ev _, fun _ _ _ => eg _⟩⟩

section Reference

open Cert.ReferenceIdeal Cert.ReferenceIdeal.Value

variable {m : (ℓ : Loc nD τ sig) → Buf (Elt Ideal) ℓ} {c : Dev nD} {A : Args}
variable (hq : ∀ r h x, argQ m c (ix3 r h x) = (A.q h r x : EReal)) (hk : ∀ r h x, argK m c (ix3 r h x) = (A.k h r x : EReal))
variable (hv : ∀ r h x, argV m c (ix3 r h x) = (A.v h r x : EReal)) (hg : ∀ r h x, argC m c (ix3 r h x) = (A.ct h r x : EReal))

include hq hk hv hg in
theorem ref_q : res_main_v65 m c = resQ A := funext fun y => by
  have e : y = ix3 (y 0) (y 1) (y 2) := by funext i; fin_cases i <;> rfl
  exact (congrArg (res_main_v65 m c) e).trans (res65_at hq hk hv hg (y 0) (y 1) (y 2))

include hq hk hv hg in
theorem ref_k : res_main_v67 m c = resK A := funext fun y => by
  have e : y = ix3 (y 0) (y 1) (y 2) := by funext i; fin_cases i <;> rfl
  exact (congrArg (res_main_v67 m c) e).trans (res67_at hq hk hv hg (y 0) (y 1) (y 2))

include hq hk hg in
theorem ref_v : res_main_v68 m c = resV A := funext fun y => by
  have e : y = ix2 (y 0) (y 1) := by funext i; fin_cases i <;> rfl
  exact (congrArg (res_main_v68 m c) e).trans (res68_at hq hk hg (y 0) (y 1))

end Reference

theorem algebraic : Cert.algebraic_KernelIdeal_ReferenceIdeal_pre_finite := fun m g m' g' hpre hagree => by
  choose A hA using holds_of_finite m hpre
  refine ⟨fun c => resQ (A c), fun c => resK (A c), fun c => resV (A c), ?_, ?_⟩
  · have hf := Cert.KernelIdeal.Gen.frame_of m g (Cert.KernelIdeal.Bwd.dats m) (Cert.KernelIdeal.Bwd.A_eq m)
      ((θ_run Cert.KernelIdeal.defs _ _).mono (fun _ h => h.1) (Cert.KernelIdeal.Bwd.run_main m g))
    refine (θ_run Cert.KernelIdeal.defs _ _).mono (fun r h c => ?_) (θ_run_and (Cert.KernelIdeal.Bwd.run_main m g) hf)
    exact ⟨((h.1.1 c).1 6).trans (Cert.KernelIdeal.Bwd.out_6 (hA c)), ((h.1.1 c).1 7).trans (Cert.KernelIdeal.Bwd.out_7 (hA c)),
      ((h.1.1 c).1 8).trans (Cert.KernelIdeal.Bwd.out_8 (hA c)), h.2 c⟩
  · refine (θ_run Cert.ReferenceIdeal.defs _ _).mono (fun r h c => ?_) (Cert.ReferenceIdeal.Value.run m' g')
    have hq : ∀ r h x, Cert.ReferenceIdeal.Value.argQ m' c (ix3 r h x) = ((A c).q h r x : EReal) := fun r h x =>
      (congrFun (hagree c).1 _).trans ((hA c).q r h x)
    have hk : ∀ r h x, Cert.ReferenceIdeal.Value.argK m' c (ix3 r h x) = ((A c).k h r x : EReal) := fun r h x =>
      (congrFun (hagree c).2.1 _).trans ((hA c).k r h x)
    have hv : ∀ r h x, Cert.ReferenceIdeal.Value.argV m' c (ix3 r h x) = ((A c).v h r x : EReal) := fun r h x =>
      (congrFun (hagree c).2.2.1 _).trans ((hA c).v r h x)
    have hg : ∀ r h x, Cert.ReferenceIdeal.Value.argC m' c (ix3 r h x) = ((A c).ct h r x : EReal) := fun r h x =>
      (congrFun (hagree c).2.2.2 _).trans ((hA c).ct r h x)
    exact ⟨(h c).1.trans (ref_q hq hk hv hg), (h c).2.1.trans (ref_k hq hk hv hg), (h c).2.2.1.trans (ref_v hq hk hg), (h c).2.2.2⟩

end Cert.Proof

end
-- ==== Proof.Mixer.Run.lean ====
/- The mixer's run: every fair execution of the six calls in series ends with every array at what the last boundary's
   contents say, where each boundary is the one before it with the call's output arrays replaced. -/
module

public import proofs.«01_k».proof.Proof.Gen.MixerIdeal.Frame

@[expose] public section

set_option maxRecDepth 16384

noncomputable section

namespace Cert.MixerIdeal.Ff

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerIdeal Cert.MixerIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- Every fair execution ends with every unscoped array at the last boundary's contents. -/
theorem run_ends : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.MixerIdeal.Ff

end
-- ==== Proof.Mixer.Spec.lean ====
/- The channel mixer's mathematics: its forward pass, its layer normalization and its backward pass, as plain
   sums over tokens, model dimensions and hidden dimensions.  The numbers are extended reals, so every statement
   holds of any input, infinite ones included. -/
module

public import Idealize.ShloMosaic.PureOps.Ideal
public import Idealize.ShloMosaic.Lib.Pointwise

@[expose] public section

noncomputable section

namespace Cert.Ff

open Idealize.ShloMosaic

/-- A matrix of `a` rows and `b` columns. -/
abbrev Mat (a b : ℕ) := Fin a → Fin b → EReal

/-- An index of a matrix is a row and a column. -/
theorem idx2 {a b : ℕ} (y : (⟨2, ![a, b]⟩ : Shape).Idx) : ∃ (i : Fin a) (j : Fin b), y = ix2 i j :=
  ⟨y 0, y 1, by funext e; fin_cases e <;> rfl⟩

/-- The factor of the residual branch, `8 ^ (1/4)` in single precision. -/
def alpha : EReal := Ideal.ofBits .f32 0x3FD744FD#32
/-- The factor of the square's derivative. -/
def two : EReal := Ideal.ofBits .f32 0x40000000#32
/-- The number of model dimensions, `1024`. -/
def width : EReal := Ideal.ofBits .f32 0x44800000#32
/-- What the layer normalization adds to the variance. -/
def eps : EReal := Ideal.ofBits .f32 0x3727C5AC#32

/-- The squared rectifier. -/
def relu2 (u : EReal) : EReal := max u 0 * max u 0

/-- The hidden dimensions before the squared rectifier. -/
def hidden (x : Mat 4096 1024) (w1 : Mat 1024 4096) : Mat 4096 4096 := fun s f => ∑ d, x s d * w1 d f
/-- The hidden dimensions after it. -/
def act (x : Mat 4096 1024) (w1 : Mat 1024 4096) : Mat 4096 4096 := fun s f => relu2 (hidden x w1 s f)
/-- The residual stream after the mixer. -/
def res (x : Mat 4096 1024) (a : Mat 4096 4096) (w2 : Mat 4096 1024) : Mat 4096 1024 :=
  fun s d => alpha * x s d + ∑ f, a s f * w2 f d

/-- A row less its mean. -/
def center (r : Fin 1024 → EReal) (d : Fin 1024) : EReal := r d - Ideal.div (∑ e, r e) width
/-- The layer normalization of a row. -/
def layerNorm (r g b : Fin 1024 → EReal) (d : Fin 1024) : EReal :=
  center r d * Ideal.rsqrt (Ideal.div (∑ e, center r e * center r e) width + eps) * g d + b d

/-- The gradient by the hidden dimensions, from the saved activations: the rectifier's value is the root of its square. -/
def dHidden (dr : Mat 4096 1024) (w2 : Mat 4096 1024) (a : Mat 4096 4096) : Mat 4096 4096 :=
  fun s f => (∑ d, dr s d * w2 f d) * (two * Ideal.sqrt (a s f))
/-- The gradient by the second weight. -/
def dW2 (a : Mat 4096 4096) (dr : Mat 4096 1024) : Mat 4096 1024 := fun f d => ∑ s, a s f * dr s d
/-- The gradient by the first weight. -/
def dW1 (x : Mat 4096 1024) (du : Mat 4096 4096) : Mat 1024 4096 := fun d f => ∑ s, x s d * du s f
/-- The gradient by the input. -/
def dX (du : Mat 4096 4096) (w1 : Mat 1024 4096) (dr : Mat 4096 1024) : Mat 4096 1024 :=
  fun s d => (∑ f, du s f * w1 d f) + alpha * dr s d

/-- The root of a square is the absolute value; here of a number not negative. -/
theorem sqrt_mul_self {u : EReal} (hu : 0 ≤ u) : Ideal.sqrt (u * u) = u := by
  induction u with
  | bot => exact absurd hu (by simp)
  | top => rfl
  | coe r =>
    have hr : 0 ≤ r := EReal.coe_nonneg.mp hu
    rw [← EReal.coe_mul]
    show (if r * r < 0 then ⊥ else (Real.sqrt (r * r) : EReal)) = r
    rw [if_neg (not_lt.mpr (mul_nonneg hr hr)), Real.sqrt_mul_self hr]

/-- The gradient through the squared rectifier is `2·max(u, 0)` times the incoming one where `u` is positive and zero
    elsewhere, which is what the root of the saved activation gives. -/
theorem mul_two_sqrt_relu2 (c u : EReal) :
    c * (two * Ideal.sqrt (relu2 u)) = if 0 < u then c * (two * max u 0) else 0 := by
  unfold relu2
  rw [sqrt_mul_self (le_max_right u 0)]
  split
  · rfl
  · rename_i h
    rw [max_eq_right (not_lt.mp h), mul_zero, mul_zero]

/-- A sum over the 4096 hidden dimensions is the sum over four groups of 1024. -/
theorem sum_groups (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h3 := Fin.sum_univ_add (a := 3072) (b := 1024) f
  have h2 := Fin.sum_univ_add (a := 2048) (b := 1024) fun k => f (Fin.castAdd 1024 k)
  have h1 := Fin.sum_univ_add (a := 1024) (b := 1024) fun k => f (Fin.castAdd 1024 (Fin.castAdd 1024 k))
  exact h3.trans (congrArg₂ (· + ·) (h2.trans (congrArg₂ (· + ·) h1 rfl)) rfl)

end Cert.Ff

end
-- ==== Proof.Mixer.Tiles.lean ====
/- What each of the six calls' bodies leaves in its output block, entry by entry, from the blocks it reads. -/
module

public import proofs.«01_k».proof.Proof.Gen.MixerIdeal.Frame
public import proofs.«01_k».proof.Proof.Mixer.Spec
public import Idealize.ShloMosaic.Lib.Pointwise
public import Idealize.ShloMosaic.Lib.Pipeline.ValueKit

@[expose] public section

set_option maxRecDepth 16384

noncomputable section

namespace Cert.MixerIdeal.Ff

open Idealize.ShloMosaic
open Cert.MixerIdeal Cert.MixerIdeal.Gen Cert.Ff

/-- The first product and the squared rectifier. -/
theorem tile0 (x : Vec Ideal S2048x1024 .bf16) (w : Vec Ideal S1x2x512x1024 .bf16) (i : Fin 2048) (j : Fin 1024) :
    out0_2 x w (ix2 i j)
      = relu2 (∑ k : Fin 1024, x (ix2 i k) * w (ix4 0 ⟨k.val / 512, by omega⟩ ⟨k.val % 512, by omega⟩ j)) := by
  unfold out0_2
  rw [View.canon_cons_unit_lit' _ _ _ (by decide), View.ld_unit_lit' _ _ (by decide), View.ld_unit_lit' _ _ (by decide)]
  pointwise [k0_pay1]
  rfl

/-- The second product and the residual branch. -/
theorem pay1_res (x : Vec Ideal S512x4096 .bf16) (w : Vec Ideal S4096x1024 .bf16) (r : Vec Ideal S512x1024 .f32) (i : Fin 512) (j : Fin 1024) :
    k1_pay1 x w r (ix2 i j) = alpha * r (ix2 i j) + ∑ k : Fin 4096, x (ix2 i k) * w (ix2 k j) := by
  pointwise [k1_pay1]
  rfl

theorem tile1_res (x : Vec Ideal S512x4096 .bf16) (w : Vec Ideal S4096x1024 .bf16) (r : Vec Ideal S512x1024 .f32) (g b : Vec Ideal S1x1024 .f32)
    (i : Fin 512) (j : Fin 1024) :
    out1_7 x w r g b (ix2 i j) = alpha * r (ix2 i j) + ∑ k : Fin 4096, x (ix2 i k) * w (ix2 k j) := by
  unfold out1_7
  rw [View.canon_cons_unit_lit' _ _ _ (by decide), View.ld_unit_lit' _ _ (by decide), View.ld_unit_lit' _ _ (by decide), View.ld_unit_lit' _ _ (by decide)]
  exact pay1_res x w r i j

/-- The layer normalization of the rows just computed. -/
theorem tile1_norm (x : Vec Ideal S512x4096 .bf16) (w : Vec Ideal S4096x1024 .bf16) (r : Vec Ideal S512x1024 .f32) (g b : Vec Ideal S1x1024 .f32)
    (i : Fin 512) (j : Fin 1024) :
    out1_5 x w r g b (ix2 i j)
      = layerNorm (fun d => alpha * r (ix2 i d) + ∑ k : Fin 4096, x (ix2 i k) * w (ix2 k d)) (fun d => g (ix2 0 d)) (fun d => b (ix2 0 d)) j := by
  unfold out1_5
  rw [View.canon_cons_unit_lit' _ _ _ (by decide), View.ld_unit_lit' _ _ (by decide), View.ld_unit_lit' _ _ (by decide), View.ld_unit_lit' _ _ (by decide),
    View.ld_unit_lit' _ _ (by decide), View.ld_unit_lit' _ _ (by decide)]
  pointwise [k1_pay2]
  simp only [pay1_res]
  rfl

/-- The second weight's gradient: a product summed over the tokens. -/
theorem tile2 (x : Vec Ideal S4096x1024 .bf16) (w : Vec Ideal S4096x1024 .bf16) (i : Fin 1024) (j : Fin 1024) :
    out2_2 x w (ix2 i j) = ∑ s : Fin 4096, x (ix2 s i) * w (ix2 s j) := by
  unfold out2_2
  rw [View.canon_cons_unit_lit' _ _ _ (by decide), View.ld_unit_lit' _ _ (by decide), View.ld_unit_lit' _ _ (by decide)]
  pointwise [k2_pay1]

/-- The gradient by the hidden dimensions. -/
theorem tile3 (x : Vec Ideal S1024x1024 .bf16) (w : Vec Ideal S2048x1024 .bf16) (a : Vec Ideal S1024x2048 .bf16) (i : Fin 1024) (j : Fin 2048) :
    out3_3 x w a (ix2 i j) = (∑ d : Fin 1024, x (ix2 i d) * w (ix2 j d)) * (two * Ideal.sqrt (a (ix2 i j))) := by
  unfold out3_3
  rw [View.canon_cons_unit_lit' _ _ _ (by decide), View.ld_unit_lit' _ _ (by decide), View.ld_unit_lit' _ _ (by decide), View.ld_unit_lit' _ _ (by decide)]
  pointwise [k3_pay1]
  rfl

/-- The first weight's gradient, its rows in two halves. -/
theorem tile4 (x : Vec Ideal S4096x1024 .bf16) (w : Vec Ideal S4096x1024 .bf16) (h : Fin 2) (r : Fin 512) (j : Fin 1024) :
    out4_2 x w (ix4 0 h r j) = ∑ s : Fin 4096, x (ix2 s ⟨h.val * 512 + r.val, by omega⟩) * w (ix2 s j) := by
  unfold out4_2
  rw [View.canon_cons_unit_lit' _ _ _ (by decide), View.ld_unit_lit' _ _ (by decide), View.ld_unit_lit' _ _ (by decide)]
  pointwise [k4_pay1]

/-- Hidden dimension `f` is number `k` of group `p`. -/
theorem group (p : Fin 4) (h : Fin 2) (r : Fin 512) (k : Fin 1024) (f : Fin 4096) (hf : f.val = p.val * 1024 + k.val) :
    (ix4 ⟨f.val / 1024, by omega⟩ h r ⟨f.val % 1024, by omega⟩ : S4x2x512x1024.Idx) = ix4 p h r k := by
  have e : (⟨f.val / 1024, by omega⟩ : Fin 4) = p := Fin.ext (by show f.val / 1024 = p.val; omega)
  have e' : (⟨f.val % 1024, by omega⟩ : Fin 1024) = k := Fin.ext (by show f.val % 1024 = k.val; omega)
  rw [e, e']

/-- The input's gradient: four products, one for each group of hidden dimensions, and the residual branch. -/
theorem tile5 (x : Vec Ideal S512x4096 .bf16) (w : Vec Ideal S4x2x512x1024 .bf16) (d : Vec Ideal S512x1024 .f32) (i : Fin 512) (j : Fin 1024) :
    out5_3 x w d (ix2 i j)
      = (∑ f : Fin 4096, x (ix2 i f) * w (ix4 ⟨f.val / 1024, by omega⟩ ⟨j.val / 512, by omega⟩ ⟨j.val % 512, by omega⟩ ⟨f.val % 1024, by omega⟩))
        + alpha * d (ix2 i j) := by
  rw [sum_groups]
  unfold out5_3
  rw [View.canon_cons_unit_lit' _ _ _ (by decide), View.ld_unit_lit' _ d (by decide)]
  pointwise [k5_pay1, k5_pay2]
  refine congrArg₂ (· + ·) (congrArg₂ (· + ·) (congrArg₂ (· + ·) (congrArg₂ (· + ·) ?_ ?_) ?_) ?_) rfl <;>
    refine Finset.sum_congr rfl fun k _ => congrArg₂ (· * ·) rfl (congrArg w ?_)
  · exact (group 0 _ _ k ⟨k.val, by omega⟩ (Nat.zero_add _).symm).symm
  · exact (group 1 _ _ k ⟨1024 + k.val, by omega⟩ rfl).symm
  · exact (group 2 _ _ k ⟨2048 + k.val, by omega⟩ rfl).symm
  · exact (group 3 _ _ k ⟨3072 + k.val, by omega⟩ rfl).symm

end Cert.MixerIdeal.Ff

end
-- ==== Proof.Mixer.Layout.lean ====
/- How the mixer's arrays are laid out: tiles of rows, groups of hidden dimensions, the first weight's pieces. -/
module

public import proofs.«01_k».proof.Proof.Mixer.Tiles

@[expose] public section

set_option maxRecDepth 16384

noncomputable section

namespace Cert.MixerIdeal.Ff

open Idealize.ShloMosaic Idealize.ShloMosaic.TcCoe
open Cert.MixerIdeal Cert.MixerIdeal.Gen Cert.Ff

/-- Row `i` of row tile `t` of eight. -/
def row8 (t : Fin 8) (i : Fin 512) : Fin 4096 := ⟨t.val * 512 + i.val, by omega⟩
/-- Hidden dimension `i` of group `t`. -/
def hid (t : Fin 4) (i : Fin 1024) : Fin 4096 := ⟨t.val * 1024 + i.val, by omega⟩

/-- The first weight as the host lays it out: in four column groups, each with its rows in two halves. -/
def Pieces (f : S4x2x512x1024.Idx → EReal) (w1 : Mat 1024 4096) : Prop :=
  ∀ (p : Fin 4) (d q : Fin 1024), f (ix4 p ⟨d.val / 512, by omega⟩ ⟨d.val % 512, by omega⟩ q) = w1 d ⟨p.val * 1024 + q.val, by omega⟩

/-- Model dimension `r` of half `h`. -/
def half (h : Fin 2) (r : Fin 512) : Fin 1024 := ⟨h.val * 512 + r.val, by omega⟩

/-- The pieces of the first weight's gradient, by index. -/
def pieces (w : Mat 1024 4096) : S4x2x512x1024.Idx → EReal := fun y => w (half (y 1) (y 2)) (hid (y 0) (y 3))

end Cert.MixerIdeal.Ff

end
-- ==== Proof.Mixer.Hidden.lean ====
/- The first call leaves the hidden dimensions after the squared rectifier.
   The statement is of arbitrary contents of the call's input arrays. -/
module

public import proofs.«01_k».proof.Proof.Mixer.Layout

@[expose] public section

set_option maxRecDepth 16384

noncomputable section

namespace Cert.MixerIdeal.Ff

open Idealize.ShloMosaic Idealize.ShloMosaic.TcCoe
open Cert.MixerIdeal Cert.MixerIdeal.Gen Cert.Ff

variable (V : (c : Dev nD) → (b : Ref sig .tc) → Buf (Elt Ideal) ((c : Thread nD τ).loc b)) (c : Dev nD)

theorem at0_0 : ∀ t, win0_0.index t = ![t.val / 4, 0] := by decide +kernel
theorem at0_1 : ∀ t, win0_1.index t = ![t.val % 4, 0, 0, 0] := by decide +kernel
theorem at0_2 : ∀ t, win0_2.index t = ![t.val / 4, t.val % 4] := by decide +kernel

theorem cut0_0 (f : Buf (Elt Ideal) ((c : Thread nD τ).loc main_v0)) (t : Fin cfg0.N) (i : Fin 2048) (d : Fin 1024) :
    ((cfg0.win 0).blk t).view.read (Elt Ideal) f (ix2 i d) = f (ix2 ⟨t.val / 4 * 2048 + i.val, by have : t.val < 8 := t.isLt; omega⟩ d) := by
  blk_ext [at0_0 t]
theorem cut0_1 (f : Buf (Elt Ideal) ((c : Thread nD τ).loc main_v4)) (t : Fin cfg0.N) (h : Fin 2) (r : Fin 512) (q : Fin 1024) :
    ((cfg0.win 1).blk t).view.read (Elt Ideal) f (ix4 0 h r q) = f (ix4 ⟨t.val % 4, by omega⟩ h r q) := by
  blk_ext [at0_1 t]
theorem place0_2 (t : Fin cfg0.N) (i : Fin 2048) (q : Fin 1024) :
    ((cfg0.win 2).blk t).view.emb (ix2 i q)
      = (ix2 ⟨t.val / 4 * 2048 + i.val, by have : t.val < 8 := t.isLt; omega⟩ ⟨t.val % 4 * 1024 + q.val, by omega⟩ : S4096x4096.Idx) := by
  blk_ext [at0_2 t]

theorem left0 {x : Mat 4096 1024} {w1 : Mat 1024 4096} (hx : ∀ s d, V c main_v0 (ix2 s d) = x s d) (hw : Pieces (V c main_v4) w1) :
    (dat0 V c).arrAt 2 cfg0.N = fun y : S4096x4096.Idx => act x w1 (y 0) (y 1) := by
  refine (dat0 V c).arrAt_eq_of_covers 2 _ (by decide +kernel) fun t hf y => ?_
  blk_simp
  rw [after0_2]
  obtain ⟨i, q, rfl⟩ := idx2 (a := 2048) (b := 1024) y
  rw [place0_2]
  refine (tile0 _ _ i q).trans ?_
  unfold iblk0
  refine congrArg relu2 (Finset.sum_congr rfl fun d _ => congrArg₂ (· * ·) ?_ ?_)
  · exact (cut0_0 c (V c main_v0) t i d).trans (hx _ _)
  · exact (cut0_1 c (V c main_v4) t _ _ q).trans (hw _ d q)

end Cert.MixerIdeal.Ff

end
-- ==== Proof.Mixer.Stream.lean ====
/- The second call leaves the residual stream and its layer normalization.
   The statement is of arbitrary contents of the call's input arrays. -/
module

public import proofs.«01_k».proof.Proof.Mixer.Layout

@[expose] public section

set_option maxRecDepth 16384

noncomputable section

namespace Cert.MixerIdeal.Ff

open Idealize.ShloMosaic Idealize.ShloMosaic.TcCoe
open Cert.MixerIdeal Cert.MixerIdeal.Gen Cert.Ff

variable (V : (c : Dev nD) → (b : Ref sig .tc) → Buf (Elt Ideal) ((c : Thread nD τ).loc b)) (c : Dev nD)

theorem at1_rows : ∀ t, win1_0.index t = ![t.val, 0] ∧ win1_2.index t = ![t.val, 0] ∧ win1_5.index t = ![t.val, 0] ∧ win1_7.index t = ![t.val, 0] := by
  decide +kernel
theorem at1_whole : ∀ t, win1_1.index t = ![0, 0] ∧ win1_3.index t = ![0, 0] ∧ win1_4.index t = ![0, 0] := by decide +kernel

/-- The row tile of a grid point. -/
def pt1 (t : Fin cfg1.N) : Fin 8 := ⟨t.val, t.isLt⟩

theorem cut1_0 (f : Buf (Elt Ideal) ((c : Thread nD τ).loc main_v6)) (t : Fin cfg1.N) (i : Fin 512) (k : Fin 4096) :
    ((cfg1.win 0).blk t).view.read (Elt Ideal) f (ix2 i k) = f (ix2 (row8 (pt1 t) i) k) := by
  unfold row8 pt1; blk_ext [(at1_rows t).1]
theorem cut1_1 (f : Buf (Elt Ideal) ((c : Thread nD τ).loc main_v5)) (t : Fin cfg1.N) (k : Fin 4096) (d : Fin 1024) :
    ((cfg1.win 1).blk t).view.read (Elt Ideal) f (ix2 k d) = f (ix2 k d) := by
  blk_ext [(at1_whole t).1]
theorem cut1_2 (f : Buf (Elt Ideal) ((c : Thread nD τ).loc main_arg0)) (t : Fin cfg1.N) (i : Fin 512) (d : Fin 1024) :
    ((cfg1.win 2).blk t).view.read (Elt Ideal) f (ix2 i d) = f (ix2 (row8 (pt1 t) i) d) := by
  unfold row8 pt1; blk_ext [(at1_rows t).2.1]
theorem cut1_3 (f : Buf (Elt Ideal) ((c : Thread nD τ).loc main_v7)) (t : Fin cfg1.N) (d : Fin 1024) :
    ((cfg1.win 3).blk t).view.read (Elt Ideal) f (ix2 0 d) = f (ix2 0 d) := by
  blk_ext [(at1_whole t).2.1]
theorem cut1_4 (f : Buf (Elt Ideal) ((c : Thread nD τ).loc main_v8)) (t : Fin cfg1.N) (d : Fin 1024) :
    ((cfg1.win 4).blk t).view.read (Elt Ideal) f (ix2 0 d) = f (ix2 0 d) := by
  blk_ext [(at1_whole t).2.2]
theorem place1_5 (t : Fin cfg1.N) (i : Fin 512) (d : Fin 1024) :
    ((cfg1.win 5).blk t).view.emb (ix2 i d) = (ix2 (row8 (pt1 t) i) d : S4096x1024.Idx) := by
  unfold row8 pt1; blk_ext [(at1_rows t).2.2.1]
theorem place1_7 (t : Fin cfg1.N) (i : Fin 512) (d : Fin 1024) :
    ((cfg1.win 7).blk t).view.emb (ix2 i d) = (ix2 (row8 (pt1 t) i) d : S4096x1024.Idx) := by
  unfold row8 pt1; blk_ext [(at1_rows t).2.2.2]

/-- A row of the residual stream from the blocks of a row tile. -/
def resTile (f : Vec Ideal S512x4096 .bf16) (w : Vec Ideal S4096x1024 .bf16) (r : Vec Ideal S512x1024 .f32) (i : Fin 512) (d : Fin 1024) : EReal :=
  alpha * r (ix2 i d) + ∑ k : Fin 4096, f (ix2 i k) * w (ix2 k d)

section
variable {V c} {a : Mat 4096 4096} {w2 x : Mat 4096 1024} {g b : Fin 1024 → EReal}
variable (ha : ∀ s f, V c main_v6 (ix2 s f) = a s f) (hw : ∀ f d, V c main_v5 (ix2 f d) = w2 f d) (hx : ∀ s d, V c main_arg0 (ix2 s d) = x s d)
include ha hw hx

theorem res_at (t : Fin cfg1.N) (i : Fin 512) (d : Fin 1024) :
    resTile (iblk1 V c 0 t) (iblk1 V c 1 t) (iblk1 V c 2 t) i d = res x a w2 (row8 (pt1 t) i) d := by
  unfold iblk1 resTile
  refine congrArg₂ (· + ·) (congrArg (alpha * ·) ?_) (Finset.sum_congr rfl fun k _ => congrArg₂ (· * ·) ?_ ?_)
  · exact (cut1_2 c (V c main_arg0) t i d).trans (hx _ d)
  · exact (cut1_0 c (V c main_v6) t i k).trans (ha _ k)
  · exact (cut1_1 c (V c main_v5) t k d).trans (hw k d)

theorem left1_res : (dat1 V c).arrAt 7 cfg1.N = fun y : S4096x1024.Idx => res x a w2 (y 0) (y 1) := by
  refine (dat1 V c).arrAt_eq_of_covers 7 _ (by decide +kernel) fun t hf y => ?_
  blk_simp
  rw [after1_7]
  obtain ⟨i, d, rfl⟩ := idx2 (a := 512) (b := 1024) y
  rw [place1_7]
  exact (tile1_res _ _ _ _ _ i d).trans (res_at ha hw hx t i d)

theorem left1_norm (hg : ∀ d, V c main_v7 (ix2 0 d) = g d) (hb : ∀ d, V c main_v8 (ix2 0 d) = b d) :
    (dat1 V c).arrAt 5 cfg1.N = fun y : S4096x1024.Idx => layerNorm (res x a w2 (y 0)) g b (y 1) := by
  refine (dat1 V c).arrAt_eq_of_covers 5 _ (by decide +kernel) fun t hf y => ?_
  blk_simp
  rw [after1_5]
  obtain ⟨i, d, rfl⟩ := idx2 (a := 512) (b := 1024) y
  rw [place1_5]
  refine (tile1_norm _ _ _ _ _ i d).trans ?_
  show layerNorm (resTile (iblk1 V c 0 t) (iblk1 V c 1 t) (iblk1 V c 2 t) i) (fun e => iblk1 V c 3 t (ix2 0 e)) (fun e => iblk1 V c 4 t (ix2 0 e)) d
    = layerNorm (res x a w2 (row8 (pt1 t) i)) g b d
  have hr : resTile (iblk1 V c 0 t) (iblk1 V c 1 t) (iblk1 V c 2 t) i = res x a w2 (row8 (pt1 t) i) := funext fun e => res_at ha hw hx t i e
  have hg' : (fun e => iblk1 V c 3 t (ix2 0 e)) = g := funext fun e => by
    unfold iblk1; exact (cut1_3 c (V c main_v7) t e).trans (hg e)
  have hb' : (fun e => iblk1 V c 4 t (ix2 0 e)) = b := funext fun e => by
    unfold iblk1; exact (cut1_4 c (V c main_v8) t e).trans (hb e)
  rw [hr, hg', hb']
end

end Cert.MixerIdeal.Ff

end
-- ==== Proof.Mixer.SecondWeight.lean ====
/- The third call leaves the second weight's gradient.
   The statement is of arbitrary contents of the call's input arrays. -/
module

public import proofs.«01_k».proof.Proof.Mixer.Layout

@[expose] public section

set_option maxRecDepth 16384

noncomputable section

namespace Cert.MixerIdeal.Ff

open Idealize.ShloMosaic Idealize.ShloMosaic.TcCoe
open Cert.MixerIdeal Cert.MixerIdeal.Gen Cert.Ff

variable (V : (c : Dev nD) → (b : Ref sig .tc) → Buf (Elt Ideal) ((c : Thread nD τ).loc b)) (c : Dev nD)

theorem at2_0 : ∀ t, win2_0.index t = ![0, t.val] := by decide +kernel
theorem at2_1 : ∀ t, win2_1.index t = ![0, 0] := by decide +kernel
theorem at2_2 : ∀ t, win2_2.index t = ![t.val, 0] := by decide +kernel

/-- The group of a grid point. -/
def pt2 (t : Fin cfg2.N) : Fin 4 := ⟨t.val, t.isLt⟩

theorem cut2_0 (f : Buf (Elt Ideal) ((c : Thread nD τ).loc main_v6)) (t : Fin cfg2.N) (s : Fin 4096) (i : Fin 1024) :
    ((cfg2.win 0).blk t).view.read (Elt Ideal) f (ix2 s i) = f (ix2 s (hid (pt2 t) i)) := by
  unfold hid pt2; blk_ext [at2_0 t]
theorem cut2_1 (f : Buf (Elt Ideal) ((c : Thread nD τ).loc main_v1)) (t : Fin cfg2.N) (s : Fin 4096) (d : Fin 1024) :
    ((cfg2.win 1).blk t).view.read (Elt Ideal) f (ix2 s d) = f (ix2 s d) := by
  blk_ext [at2_1 t]
theorem place2_2 (t : Fin cfg2.N) (i : Fin 1024) (d : Fin 1024) :
    ((cfg2.win 2).blk t).view.emb (ix2 i d) = (ix2 (hid (pt2 t) i) d : S4096x1024.Idx) := by
  unfold hid pt2; blk_ext [at2_2 t]

theorem left2 {a : Mat 4096 4096} {dr : Mat 4096 1024} (ha : ∀ s f, V c main_v6 (ix2 s f) = a s f) (hd : ∀ s d, V c main_v1 (ix2 s d) = dr s d) :
    (dat2 V c).arrAt 2 cfg2.N = fun y : S4096x1024.Idx => dW2 a dr (y 0) (y 1) := by
  refine (dat2 V c).arrAt_eq_of_covers 2 _ (by decide +kernel) fun t hf y => ?_
  blk_simp
  rw [after2_2]
  obtain ⟨i, d, rfl⟩ := idx2 (a := 1024) (b := 1024) y
  rw [place2_2]
  refine (tile2 _ _ i d).trans ?_
  unfold iblk2
  refine Finset.sum_congr rfl fun s _ => congrArg₂ (· * ·) ?_ ?_
  · exact (cut2_0 c (V c main_v6) t s i).trans (ha s _)
  · exact (cut2_1 c (V c main_v1) t s d).trans (hd s d)

end Cert.MixerIdeal.Ff

end
-- ==== Proof.Mixer.HiddenGrad.lean ====
/- The fourth call leaves the gradient by the hidden dimensions.
   The statement is of arbitrary contents of the call's input arrays. -/
module

public import proofs.«01_k».proof.Proof.Mixer.Layout

@[expose] public section

set_option maxRecDepth 16384

noncomputable section

namespace Cert.MixerIdeal.Ff

open Idealize.ShloMosaic Idealize.ShloMosaic.TcCoe
open Cert.MixerIdeal Cert.MixerIdeal.Gen Cert.Ff

variable (V : (c : Dev nD) → (b : Ref sig .tc) → Buf (Elt Ideal) ((c : Thread nD τ).loc b)) (c : Dev nD)

theorem at3_0 : ∀ t, win3_0.index t = ![t.val / 2, 0] := by decide +kernel
theorem at3_1 : ∀ t, win3_1.index t = ![t.val % 2, 0] := by decide +kernel
theorem at3_2 : ∀ t, win3_2.index t = ![t.val / 2, t.val % 2] := by decide +kernel
theorem at3_3 : ∀ t, win3_3.index t = ![t.val / 2, t.val % 2] := by decide +kernel

/-- Token `i` of the grid point's tile, and hidden dimension `j` of the grid point's half. -/
def tok3 (t : Fin cfg3.N) (i : Fin 1024) : Fin 4096 := ⟨t.val / 2 * 1024 + i.val, by have : t.val < 8 := t.isLt; omega⟩
def hid3 (t : Fin cfg3.N) (j : Fin 2048) : Fin 4096 := ⟨t.val % 2 * 2048 + j.val, by omega⟩

theorem cut3_0 (f : Buf (Elt Ideal) ((c : Thread nD τ).loc main_v1)) (t : Fin cfg3.N) (i : Fin 1024) (d : Fin 1024) :
    ((cfg3.win 0).blk t).view.read (Elt Ideal) f (ix2 i d) = f (ix2 (tok3 t i) d) := by
  unfold tok3; blk_ext [at3_0 t]
theorem cut3_1 (f : Buf (Elt Ideal) ((c : Thread nD τ).loc main_v5)) (t : Fin cfg3.N) (j : Fin 2048) (d : Fin 1024) :
    ((cfg3.win 1).blk t).view.read (Elt Ideal) f (ix2 j d) = f (ix2 (hid3 t j) d) := by
  unfold hid3; blk_ext [at3_1 t]
theorem cut3_2 (f : Buf (Elt Ideal) ((c : Thread nD τ).loc main_v6)) (t : Fin cfg3.N) (i : Fin 1024) (j : Fin 2048) :
    ((cfg3.win 2).blk t).view.read (Elt Ideal) f (ix2 i j) = f (ix2 (tok3 t i) (hid3 t j)) := by
  unfold tok3 hid3; blk_ext [at3_2 t]
theorem place3_3 (t : Fin cfg3.N) (i : Fin 1024) (j : Fin 2048) :
    ((cfg3.win 3).blk t).view.emb (ix2 i j) = (ix2 (tok3 t i) (hid3 t j) : S4096x4096.Idx) := by
  unfold tok3 hid3; blk_ext [at3_3 t]

theorem left3 {dr w2 : Mat 4096 1024} {a : Mat 4096 4096} (hd : ∀ s d, V c main_v1 (ix2 s d) = dr s d) (hw : ∀ f d, V c main_v5 (ix2 f d) = w2 f d)
    (ha : ∀ s f, V c main_v6 (ix2 s f) = a s f) :
    (dat3 V c).arrAt 3 cfg3.N = fun y : S4096x4096.Idx => dHidden dr w2 a (y 0) (y 1) := by
  refine (dat3 V c).arrAt_eq_of_covers 3 _ (by decide +kernel) fun t hf y => ?_
  blk_simp
  rw [after3_3]
  obtain ⟨i, j, rfl⟩ := idx2 (a := 1024) (b := 2048) y
  rw [place3_3]
  refine (tile3 _ _ _ i j).trans ?_
  unfold iblk3
  refine congrArg₂ (· * ·) (Finset.sum_congr rfl fun d _ => congrArg₂ (· * ·) ?_ ?_) (congrArg (fun z => two * Ideal.sqrt z) ?_)
  · exact (cut3_0 c (V c main_v1) t i d).trans (hd _ d)
  · exact (cut3_1 c (V c main_v5) t j d).trans (hw _ d)
  · exact (cut3_2 c (V c main_v6) t i j).trans (ha _ _)

end Cert.MixerIdeal.Ff

end
-- ==== Proof.Mixer.FirstWeight.lean ====
/- The fifth call leaves the first weight's gradient, in pieces.
   The statement is of arbitrary contents of the call's input arrays. -/
module

public import proofs.«01_k».proof.Proof.Mixer.Layout

@[expose] public section

set_option maxRecDepth 16384

noncomputable section

namespace Cert.MixerIdeal.Ff

open Idealize.ShloMosaic Idealize.ShloMosaic.TcCoe
open Cert.MixerIdeal Cert.MixerIdeal.Gen Cert.Ff

variable (V : (c : Dev nD) → (b : Ref sig .tc) → Buf (Elt Ideal) ((c : Thread nD τ).loc b)) (c : Dev nD)

theorem at4_0 : ∀ t, win4_0.index t = ![0, 0] := by decide +kernel
theorem at4_1 : ∀ t, win4_1.index t = ![0, t.val] := by decide +kernel
theorem at4_2 : ∀ t, win4_2.index t = ![t.val, 0, 0, 0] := by decide +kernel

/-- The group of a grid point. -/
def pt4 (t : Fin cfg4.N) : Fin 4 := ⟨t.val, t.isLt⟩

theorem cut4_0 (f : Buf (Elt Ideal) ((c : Thread nD τ).loc main_v0)) (t : Fin cfg4.N) (s : Fin 4096) (d : Fin 1024) :
    ((cfg4.win 0).blk t).view.read (Elt Ideal) f (ix2 s d) = f (ix2 s d) := by
  blk_ext [at4_0 t]
theorem cut4_1 (f : Buf (Elt Ideal) ((c : Thread nD τ).loc main_v11)) (t : Fin cfg4.N) (s : Fin 4096) (q : Fin 1024) :
    ((cfg4.win 1).blk t).view.read (Elt Ideal) f (ix2 s q) = f (ix2 s (hid (pt4 t) q)) := by
  unfold hid pt4; blk_ext [at4_1 t]
theorem place4_2 (t : Fin cfg4.N) (h : Fin 2) (r : Fin 512) (q : Fin 1024) :
    ((cfg4.win 2).blk t).view.emb (ix4 0 h r q) = (ix4 (pt4 t) h r q : S4x2x512x1024.Idx) := by
  unfold pt4; blk_ext [at4_2 t]

theorem idx4 (y : S1x2x512x1024.Idx) : ∃ (h : Fin 2) (r : Fin 512) (q : Fin 1024), y = ix4 0 h r q :=
  ⟨y 1, y 2, y 3, by funext e; fin_cases e <;> [exact Fin.ext (Nat.lt_one_iff.mp (y 0).isLt); rfl; rfl; rfl]⟩

theorem left4 {x : Mat 4096 1024} {du : Mat 4096 4096} (hx : ∀ s d, V c main_v0 (ix2 s d) = x s d) (hu : ∀ s f, V c main_v11 (ix2 s f) = du s f) :
    (dat4 V c).arrAt 2 cfg4.N = pieces (dW1 x du) := by
  refine (dat4 V c).arrAt_eq_of_covers 2 _ (by decide +kernel) fun t hf y => ?_
  blk_simp
  rw [after4_2]
  obtain ⟨h, r, q, rfl⟩ := idx4 y
  rw [place4_2]
  refine (tile4 _ _ h r q).trans ?_
  show _ = ∑ s, x s (half h r) * du s (hid (pt4 t) q)
  unfold iblk4
  refine Finset.sum_congr rfl fun s _ => congrArg₂ (· * ·) ?_ ?_
  · exact (cut4_0 c (V c main_v0) t s _).trans (hx s _)
  · exact (cut4_1 c (V c main_v11) t s q).trans (hu s _)

end Cert.MixerIdeal.Ff

end
-- ==== Proof.Mixer.InputGrad.lean ====
/- The sixth call leaves the input's gradient.
   The statement is of arbitrary contents of the call's input arrays. -/
module

public import proofs.«01_k».proof.Proof.Mixer.Layout

@[expose] public section

set_option maxRecDepth 16384

noncomputable section

namespace Cert.MixerIdeal.Ff

open Idealize.ShloMosaic Idealize.ShloMosaic.TcCoe
open Cert.MixerIdeal Cert.MixerIdeal.Gen Cert.Ff

variable (V : (c : Dev nD) → (b : Ref sig .tc) → Buf (Elt Ideal) ((c : Thread nD τ).loc b)) (c : Dev nD)

theorem at5_0 : ∀ t, win5_0.index t = ![t.val, 0] := by decide +kernel
theorem at5_1 : ∀ t, win5_1.index t = ![0, 0, 0, 0] := by decide +kernel
theorem at5_2 : ∀ t, win5_2.index t = ![t.val, 0] := by decide +kernel
theorem at5_3 : ∀ t, win5_3.index t = ![t.val, 0] := by decide +kernel

/-- The row tile of a grid point. -/
def pt5 (t : Fin cfg5.N) : Fin 8 := ⟨t.val, t.isLt⟩

theorem cut5_0 (f : Buf (Elt Ideal) ((c : Thread nD τ).loc main_v11)) (t : Fin cfg5.N) (i : Fin 512) (k : Fin 4096) :
    ((cfg5.win 0).blk t).view.read (Elt Ideal) f (ix2 i k) = f (ix2 (row8 (pt5 t) i) k) := by
  unfold row8 pt5; blk_ext [at5_0 t]
theorem cut5_1 (f : Buf (Elt Ideal) ((c : Thread nD τ).loc main_v4)) (t : Fin cfg5.N) (p : Fin 4) (h : Fin 2) (r : Fin 512) (q : Fin 1024) :
    ((cfg5.win 1).blk t).view.read (Elt Ideal) f (ix4 p h r q) = f (ix4 p h r q) := by
  blk_ext [at5_1 t]
theorem cut5_2 (f : Buf (Elt Ideal) ((c : Thread nD τ).loc main_arg5)) (t : Fin cfg5.N) (i : Fin 512) (d : Fin 1024) :
    ((cfg5.win 2).blk t).view.read (Elt Ideal) f (ix2 i d) = f (ix2 (row8 (pt5 t) i) d) := by
  unfold row8 pt5; blk_ext [at5_2 t]
theorem place5_3 (t : Fin cfg5.N) (i : Fin 512) (d : Fin 1024) :
    ((cfg5.win 3).blk t).view.emb (ix2 i d) = (ix2 (row8 (pt5 t) i) d : S4096x1024.Idx) := by
  unfold row8 pt5; blk_ext [at5_3 t]

theorem left5 {du : Mat 4096 4096} {w1 : Mat 1024 4096} {dr : Mat 4096 1024} (hu : ∀ s f, V c main_v11 (ix2 s f) = du s f)
    (hw : Pieces (V c main_v4) w1) (hd : ∀ s d, V c main_arg5 (ix2 s d) = dr s d) :
    (dat5 V c).arrAt 3 cfg5.N = fun y : S4096x1024.Idx => dX du w1 dr (y 0) (y 1) := by
  refine (dat5 V c).arrAt_eq_of_covers 3 _ (by decide +kernel) fun t hf y => ?_
  blk_simp
  rw [after5_3]
  obtain ⟨i, d, rfl⟩ := idx2 (a := 512) (b := 1024) y
  rw [place5_3]
  refine (tile5 _ _ _ i d).trans ?_
  unfold iblk5
  refine congrArg₂ (· + ·) (Finset.sum_congr rfl fun k _ => congrArg₂ (· * ·) ?_ ?_) (congrArg (alpha * ·) ?_)
  · exact (cut5_0 c (V c main_v11) t i k).trans (hu _ k)
  · refine (cut5_1 c (V c main_v4) t _ _ _ _).trans ((hw _ d _).trans (congrArg (w1 d) (Fin.ext ?_)))
    show k.val / 1024 * 1024 + k.val % 1024 = k.val
    omega
  · exact (cut5_2 c (V c main_arg5) t i d).trans (hd _ d)

end Cert.MixerIdeal.Ff

end
-- ==== Proof.Mixer.Chain.lean ====
/- The arrays along the six calls: each call finds in its input arrays what the host or an earlier call left there, so the
   last boundary's results are the mathematics of the arguments. -/
module

public import proofs.«01_k».proof.Proof.Mixer.Hidden
public import proofs.«01_k».proof.Proof.Mixer.Stream
public import proofs.«01_k».proof.Proof.Mixer.SecondWeight
public import proofs.«01_k».proof.Proof.Mixer.HiddenGrad
public import proofs.«01_k».proof.Proof.Mixer.FirstWeight
public import proofs.«01_k».proof.Proof.Mixer.InputGrad
public import Idealize.ShloMosaic.Lib.StableHlo.ReadAt
public import Idealize.ShloMosaic.Lib.Claim

@[expose] public section

set_option maxRecDepth 16384

noncomputable section

namespace Cert.MixerIdeal.Ff

open Idealize.ShloMosaic Idealize.ShloMosaic.TcCoe
open Cert.MixerIdeal Cert.MixerIdeal.Gen Cert.Ff

variable (m : (ℓ : Loc nD τ sig) → Buf (Elt Ideal) ℓ) (ρ : Dev nD → PrngReg) (c : Dev nD)

/-! ## The arguments -/

def argX : Mat 4096 1024 := fun s d => m (c, Proc.tc.devRef main_arg0) (ix2 s d)
def argW1 : Mat 1024 4096 := fun d f => m (c, Proc.tc.devRef main_arg1) (ix2 d f)
def argW2 : Mat 4096 1024 := fun f d => m (c, Proc.tc.devRef main_arg2) (ix2 f d)
def argG : Fin 1024 → EReal := fun d => m (c, Proc.tc.devRef main_arg3) (ix1 d)
def argB : Fin 1024 → EReal := fun d => m (c, Proc.tc.devRef main_arg4) (ix1 d)
def argD : Mat 4096 1024 := fun s d => m (c, Proc.tc.devRef main_arg5) (ix2 s d)

/-! ## What the host prepares -/

theorem V1_x (s : Fin 4096) (d : Fin 1024) : V1 m ρ c main_v0 (ix2 s d) = argX m c s d := by
  unfold argX; after_reads_at
theorem V1_d (s : Fin 4096) (d : Fin 1024) : V1 m ρ c main_v1 (ix2 s d) = argD m c s d := by
  unfold argD; after_reads_at
theorem V1_w2 (f : Fin 4096) (d : Fin 1024) : V1 m ρ c main_v5 (ix2 f d) = argW2 m c f d := by
  unfold argW2; after_reads_at
theorem V1_w1 : Pieces (V1 m ρ c main_v4) (argW1 m c) := fun p d q => by
  unfold argW1; after_reads_at
  exact congrArg (fun k : Fin 1024 => m (c, Proc.tc.devRef main_arg1) (ix2 k (hid p q))) (Fin.ext (Nat.div_add_mod' d.val 512))

/-! ## The mathematics of the arguments -/

/-- The saved activations. -/
def theAct : Mat 4096 4096 := act (argX m c) (argW1 m c)
/-- The residual stream after the mixer. -/
def theRes : Mat 4096 1024 := res (argX m c) (theAct m c) (argW2 m c)
/-- The gradient by the hidden dimensions. -/
def theDu : Mat 4096 4096 := dHidden (argD m c) (argW2 m c) (theAct m c)

/-! ## After the first call: the activations -/

theorem W2_act : W2 m ρ c (Proc.devRef .tc main_v6) = fun y : S4096x4096.Idx => theAct m c (y 0) (y 1) :=
  (W2_arr m ρ c 2).trans (left0 (V1 m ρ) c (V1_x m ρ c) (V1_w1 m ρ c))

theorem V3_act (s f : Fin 4096) : V3 m ρ c main_v6 (ix2 s f) = theAct m c s f :=
  (congrFun (W3_of m ρ c main_v6 (by decide)) _).trans (congrFun (W2_act m ρ c) _)

/-! ## The host's arrays, carried to where each is read -/

theorem W3_host (r : Ref sig .tc) (h0 : ∀ w : Fin cfg0.W, Pipeline.arrRef spec0 w = r → (cfg0.win w).isOut = false) (h1 : r ∉ hostOps1_W) :
    W3 m ρ c (Proc.devRef .tc r) = W1 m ρ c (Proc.devRef .tc r) :=
  (W3_of m ρ c r h1).trans (W2_of m ρ c r h0)

theorem W5_host (r : Ref sig .tc) (h0 : ∀ w : Fin cfg0.W, Pipeline.arrRef spec0 w = r → (cfg0.win w).isOut = false) (h1 : r ∉ hostOps1_W)
    (h2 : ∀ w : Fin cfg1.W, Pipeline.arrRef spec1 w = r → (cfg1.win w).isOut = false)
    (h3 : ∀ w : Fin cfg2.W, Pipeline.arrRef spec2 w = r → (cfg2.win w).isOut = false) :
    W5 m ρ c (Proc.devRef .tc r) = W1 m ρ c (Proc.devRef .tc r) :=
  (W5_of m ρ c r h3).trans ((W4_of m ρ c r h2).trans (W3_host m ρ c r h0 h1))

theorem V3_w2 (f : Fin 4096) (d : Fin 1024) : V3 m ρ c main_v5 (ix2 f d) = argW2 m c f d :=
  (congrFun (W3_host m ρ c main_v5 (by decide) (by decide)) _).trans (V1_w2 m ρ c f d)

theorem V3_x (s : Fin 4096) (d : Fin 1024) : V3 m ρ c main_arg0 (ix2 s d) = argX m c s d :=
  congrFun (W3_args m ρ c main_arg0 (by decide)) _

theorem V3_g (d : Fin 1024) : V3 m ρ c main_v7 (ix2 0 d) = argG m c d := by
  have h := W2_args m ρ c main_arg3 (by decide)
  refine Eq.trans ?_ (congrFun h (ix1 d))
  after_reads_at

theorem V3_b (d : Fin 1024) : V3 m ρ c main_v8 (ix2 0 d) = argB m c d := by
  have h := W2_args m ρ c main_arg4 (by decide)
  refine Eq.trans ?_ (congrFun h (ix1 d))
  after_reads_at

/-! ## After the second call: the residual stream and its normalization -/

theorem W4_res : W4 m ρ c (Proc.devRef .tc main_v9_2) = fun y : S4096x1024.Idx => theRes m c (y 0) (y 1) :=
  (W4_arr m ρ c 7).trans (left1_res (V3_act m ρ c) (V3_w2 m ρ c) (V3_x m ρ c))

theorem W4_norm : W4 m ρ c (Proc.devRef .tc main_v9_0) = fun y : S4096x1024.Idx => layerNorm (theRes m c (y 0)) (argG m c) (argB m c) (y 1) :=
  (W4_arr m ρ c 5).trans (left1_norm (V3_act m ρ c) (V3_w2 m ρ c) (V3_x m ρ c) (V3_g m ρ c) (V3_b m ρ c))

/-! ## After the third call: the gradient by the second weight -/

theorem V4_act (s f : Fin 4096) : V4 m ρ c main_v6 (ix2 s f) = theAct m c s f :=
  (congrFun (W4_of m ρ c main_v6 (by decide)) _).trans (V3_act m ρ c s f)

theorem V4_d (s : Fin 4096) (d : Fin 1024) : V4 m ρ c main_v1 (ix2 s d) = argD m c s d :=
  (congrFun (W4_of m ρ c main_v1 (by decide)) _).trans
    ((congrFun (W3_host m ρ c main_v1 (by decide) (by decide)) _).trans (V1_d m ρ c s d))

theorem W5_dW2 : W5 m ρ c (Proc.devRef .tc main_v10) = fun y : S4096x1024.Idx => dW2 (theAct m c) (argD m c) (y 0) (y 1) :=
  (W5_arr m ρ c 2).trans (left2 (V4 m ρ) c (V4_act m ρ c) (V4_d m ρ c))

/-! ## After the fourth call: the gradient by the hidden dimensions -/

theorem V5_act (s f : Fin 4096) : V5 m ρ c main_v6 (ix2 s f) = theAct m c s f :=
  (congrFun (W5_of m ρ c main_v6 (by decide)) _).trans (V4_act m ρ c s f)

theorem V5_d (s : Fin 4096) (d : Fin 1024) : V5 m ρ c main_v1 (ix2 s d) = argD m c s d :=
  (congrFun (W5_of m ρ c main_v1 (by decide)) _).trans (V4_d m ρ c s d)

theorem V5_w2 (f : Fin 4096) (d : Fin 1024) : V5 m ρ c main_v5 (ix2 f d) = argW2 m c f d :=
  (congrFun (W5_host m ρ c main_v5 (by decide) (by decide) (by decide) (by decide)) _).trans (V1_w2 m ρ c f d)

theorem W6_du : W6 m ρ c (Proc.devRef .tc main_v11) = fun y : S4096x4096.Idx => theDu m c (y 0) (y 1) :=
  (W6_arr m ρ c 3).trans (left3 (V5 m ρ) c (V5_d m ρ c) (V5_w2 m ρ c) (V5_act m ρ c))

/-! ## After the fifth call: the gradient by the first weight -/

theorem V6_du (s f : Fin 4096) : V6 m ρ c main_v11 (ix2 s f) = theDu m c s f := congrFun (W6_du m ρ c) _

theorem V6_x (s : Fin 4096) (d : Fin 1024) : V6 m ρ c main_v0 (ix2 s d) = argX m c s d :=
  (congrFun ((W6_of m ρ c main_v0 (by decide)).trans (W5_host m ρ c main_v0 (by decide) (by decide) (by decide) (by decide))) _).trans
    (V1_x m ρ c s d)

theorem W7_dW1 : W7 m ρ c (Proc.devRef .tc main_v12) = pieces (dW1 (argX m c) (theDu m c)) :=
  (W7_arr m ρ c 2).trans (left4 (V6 m ρ) c (V6_x m ρ c) (V6_du m ρ c))

/-! ## After the sixth call: the gradient by the input -/

theorem V7_du (s f : Fin 4096) : V7 m ρ c main_v11 (ix2 s f) = theDu m c s f :=
  (congrFun (W7_of m ρ c main_v11 (by decide)) _).trans (V6_du m ρ c s f)

theorem V7_w1 : Pieces (V7 m ρ c main_v4) (argW1 m c) := fun p d q =>
  (congrFun ((W7_of m ρ c main_v4 (by decide)).trans ((W6_of m ρ c main_v4 (by decide)).trans
    (W5_host m ρ c main_v4 (by decide) (by decide) (by decide) (by decide)))) _).trans (V1_w1 m ρ c p d q)

theorem V7_d (s : Fin 4096) (d : Fin 1024) : V7 m ρ c main_arg5 (ix2 s d) = argD m c s d :=
  congrFun (W7_args m ρ c main_arg5 (by decide)) _

theorem W8_dX : W8 m ρ c (Proc.devRef .tc main_v13) = fun y : S4096x1024.Idx => dX (theDu m c) (argW1 m c) (argD m c) (y 0) (y 1) :=
  (W8_arr m ρ c 3).trans (left5 (V7 m ρ) c (V7_du m ρ c) (V7_w1 m ρ c) (V7_d m ρ c))

/-! ## The results at the end -/

theorem W8_dW1 : W8 m ρ c (Proc.devRef .tc main_v12) = pieces (dW1 (argX m c) (theDu m c)) :=
  (W8_of m ρ c main_v12 (by decide)).trans (W7_dW1 m ρ c)

theorem W8_dW2 : W8 m ρ c (Proc.devRef .tc main_v10) = fun y : S4096x1024.Idx => dW2 (theAct m c) (argD m c) (y 0) (y 1) :=
  (W8_of m ρ c main_v10 (by decide)).trans ((W7_of m ρ c main_v10 (by decide)).trans
    ((W6_of m ρ c main_v10 (by decide)).trans (W5_dW2 m ρ c)))

/-- What the second call leaves, if no later call writes it, is there at the end. -/
theorem W8_second (r : Ref sig .tc) (h2 : ∀ w : Fin cfg2.W, Pipeline.arrRef spec2 w = r → (cfg2.win w).isOut = false)
    (h3 : ∀ w : Fin cfg3.W, Pipeline.arrRef spec3 w = r → (cfg3.win w).isOut = false)
    (h4 : ∀ w : Fin cfg4.W, Pipeline.arrRef spec4 w = r → (cfg4.win w).isOut = false)
    (h5 : ∀ w : Fin cfg5.W, Pipeline.arrRef spec5 w = r → (cfg5.win w).isOut = false) :
    W8 m ρ c (Proc.devRef .tc r) = W4 m ρ c (Proc.devRef .tc r) :=
  (W8_of m ρ c r h5).trans ((W7_of m ρ c r h4).trans ((W6_of m ρ c r h3).trans (W5_of m ρ c r h2)))

theorem W8_res : W8 m ρ c (Proc.devRef .tc main_v9_2) = fun y : S4096x1024.Idx => theRes m c (y 0) (y 1) :=
  (W8_second m ρ c main_v9_2 (by decide) (by decide) (by decide) (by decide)).trans (W4_res m ρ c)

theorem W8_norm : W8 m ρ c (Proc.devRef .tc main_v9_0) = fun y : S4096x1024.Idx => layerNorm (theRes m c (y 0)) (argG m c) (argB m c) (y 1) :=
  (W8_second m ρ c main_v9_0 (by decide) (by decide) (by decide) (by decide)).trans (W4_norm m ρ c)

end Cert.MixerIdeal.Ff

end
-- ==== Proof.Mixer.RefStages.lean ====
/- The mixer's reference, stage by stage, each read at an index: a stage takes its arrays as they come, so no
   reading sees more than one operation or two. -/
module

public import proofs.«01_k».proof.Proof.Gen.MixerReferenceIdeal.Run
public import proofs.«01_k».proof.Proof.Mixer.Spec
public import Idealize.ShloMosaic.Lib.Pointwise

@[expose] public section

set_option maxRecDepth 16384

noncomputable section

namespace Cert.MixerReferenceIdeal.Stage

open Idealize.ShloMosaic Idealize.ShloMosaic.TcCoe
open Cert.MixerReferenceIdeal Cert.MixerReferenceIdeal.Gen Cert.Ff

/-! ## The forward pass -/

/-- The product with the first weight. -/
def hid (x : FVec Ideal S4096x1024 .f32) (w1 : FVec Ideal S1024x4096 .f32) : FVec Ideal S4096x4096 .f32 :=
  Host.dotGeneral dot_S4096x1024_S1024x4096_S4096x4096_1_0_0_1_n_n none x w1
/-- The rectifier. -/
def rect (u : FVec Ideal S4096x4096 .f32) : FVec Ideal S4096x4096 .f32 :=
  maximumf u (broadcastInDim S4096x4096 ![] bcast_S_S4096x4096 (constant S_ .f32 0x00000000#32))
/-- The residual stream. -/
def stream (x : FVec Ideal S4096x1024 .f32) (v : FVec Ideal S4096x4096 .f32) (w2 : FVec Ideal S4096x1024 .f32) : FVec Ideal S4096x1024 .f32 :=
  addf (mulf (broadcastInDim S4096x1024 ![] bcast_S_S4096x1024 (constant S_ .f32 0x3FD744FD#32)) x)
    (Host.dotGeneral dot_S4096x4096_S4096x1024_S4096x1024_1_0_0_1_n_n none (mulf v v) w2)

theorem hid_at (x w1) (s f : Fin 4096) : hid x w1 (ix2 s f) = ∑ d : Fin 1024, x (ix2 s d) * w1 (ix2 d f) := by
  pointwise [hid]
theorem rect_at (u) (s f : Fin 4096) : rect u (ix2 s f) = max (u (ix2 s f)) 0 := by
  pointwise [rect]
theorem stream_at (x v w2) (s : Fin 4096) (d : Fin 1024) :
    stream x v w2 (ix2 s d) = alpha * x (ix2 s d) + ∑ f : Fin 4096, v (ix2 s f) * v (ix2 s f) * w2 (ix2 f d) := by
  pointwise [stream]
  rfl

/-! ## The layer normalization -/

/-- The row sums over the width. -/
def mean (r : FVec Ideal S4096x1024 .f32) : FVec Ideal S4096x1 .f32 :=
  Host.divf (broadcastInDim S4096x1 ![0] bcast_S4096_S4096x1_0 (Host.reduceAdd r (constant S_ .f32 0x00000000#32) reducesTo_S4096x1024_S4096_d1 h_S_))
    (broadcastInDim S4096x1 ![] bcast_S_S4096x1 (constant S_ .f32 0x44800000#32))
/-- The rows less their means. -/
def centered (r : FVec Ideal S4096x1024 .f32) (u : FVec Ideal S4096x1 .f32) : FVec Ideal S4096x1024 .f32 :=
  subf r (broadcastInDim S4096x1024 ![0, 1] bcast_S4096x1_S4096x1024_0_1 u)
/-- The inverse root of the variance. -/
def spread (v : FVec Ideal S4096x1 .f32) : FVec Ideal S4096x1 .f32 :=
  Host.rsqrt (addf v (broadcastInDim S4096x1 ![] bcast_S_S4096x1 (constant S_ .f32 0x3727C5AC#32)))
/-- The normalized rows, scaled and shifted. -/
def scaled (z : FVec Ideal S4096x1024 .f32) (u : FVec Ideal S4096x1 .f32) (g b : FVec Ideal S1024 .f32) : FVec Ideal S4096x1024 .f32 :=
  addf (mulf (mulf z (broadcastInDim S4096x1024 ![0, 1] bcast_S4096x1_S4096x1024_0_1 u))
      (broadcastInDim S4096x1024 ![0, 1] bcast_S1x1024_S4096x1024_0_1 (broadcastInDim S1x1024 ![1] bcast_S1024_S1x1024_1 g)))
    (broadcastInDim S4096x1024 ![0, 1] bcast_S1x1024_S4096x1024_0_1 (broadcastInDim S1x1024 ![1] bcast_S1024_S1x1024_1 b))

theorem mean_at (r) (s : Fin 4096) : mean r (ix2 s 0) = Ideal.div (∑ d : Fin 1024, r (ix2 s d)) width := by
  pointwise [mean]
  rfl
theorem centered_at (r u) (s : Fin 4096) (d : Fin 1024) : centered r u (ix2 s d) = r (ix2 s d) - u (ix2 s 0) := by
  pointwise [centered]
theorem spread_at (v) (s : Fin 4096) : spread v (ix2 s 0) = Ideal.rsqrt (v (ix2 s 0) + eps) := by
  pointwise [spread]
  rfl
theorem scaled_at (z u g b) (s : Fin 4096) (d : Fin 1024) :
    scaled z u g b (ix2 s d) = z (ix2 s d) * u (ix2 s 0) * g (ix1 d) + b (ix1 d) := by
  pointwise [scaled]

/-- The layer normalization of the rows. -/
def norm (r : FVec Ideal S4096x1024 .f32) (g b : FVec Ideal S1024 .f32) : FVec Ideal S4096x1024 .f32 :=
  scaled (centered r (mean r)) (spread (mean (mulf (centered r (mean r)) (centered r (mean r))))) g b

theorem norm_at (r g b) (s : Fin 4096) (d : Fin 1024) :
    norm r g b (ix2 s d) = layerNorm (fun e => r (ix2 s e)) (fun e => g (ix1 e)) (fun e => b (ix1 e)) d := by
  have hc : ∀ e, centered r (mean r) (ix2 s e) = center (fun e => r (ix2 s e)) e := fun e => by
    rw [centered_at, mean_at]; rfl
  unfold norm layerNorm
  rw [scaled_at, spread_at, mean_at, hc]
  have hs : ∀ e, mulf (centered r (mean r)) (centered r (mean r)) (ix2 s e) = center (fun e => r (ix2 s e)) e * center (fun e => r (ix2 s e)) e :=
    fun e => by rw [← hc]; rfl
  rw [Finset.sum_congr rfl fun e _ => hs e]

/-! ## The backward pass -/

/-- The incoming gradient, in the shape it has. -/
def incoming (d : FVec Ideal S4096x1024 .f32) : FVec Ideal S4096x1024 .f32 := shapeCast _ d shapeCasts_S4096x1024_S4096x1024
/-- The gradient by the hidden dimensions, where they are positive. -/
def du (u v : FVec Ideal S4096x4096 .f32) (d w2 : FVec Ideal S4096x1024 .f32) : FVec Ideal S4096x4096 .f32 :=
  select (cmpf .ogt u (broadcastInDim S4096x4096 ![] bcast_S_S4096x4096 (constant S_ .f32 0x00000000#32)))
    (mulf (Host.dotGeneral dot_S4096x1024_S4096x1024_S4096x4096_1_1_0_0_n_n none d w2)
      (mulf (broadcastInDim S4096x4096 ![] bcast_S_S4096x4096 (constant S_ .f32 0x40000000#32)) v))
    (broadcastInDim S4096x4096 ![] bcast_S_S4096x4096 (constant S_ .f32 0x00000000#32))
/-- The gradient by the input. -/
def gx (d : FVec Ideal S4096x1024 .f32) (e : FVec Ideal S4096x4096 .f32) (w1 : FVec Ideal S1024x4096 .f32) : FVec Ideal S4096x1024 .f32 :=
  addf (mulf (broadcastInDim S4096x1024 ![] bcast_S_S4096x1024 (constant S_ .f32 0x3FD744FD#32)) d)
    (Host.dotGeneral dot_S4096x4096_S1024x4096_S4096x1024_1_1_0_0_n_n none e w1)
/-- The gradient by the first weight, in four pieces of two halves. -/
def gw1 (e : FVec Ideal S4096x4096 .f32) (x : FVec Ideal S4096x1024 .f32) : FVec Ideal S4x2x512x1024 .f32 :=
  transpose S4x2x512x1024 [2, 0, 1, 3] (shapeCast _ (transpose S1024x4096 [1, 0]
    (Host.dotGeneral dot_S4096x4096_S4096x1024_S4096x1024_0_0_1_1_n_n none e x) transposes_S4096x1024_S1024x4096_1_0) shapeCasts_S1024x4096_S2x512x4x1024)
    transposes_S2x512x4x1024_S4x2x512x1024_2_0_1_3
/-- The gradient by the second weight. -/
def gw2 (d : FVec Ideal S4096x1024 .f32) (v : FVec Ideal S4096x4096 .f32) : FVec Ideal S4096x1024 .f32 :=
  transpose S4096x1024 [1, 0] (Host.dotGeneral dot_S4096x1024_S4096x4096_S1024x4096_0_0_1_1_n_n none d (mulf v v)) transposes_S1024x4096_S4096x1024_1_0

theorem incoming_at (d) (s : Fin 4096) (e : Fin 1024) : incoming d (ix2 s e) = d (ix2 s e) := by
  pointwise [incoming]
theorem du_at (u v d w2) (s f : Fin 4096) :
    du u v d w2 (ix2 s f) = if 0 < u (ix2 s f) then (∑ e : Fin 1024, d (ix2 s e) * w2 (ix2 f e)) * (two * v (ix2 s f)) else 0 := by
  pointwise [du]
  rfl
theorem gx_at (d e w1) (s : Fin 4096) (k : Fin 1024) :
    gx d e w1 (ix2 s k) = alpha * d (ix2 s k) + ∑ f : Fin 4096, e (ix2 s f) * w1 (ix2 k f) := by
  pointwise [gx]
  rfl
theorem gw1_at (e x) (p : Fin 4) (h : Fin 2) (r : Fin 512) (q : Fin 1024) :
    gw1 e x (ix4 p h r q) = ∑ s : Fin 4096, e (ix2 s ⟨p.val * 1024 + q.val, by omega⟩) * x (ix2 s ⟨h.val * 512 + r.val, by omega⟩) := by
  pointwise [gw1]
theorem gw2_at (d v) (f : Fin 4096) (k : Fin 1024) :
    gw2 d v (ix2 f k) = ∑ s : Fin 4096, d (ix2 s k) * (v (ix2 s f) * v (ix2 s f)) := by
  pointwise [gw2]

end Cert.MixerReferenceIdeal.Stage

end
-- ==== Proof.Mixer.Reference.lean ====
/- The mixer's reference: its five results are the mathematics of its arguments, entry by entry. -/
module

public import proofs.«01_k».proof.Proof.Mixer.RefStages

@[expose] public section

set_option maxRecDepth 16384

noncomputable section

namespace Cert.MixerReferenceIdeal.Stage

open Idealize.ShloMosaic Idealize.ShloMosaic.TcCoe
open Cert.MixerReferenceIdeal Cert.MixerReferenceIdeal.Gen Cert.Ff

/-! ## The stages joined, over arbitrary arrays -/

section Joined

variable (x w2 d : FVec Ideal S4096x1024 .f32) (w1 : FVec Ideal S1024x4096 .f32) (g b : FVec Ideal S1024 .f32)

/-- The rectified hidden dimensions, the residual stream and the gradient by the hidden dimensions. -/
def theRect : FVec Ideal S4096x4096 .f32 := rect (hid x w1)
def theStream : FVec Ideal S4096x1024 .f32 := stream x (theRect x w1) w2
def theDu : FVec Ideal S4096x4096 .f32 := du (hid x w1) (theRect x w1) (incoming d) w2

variable {x w2 d w1 g b} {X W2 D : Mat 4096 1024} {W1 : Mat 1024 4096}
variable (hx : ∀ s k, x (ix2 s k) = X s k) (hw1 : ∀ k f, w1 (ix2 k f) = W1 k f) (hw2 : ∀ f k, w2 (ix2 f k) = W2 f k) (hd : ∀ s k, d (ix2 s k) = D s k)

include hx hw1

theorem hid_eq (s f : Fin 4096) : hid x w1 (ix2 s f) = hidden X W1 s f := by
  rw [hid_at]
  exact Finset.sum_congr rfl fun k _ => by rw [hx, hw1]

theorem square_eq (s f : Fin 4096) : theRect x w1 (ix2 s f) * theRect x w1 (ix2 s f) = act X W1 s f := by
  unfold theRect
  rw [rect_at, hid_eq hx hw1]
  rfl

include hw2

theorem stream_eq (s : Fin 4096) (k : Fin 1024) : theStream x w2 w1 (ix2 s k) = res X (act X W1) W2 s k := by
  unfold theStream
  rw [stream_at, hx]
  exact congrArg (alpha * X s k + ·) (Finset.sum_congr rfl fun f _ => by rw [square_eq hx hw1, hw2])

include hd

/-- The derivative of the rectifier's square, by a choice on the sign here, is the root of the saved activation there. -/
theorem du_eq (s f : Fin 4096) : theDu x w2 d w1 (ix2 s f) = dHidden D W2 (act X W1) s f := by
  have hs : (∑ e : Fin 1024, incoming d (ix2 s e) * w2 (ix2 f e)) = ∑ e, D s e * W2 f e :=
    Finset.sum_congr rfl fun e _ => by rw [incoming_at, hd, hw2]
  unfold theDu theRect
  rw [du_at, rect_at, hid_eq hx hw1, hs]
  exact (mul_two_sqrt_relu2 _ _).symm

theorem gx_eq (s : Fin 4096) (k : Fin 1024) :
    gx (incoming d) (theDu x w2 d w1) w1 (ix2 s k) = dX (dHidden D W2 (act X W1)) W1 D s k := by
  rw [gx_at, incoming_at, hd, add_comm]
  exact congrArg (· + alpha * D s k) (Finset.sum_congr rfl fun f _ => by rw [du_eq hx hw1 hw2 hd, hw1])

theorem gw1_eq (p : Fin 4) (h : Fin 2) (r : Fin 512) (q : Fin 1024) :
    gw1 (theDu x w2 d w1) x (ix4 p h r q)
      = dW1 X (dHidden D W2 (act X W1)) ⟨h.val * 512 + r.val, by omega⟩ ⟨p.val * 1024 + q.val, by omega⟩ := by
  rw [gw1_at]
  exact Finset.sum_congr rfl fun s _ => by rw [du_eq hx hw1 hw2 hd, hx, mul_comm]

omit hw2 in
theorem gw2_eq (f : Fin 4096) (k : Fin 1024) : gw2 (incoming d) (theRect x w1) (ix2 f k) = dW2 (act X W1) D f k := by
  rw [gw2_at]
  exact Finset.sum_congr rfl fun s _ => by rw [incoming_at, hd, square_eq hx hw1, mul_comm]

end Joined

/-! ## The run -/

section Run

variable (m : (ℓ : Loc nD τ sig) → Buf (Elt Ideal) ℓ) (c : Dev nD)

/-- The arguments. -/
def argX : FVec Ideal S4096x1024 .f32 := m ((c.tc : Thread nD τ).loc main_arg0)
def argW1 : FVec Ideal S1024x4096 .f32 := m ((c.tc : Thread nD τ).loc main_arg1)
def argW2 : FVec Ideal S4096x1024 .f32 := m ((c.tc : Thread nD τ).loc main_arg2)
def argG : FVec Ideal S1024 .f32 := m ((c.tc : Thread nD τ).loc main_arg3)
def argB : FVec Ideal S1024 .f32 := m ((c.tc : Thread nD τ).loc main_arg4)
def argD : FVec Ideal S4096x1024 .f32 := m ((c.tc : Thread nD τ).loc main_arg5)

/-- The normalized stream, by its stages. -/
theorem res49_eq : Value.res_main_v49 m c = norm (theStream (argX m c) (argW2 m c) (argW1 m c)) (argG m c) (argB m c) := by
  unfold Value.res_main_v49
  rfl

/-- The run, with each result by its stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v49) = norm (theStream (argX m c) (argW2 m c) (argW1 m c)) (argG m c) (argB m c)
      ∧ r.2.mem ((c.tc : Thread nD τ).loc main_v11) = theStream (argX m c) (argW2 m c) (argW1 m c)
      ∧ r.2.mem ((c.tc : Thread nD τ).loc main_v25)
          = gx (incoming (argD m c)) (theDu (argX m c) (argW2 m c) (argD m c) (argW1 m c)) (argW1 m c)
      ∧ r.2.mem ((c.tc : Thread nD τ).loc main_v51) = gw1 (theDu (argX m c) (argW2 m c) (argD m c) (argW1 m c)) (argX m c)
      ∧ r.2.mem ((c.tc : Thread nD τ).loc main_v17) = gw2 (incoming (argD m c)) (theRect (argX m c) (argW1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h0, h1, h2, h3, h4, ha⟩ := h c
    exact ⟨h0.trans (res49_eq m c), h1, h2, h3, h4, ha⟩) (Value.run m ρ)

end Run

end Cert.MixerReferenceIdeal.Stage

end
-- ==== Proof.Mixer.Algebraic.lean ====
/- The mixer's value claim: from memories with the same arguments, the six calls and the reference leave the same five arrays, the
   normalized stream, the residual stream and the gradients by the input and by the two weights. -/
module

public import proofs.«01_k».proof.Defs
public import proofs.«01_k».proof.Proof.Mixer.Run
public import proofs.«01_k».proof.Proof.Mixer.Chain
public import proofs.«01_k».proof.Proof.Mixer.Reference
public import Idealize.ShloMosaic.Lib.Quiescent

@[expose] public section

set_option maxRecDepth 16384

noncomputable section

namespace Cert.Proof

open Idealize.ShloMosaic Idealize.ShloMosaic.TcCoe Idealize.SL.Sem
open Cert.MixerIdeal.Ff Cert.Ff
open Cert.MixerIdeal (S4096x1024 S4x2x512x1024)

section Results

open Cert.MixerIdeal

variable (m : (ℓ : Loc nD τ sig) → Buf (Elt Ideal) ℓ) (c : Dev nD)

/-- The five results, as arrays of the arguments. -/
def outNorm : S4096x1024.Idx → EReal := fun y => layerNorm (theRes m c (y 0)) (argG m c) (argB m c) (y 1)
def outRes : S4096x1024.Idx → EReal := fun y => theRes m c (y 0) (y 1)
def outX : S4096x1024.Idx → EReal := fun y => dX (theDu m c) (argW1 m c) (argD m c) (y 0) (y 1)
def outW1 : S4x2x512x1024.Idx → EReal := pieces (dW1 (argX m c) (theDu m c))
def outW2 : S4096x1024.Idx → EReal := fun y => dW2 (theAct m c) (argD m c) (y 0) (y 1)

end Results

section Kernel

open Cert.MixerIdeal Cert.MixerIdeal.Gen

/-- The six calls leave the five results and the arguments. -/
theorem mixer_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9_0) = outNorm m c
      ∧ r.2.mem ((c.tc : Thread nD τ).loc main_v9_2) = outRes m c
      ∧ r.2.mem ((c.tc : Thread nD τ).loc main_v13) = outX m c
      ∧ r.2.mem ((c.tc : Thread nD τ).loc main_v12) = outW1 m c
      ∧ r.2.mem ((c.tc : Thread nD τ).loc main_v10) = outW2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c _ (mem_uc main_v9_0 (by decide))).trans (W8_norm m ρ c),
      (h c _ (mem_uc main_v9_2 (by decide))).trans (W8_res m ρ c),
      (h c _ (mem_uc main_v13 (by decide))).trans (W8_dX m ρ c),
      (h c _ (mem_uc main_v12 (by decide))).trans (W8_dW1 m ρ c),
      (h c _ (mem_uc main_v10 (by decide))).trans (W8_dW2 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c)⟩) (run_ends m ρ)

end Kernel

section Reference

open Cert.MixerReferenceIdeal.Stage (incoming norm_at stream_eq gx_eq gw1_eq gw2_eq norm theStream gx gw1 gw2 theRect)

variable {m : (ℓ : Loc Cert.MixerIdeal.nD Cert.MixerIdeal.τ Cert.MixerIdeal.sig) → Buf (Elt Ideal) ℓ} {c : Dev Cert.MixerIdeal.nD}
variable {x w2 d : FVec Ideal Cert.MixerReferenceIdeal.S4096x1024 .f32} {w1 : FVec Ideal Cert.MixerReferenceIdeal.S1024x4096 .f32}
variable {g b : FVec Ideal Cert.MixerReferenceIdeal.S1024 .f32}
variable (hx : ∀ s k, x (ix2 s k) = argX m c s k) (hw1 : ∀ k f, w1 (ix2 k f) = argW1 m c k f) (hw2 : ∀ f k, w2 (ix2 f k) = argW2 m c f k)
variable (hg : ∀ k, g (ix1 k) = argG m c k) (hb : ∀ k, b (ix1 k) = argB m c k) (hd : ∀ s k, d (ix2 s k) = argD m c s k)

include hx hw1 hw2

theorem mixer_ref_res : theStream x w2 w1 = outRes m c := funext fun y => by
  obtain ⟨s, k, rfl⟩ := idx2 (a := 4096) (b := 1024) y
  exact stream_eq hx hw1 hw2 s k

include hg hb in
theorem mixer_ref_norm : norm (theStream x w2 w1) g b = outNorm m c := funext fun y => by
  obtain ⟨s, k, rfl⟩ := idx2 (a := 4096) (b := 1024) y
  rw [norm_at]
  exact congrFun (congr (congrArg₂ layerNorm (funext fun e => stream_eq hx hw1 hw2 s e) (funext hg)) (funext hb)) k

include hd

theorem mixer_ref_x : gx (incoming d) (Cert.MixerReferenceIdeal.Stage.theDu x w2 d w1) w1 = outX m c := funext fun y => by
  obtain ⟨s, k, rfl⟩ := idx2 (a := 4096) (b := 1024) y
  exact gx_eq hx hw1 hw2 hd s k

theorem mixer_ref_w1 : gw1 (Cert.MixerReferenceIdeal.Stage.theDu x w2 d w1) x = outW1 m c := funext fun y => by
  obtain ⟨p, h, r, q, rfl⟩ : ∃ (p : Fin 4) (h : Fin 2) (r : Fin 512) (q : Fin 1024), y = ix4 p h r q :=
    ⟨y 0, y 1, y 2, y 3, by funext e; fin_cases e <;> rfl⟩
  exact gw1_eq hx hw1 hw2 hd p h r q

omit hw2 in
theorem mixer_ref_w2 : gw2 (incoming d) (theRect x w1) = outW2 m c := funext fun y => by
  obtain ⟨f, k, rfl⟩ := idx2 (a := 4096) (b := 1024) y
  exact gw2_eq hx hw1 hd f k

end Reference

theorem algebraic_mixer : Cert.algebraic_MixerIdeal_MixerReferenceIdeal := fun m g m' g' _ hagree => by
  refine ⟨outNorm m, outRes m, outX m, outW1 m, outW2 m, mixer_run m g, ?_⟩
  refine (θ_run Cert.MixerReferenceIdeal.defs _ _).mono (fun r h c => ?_) (Cert.MixerReferenceIdeal.Stage.run_stages m' g')
  obtain ⟨a0, a1, a2, a3, a4, a5⟩ := hagree c
  have hx : ∀ s k, Cert.MixerReferenceIdeal.Stage.argX m' c (ix2 s k) = argX m c s k := fun s k => congrFun a0 _
  have hw1 : ∀ k f, Cert.MixerReferenceIdeal.Stage.argW1 m' c (ix2 k f) = argW1 m c k f := fun k f => congrFun a1 _
  have hw2 : ∀ f k, Cert.MixerReferenceIdeal.Stage.argW2 m' c (ix2 f k) = argW2 m c f k := fun f k => congrFun a2 _
  have hg : ∀ k, Cert.MixerReferenceIdeal.Stage.argG m' c (ix1 k) = argG m c k := fun k => congrFun a3 _
  have hb : ∀ k, Cert.MixerReferenceIdeal.Stage.argB m' c (ix1 k) = argB m c k := fun k => congrFun a4 _
  have hd : ∀ s k, Cert.MixerReferenceIdeal.Stage.argD m' c (ix2 s k) = argD m c s k := fun s k => congrFun a5 _
  obtain ⟨h0, h1, h2, h3, h4, ha⟩ := h c
  exact ⟨h0.trans (mixer_ref_norm hx hw1 hw2 hg hb), h1.trans (mixer_ref_res hx hw1 hw2), h2.trans (mixer_ref_x hx hw1 hw2 hd),
    h3.trans (mixer_ref_w1 hx hw1 hw2 hd), h4.trans (mixer_ref_w2 hx hw1 hd), ha⟩

end Cert.Proof

end
-- ==== Proof.Optimiser.Run.lean ====
/- The optimiser's run: every fair execution of the seven calls in series ends with every array at what the last boundary's
   contents say, where each boundary is the one before it with the call's output arrays replaced. -/
module

public import proofs.«01_k».proof.Proof.Gen.OptimiserIdeal.Frame

@[expose] public section

set_option maxRecDepth 16384

noncomputable section

namespace Cert.OptimiserIdeal.Opt

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OptimiserIdeal Cert.OptimiserIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- Every fair execution ends with every unscoped array at the last boundary's contents. -/
theorem run_ends : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

end Cert.OptimiserIdeal.Opt

end
-- ==== Proof.Optimiser.Spec.lean ====
/- One step of the optimiser, of one number of a weight: the new first and second moments from the gradient, and the
   weight's change from both, with decoupled weight decay.  The constants are the single-precision words of the step's
   decay rates, learning rate, weight decay and bias corrections. -/
module

public import Idealize.ShloMosaic.PureOps.Ideal

@[expose] public section

noncomputable section

namespace Cert.Opt

open Idealize.ShloMosaic

/-- The new first moment. -/
def mom (g m : EReal) : EReal := Ideal.ofBits .f32 0x3F666666#32 * m + Ideal.ofBits .f32 0x3DCCCCCD#32 * g
/-- The new second moment. -/
def var (g v : EReal) : EReal := Ideal.ofBits .f32 0x3F7FBE77#32 * v + Ideal.ofBits .f32 0x3A83126F#32 * (g * g)
/-- The weight's change: the corrected first moment over the root of the corrected second, and the decay. -/
def step (w g m v : EReal) : EReal :=
  Ideal.ofBits .f32 0xBA83126F#32
    * (Ideal.div (Ideal.div (mom g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * w)

/-- The three results over an array of any shape. -/
def steps {I : Type} (w g m v : I → EReal) : I → EReal := fun y => step (w y) (g y) (m y) (v y)
def moms {I : Type} (g m : I → EReal) : I → EReal := fun y => mom (g y) (m y)
def vars {I : Type} (g v : I → EReal) : I → EReal := fun y => var (g y) (v y)

end Cert.Opt

end
-- ==== Proof.Optimiser.Calls.lean ====
/- What each of the seven calls leaves in its three output arrays, of arbitrary contents of its input arrays: a call's body works
   entry by entry, and its blocks of inputs and outputs are the same rows. -/
module

public import proofs.«01_k».proof.Proof.Gen.OptimiserIdeal.Frame
public import proofs.«01_k».proof.Proof.Optimiser.Spec
public import Idealize.ShloMosaic.Lib.Pipeline.ValueKit

@[expose] public section

set_option maxRecDepth 16384

noncomputable section

namespace Cert.OptimiserIdeal.Opt

open Idealize.ShloMosaic Idealize.ShloMosaic.TcCoe
open Cert.OptimiserIdeal Cert.OptimiserIdeal.Gen Cert.Opt

variable (V : (c : Dev nD) → (b : Ref sig .tc) → Buf (Elt Ideal) ((c : Thread nD τ).loc b)) (c : Dev nD)

theorem tile0 (w g m v : Vec Ideal S512x496 .f32) : out0_4 w g m v = steps w g m v ∧ out0_5 w g m v = moms g m ∧ out0_6 w g m v = vars g v := by
  unfold out0_4 out0_5 out0_6
  rw [View.canon_cons_unit_lit' _ _ _ (by decide), View.canon_cons_unit_lit' _ _ _ (by decide), View.canon_cons_unit_lit' _ _ _ (by decide),
    View.ld_unit_lit' _ w (by decide), View.ld_unit_lit' _ g (by decide), View.ld_unit_lit' _ m (by decide), View.ld_unit_lit' _ v (by decide)]
  exact ⟨rfl, rfl, rfl⟩

theorem left0 : (dat0 V c).arrAt 4 cfg0.N = steps (V c main_arg0) (V c main_arg1) (V c main_arg2) (V c main_arg3)
    ∧ (dat0 V c).arrAt 5 cfg0.N = moms (V c main_arg1) (V c main_arg2) ∧ (dat0 V c).arrAt 6 cfg0.N = vars (V c main_arg1) (V c main_arg3) := by
  refine ⟨(dat0 V c).arrAt_eq_of_covers 4 _ (by decide +kernel) fun t _ y => ?_, (dat0 V c).arrAt_eq_of_covers 5 _ (by decide +kernel) fun t _ y => ?_,
    (dat0 V c).arrAt_eq_of_covers 6 _ (by decide +kernel) fun t _ y => ?_⟩ <;> blk_simp
  · rw [after0_4, (tile0 _ _ _ _).1]; rfl
  · rw [after0_5, (tile0 _ _ _ _).2.1]; rfl
  · rw [after0_6, (tile0 _ _ _ _).2.2]; rfl

theorem tile1 (w g m v : Vec Ideal S512x192 .f32) : out1_4 w g m v = steps w g m v ∧ out1_5 w g m v = moms g m ∧ out1_6 w g m v = vars g v := by
  unfold out1_4 out1_5 out1_6
  rw [View.canon_cons_unit_lit' _ _ _ (by decide), View.canon_cons_unit_lit' _ _ _ (by decide), View.canon_cons_unit_lit' _ _ _ (by decide),
    View.ld_unit_lit' _ w (by decide), View.ld_unit_lit' _ g (by decide), View.ld_unit_lit' _ m (by decide), View.ld_unit_lit' _ v (by decide)]
  exact ⟨rfl, rfl, rfl⟩

theorem left1 : (dat1 V c).arrAt 4 cfg1.N = steps (V c main_arg4) (V c main_arg5) (V c main_arg6) (V c main_arg7)
    ∧ (dat1 V c).arrAt 5 cfg1.N = moms (V c main_arg5) (V c main_arg6) ∧ (dat1 V c).arrAt 6 cfg1.N = vars (V c main_arg5) (V c main_arg7) := by
  refine ⟨(dat1 V c).arrAt_eq_of_covers 4 _ (by decide +kernel) fun t _ y => ?_, (dat1 V c).arrAt_eq_of_covers 5 _ (by decide +kernel) fun t _ y => ?_,
    (dat1 V c).arrAt_eq_of_covers 6 _ (by decide +kernel) fun t _ y => ?_⟩ <;> blk_simp
  · rw [after1_4, (tile1 _ _ _ _).1]; rfl
  · rw [after1_5, (tile1 _ _ _ _).2.1]; rfl
  · rw [after1_6, (tile1 _ _ _ _).2.2]; rfl

theorem tile2 (w g m v : Vec Ideal S512x256 .f32) : out2_4 w g m v = steps w g m v ∧ out2_5 w g m v = moms g m ∧ out2_6 w g m v = vars g v := by
  unfold out2_4 out2_5 out2_6
  rw [View.canon_cons_unit_lit' _ _ _ (by decide), View.canon_cons_unit_lit' _ _ _ (by decide), View.canon_cons_unit_lit' _ _ _ (by decide),
    View.ld_unit_lit' _ w (by decide), View.ld_unit_lit' _ g (by decide), View.ld_unit_lit' _ m (by decide), View.ld_unit_lit' _ v (by decide)]
  exact ⟨rfl, rfl, rfl⟩

theorem left2 : (dat2 V c).arrAt 4 cfg2.N = steps (V c main_arg8) (V c main_arg9) (V c main_arg10) (V c main_arg11)
    ∧ (dat2 V c).arrAt 5 cfg2.N = moms (V c main_arg9) (V c main_arg10) ∧ (dat2 V c).arrAt 6 cfg2.N = vars (V c main_arg9) (V c main_arg11) := by
  refine ⟨(dat2 V c).arrAt_eq_of_covers 4 _ (by decide +kernel) fun t _ y => ?_, (dat2 V c).arrAt_eq_of_covers 5 _ (by decide +kernel) fun t _ y => ?_,
    (dat2 V c).arrAt_eq_of_covers 6 _ (by decide +kernel) fun t _ y => ?_⟩ <;> blk_simp
  · rw [after2_4, (tile2 _ _ _ _).1]; rfl
  · rw [after2_5, (tile2 _ _ _ _).2.1]; rfl
  · rw [after2_6, (tile2 _ _ _ _).2.2]; rfl

theorem tile3 (w g m v : Vec Ideal S512x1024 .f32) : out3_4 w g m v = steps w g m v ∧ out3_5 w g m v = moms g m ∧ out3_6 w g m v = vars g v := by
  unfold out3_4 out3_5 out3_6
  rw [View.canon_cons_unit_lit' _ _ _ (by decide), View.canon_cons_unit_lit' _ _ _ (by decide), View.canon_cons_unit_lit' _ _ _ (by decide),
    View.ld_unit_lit' _ w (by decide), View.ld_unit_lit' _ g (by decide), View.ld_unit_lit' _ m (by decide), View.ld_unit_lit' _ v (by decide)]
  exact ⟨rfl, rfl, rfl⟩

theorem left3 : (dat3 V c).arrAt 4 cfg3.N = steps (V c main_arg12) (V c main_arg13) (V c main_arg14) (V c main_arg15)
    ∧ (dat3 V c).arrAt 5 cfg3.N = moms (V c main_arg13) (V c main_arg14) ∧ (dat3 V c).arrAt 6 cfg3.N = vars (V c main_arg13) (V c main_arg15) := by
  refine ⟨(dat3 V c).arrAt_eq_of_covers 4 _ (by decide +kernel) fun t _ y => ?_, (dat3 V c).arrAt_eq_of_covers 5 _ (by decide +kernel) fun t _ y => ?_,
    (dat3 V c).arrAt_eq_of_covers 6 _ (by decide +kernel) fun t _ y => ?_⟩ <;> blk_simp
  · rw [after3_4, (tile3 _ _ _ _).1]; rfl
  · rw [after3_5, (tile3 _ _ _ _).2.1]; rfl
  · rw [after3_6, (tile3 _ _ _ _).2.2]; rfl

theorem tile4 (w g m v : Vec Ideal S512x1024 .f32) : out4_4 w g m v = steps w g m v ∧ out4_5 w g m v = moms g m ∧ out4_6 w g m v = vars g v := by
  unfold out4_4 out4_5 out4_6
  rw [View.canon_cons_unit_lit' _ _ _ (by decide), View.canon_cons_unit_lit' _ _ _ (by decide), View.canon_cons_unit_lit' _ _ _ (by decide),
    View.ld_unit_lit' _ w (by decide), View.ld_unit_lit' _ g (by decide), View.ld_unit_lit' _ m (by decide), View.ld_unit_lit' _ v (by decide)]
  exact ⟨rfl, rfl, rfl⟩

theorem left4 : (dat4 V c).arrAt 4 cfg4.N = steps (V c main_arg16) (V c main_arg17) (V c main_arg18) (V c main_arg19)
    ∧ (dat4 V c).arrAt 5 cfg4.N = moms (V c main_arg17) (V c main_arg18) ∧ (dat4 V c).arrAt 6 cfg4.N = vars (V c main_arg17) (V c main_arg19) := by
  refine ⟨(dat4 V c).arrAt_eq_of_covers 4 _ (by decide +kernel) fun t _ y => ?_, (dat4 V c).arrAt_eq_of_covers 5 _ (by decide +kernel) fun t _ y => ?_,
    (dat4 V c).arrAt_eq_of_covers 6 _ (by decide +kernel) fun t _ y => ?_⟩ <;> blk_simp
  · rw [after4_4, (tile4 _ _ _ _).1]; rfl
  · rw [after4_5, (tile4 _ _ _ _).2.1]; rfl
  · rw [after4_6, (tile4 _ _ _ _).2.2]; rfl

theorem tile5 (w g m v : Vec Ideal S512x1024 .f32) : out5_4 w g m v = steps w g m v ∧ out5_5 w g m v = moms g m ∧ out5_6 w g m v = vars g v := by
  unfold out5_4 out5_5 out5_6
  rw [View.canon_cons_unit_lit' _ _ _ (by decide), View.canon_cons_unit_lit' _ _ _ (by decide), View.canon_cons_unit_lit' _ _ _ (by decide),
    View.ld_unit_lit' _ w (by decide), View.ld_unit_lit' _ g (by decide), View.ld_unit_lit' _ m (by decide), View.ld_unit_lit' _ v (by decide)]
  exact ⟨rfl, rfl, rfl⟩

theorem left5 : (dat5 V c).arrAt 4 cfg5.N = steps (V c main_arg20) (V c main_arg21) (V c main_arg22) (V c main_arg23)
    ∧ (dat5 V c).arrAt 5 cfg5.N = moms (V c main_arg21) (V c main_arg22) ∧ (dat5 V c).arrAt 6 cfg5.N = vars (V c main_arg21) (V c main_arg23) := by
  refine ⟨(dat5 V c).arrAt_eq_of_covers 4 _ (by decide +kernel) fun t _ y => ?_, (dat5 V c).arrAt_eq_of_covers 5 _ (by decide +kernel) fun t _ y => ?_,
    (dat5 V c).arrAt_eq_of_covers 6 _ (by decide +kernel) fun t _ y => ?_⟩ <;> blk_simp
  · rw [after5_4, (tile5 _ _ _ _).1]; rfl
  · rw [after5_5, (tile5 _ _ _ _).2.1]; rfl
  · rw [after5_6, (tile5 _ _ _ _).2.2]; rfl

theorem tile6 (w g m v : Vec Ideal S176x128 .f32) : out6_4 w g m v = steps w g m v ∧ out6_5 w g m v = moms g m ∧ out6_6 w g m v = vars g v := by
  unfold out6_4 out6_5 out6_6
  rw [View.canon_cons_unit_lit' _ _ _ (by decide), View.canon_cons_unit_lit' _ _ _ (by decide), View.canon_cons_unit_lit' _ _ _ (by decide),
    View.ld_unit_lit' _ w (by decide), View.ld_unit_lit' _ g (by decide), View.ld_unit_lit' _ m (by decide), View.ld_unit_lit' _ v (by decide)]
  exact ⟨rfl, rfl, rfl⟩

theorem left6 : (dat6 V c).arrAt 4 cfg6.N = steps (V c main_arg24) (V c main_arg25) (V c main_arg26) (V c main_arg27)
    ∧ (dat6 V c).arrAt 5 cfg6.N = moms (V c main_arg25) (V c main_arg26) ∧ (dat6 V c).arrAt 6 cfg6.N = vars (V c main_arg25) (V c main_arg27) := by
  refine ⟨(dat6 V c).arrAt_eq_of_covers 4 _ (by decide +kernel) fun t _ y => ?_, (dat6 V c).arrAt_eq_of_covers 5 _ (by decide +kernel) fun t _ y => ?_,
    (dat6 V c).arrAt_eq_of_covers 6 _ (by decide +kernel) fun t _ y => ?_⟩ <;> blk_simp
  · rw [after6_4, (tile6 _ _ _ _).1]; rfl
  · rw [after6_5, (tile6 _ _ _ _).2.1]; rfl
  · rw [after6_6, (tile6 _ _ _ _).2.2]; rfl

end Cert.OptimiserIdeal.Opt

end
-- ==== Proof.Optimiser.Chain.lean ====
/- The arrays along the seven calls: a call reads the arguments only, and no later call writes what it leaves. -/
module

public import proofs.«01_k».proof.Proof.Optimiser.Calls
public import Idealize.ShloMosaic.Lib.Claim

@[expose] public section

set_option maxRecDepth 16384

noncomputable section

namespace Cert.OptimiserIdeal.Opt

open Idealize.ShloMosaic Idealize.ShloMosaic.TcCoe
open Cert.OptimiserIdeal Cert.OptimiserIdeal.Gen Cert.Opt

variable (m : (ℓ : Loc nD τ sig) → Buf (Elt Ideal) ℓ) (ρ : Dev nD → PrngReg) (c : Dev nD)

/-! ## No later call writes an earlier one's results -/

abbrev Kept1 (r : Ref sig .tc) : Prop := ∀ w : Fin cfg1.W, Pipeline.arrRef spec1 w = r → (cfg1.win w).isOut = false
abbrev Kept2 (r : Ref sig .tc) : Prop := ∀ w : Fin cfg2.W, Pipeline.arrRef spec2 w = r → (cfg2.win w).isOut = false
abbrev Kept3 (r : Ref sig .tc) : Prop := ∀ w : Fin cfg3.W, Pipeline.arrRef spec3 w = r → (cfg3.win w).isOut = false
abbrev Kept4 (r : Ref sig .tc) : Prop := ∀ w : Fin cfg4.W, Pipeline.arrRef spec4 w = r → (cfg4.win w).isOut = false
abbrev Kept5 (r : Ref sig .tc) : Prop := ∀ w : Fin cfg5.W, Pipeline.arrRef spec5 w = r → (cfg5.win w).isOut = false
abbrev Kept6 (r : Ref sig .tc) : Prop := ∀ w : Fin cfg6.W, Pipeline.arrRef spec6 w = r → (cfg6.win w).isOut = false

section Kept
variable (r : Ref sig .tc)
theorem last6 (h6 : Kept6 r) : W7 m ρ c (Proc.devRef .tc r) = W6 m ρ c (Proc.devRef .tc r) :=
  W7_of m ρ c r h6
theorem last5 (h6 : Kept6 r) (h5 : Kept5 r) : W7 m ρ c (Proc.devRef .tc r) = W5 m ρ c (Proc.devRef .tc r) :=
  (last6 m ρ c r h6).trans (W6_of m ρ c r h5)
theorem last4 (h6 : Kept6 r) (h5 : Kept5 r) (h4 : Kept4 r) : W7 m ρ c (Proc.devRef .tc r) = W4 m ρ c (Proc.devRef .tc r) :=
  (last5 m ρ c r h6 h5).trans (W5_of m ρ c r h4)
theorem last3 (h6 : Kept6 r) (h5 : Kept5 r) (h4 : Kept4 r) (h3 : Kept3 r) : W7 m ρ c (Proc.devRef .tc r) = W3 m ρ c (Proc.devRef .tc r) :=
  (last4 m ρ c r h6 h5 h4).trans (W4_of m ρ c r h3)
theorem last2 (h6 : Kept6 r) (h5 : Kept5 r) (h4 : Kept4 r) (h3 : Kept3 r) (h2 : Kept2 r) : W7 m ρ c (Proc.devRef .tc r) = W2 m ρ c (Proc.devRef .tc r) :=
  (last3 m ρ c r h6 h5 h4 h3).trans (W3_of m ρ c r h2)
theorem last1 (h6 : Kept6 r) (h5 : Kept5 r) (h4 : Kept4 r) (h3 : Kept3 r) (h2 : Kept2 r) (h1 : Kept1 r) : W7 m ρ c (Proc.devRef .tc r) = W1 m ρ c (Proc.devRef .tc r) :=
  (last2 m ρ c r h6 h5 h4 h3 h2).trans (W2_of m ρ c r h1)
end Kept

/-! ## The results at the end -/

/-- What a weight, its gradient and its moments become, of the contents of the four arguments. -/
abbrev arg (a : Ref sig .tc) : Buf (Elt Ideal) ((c.tc : Thread nD τ).loc a) := m ((c.tc : Thread nD τ).loc a)

theorem end0 : W7 m ρ c (Proc.devRef .tc main_v0_0) = steps (arg m c main_arg0) (arg m c main_arg1) (arg m c main_arg2) (arg m c main_arg3)
    ∧ W7 m ρ c (Proc.devRef .tc main_v0_1) = moms (arg m c main_arg1) (arg m c main_arg2)
    ∧ W7 m ρ c (Proc.devRef .tc main_v0_2) = vars (arg m c main_arg1) (arg m c main_arg3) := by
  have h := left0 (V0 m ρ) c
  rw [show V0 m ρ c main_arg0 = arg m c main_arg0 from W0_args m ρ c main_arg0 (by decide), show V0 m ρ c main_arg1 = arg m c main_arg1 from W0_args m ρ c main_arg1 (by decide),
    show V0 m ρ c main_arg2 = arg m c main_arg2 from W0_args m ρ c main_arg2 (by decide), show V0 m ρ c main_arg3 = arg m c main_arg3 from W0_args m ρ c main_arg3 (by decide)] at h
  exact ⟨(last1 m ρ c main_v0_0 (by decide) (by decide) (by decide) (by decide) (by decide) (by decide)).trans ((W1_arr m ρ c 4).trans h.1),
    (last1 m ρ c main_v0_1 (by decide) (by decide) (by decide) (by decide) (by decide) (by decide)).trans ((W1_arr m ρ c 5).trans h.2.1),
    (last1 m ρ c main_v0_2 (by decide) (by decide) (by decide) (by decide) (by decide) (by decide)).trans ((W1_arr m ρ c 6).trans h.2.2)⟩

theorem end1 : W7 m ρ c (Proc.devRef .tc main_v1_0) = steps (arg m c main_arg4) (arg m c main_arg5) (arg m c main_arg6) (arg m c main_arg7)
    ∧ W7 m ρ c (Proc.devRef .tc main_v1_1) = moms (arg m c main_arg5) (arg m c main_arg6)
    ∧ W7 m ρ c (Proc.devRef .tc main_v1_2) = vars (arg m c main_arg5) (arg m c main_arg7) := by
  have h := left1 (V1 m ρ) c
  rw [show V1 m ρ c main_arg4 = arg m c main_arg4 from W1_args m ρ c main_arg4 (by decide), show V1 m ρ c main_arg5 = arg m c main_arg5 from W1_args m ρ c main_arg5 (by decide),
    show V1 m ρ c main_arg6 = arg m c main_arg6 from W1_args m ρ c main_arg6 (by decide), show V1 m ρ c main_arg7 = arg m c main_arg7 from W1_args m ρ c main_arg7 (by decide)] at h
  exact ⟨(last2 m ρ c main_v1_0 (by decide) (by decide) (by decide) (by decide) (by decide)).trans ((W2_arr m ρ c 4).trans h.1),
    (last2 m ρ c main_v1_1 (by decide) (by decide) (by decide) (by decide) (by decide)).trans ((W2_arr m ρ c 5).trans h.2.1),
    (last2 m ρ c main_v1_2 (by decide) (by decide) (by decide) (by decide) (by decide)).trans ((W2_arr m ρ c 6).trans h.2.2)⟩

theorem end2 : W7 m ρ c (Proc.devRef .tc main_v2_0) = steps (arg m c main_arg8) (arg m c main_arg9) (arg m c main_arg10) (arg m c main_arg11)
    ∧ W7 m ρ c (Proc.devRef .tc main_v2_1) = moms (arg m c main_arg9) (arg m c main_arg10)
    ∧ W7 m ρ c (Proc.devRef .tc main_v2_2) = vars (arg m c main_arg9) (arg m c main_arg11) := by
  have h := left2 (V2 m ρ) c
  rw [show V2 m ρ c main_arg8 = arg m c main_arg8 from W2_args m ρ c main_arg8 (by decide), show V2 m ρ c main_arg9 = arg m c main_arg9 from W2_args m ρ c main_arg9 (by decide),
    show V2 m ρ c main_arg10 = arg m c main_arg10 from W2_args m ρ c main_arg10 (by decide), show V2 m ρ c main_arg11 = arg m c main_arg11 from W2_args m ρ c main_arg11 (by decide)] at h
  exact ⟨(last3 m ρ c main_v2_0 (by decide) (by decide) (by decide) (by decide)).trans ((W3_arr m ρ c 4).trans h.1),
    (last3 m ρ c main_v2_1 (by decide) (by decide) (by decide) (by decide)).trans ((W3_arr m ρ c 5).trans h.2.1),
    (last3 m ρ c main_v2_2 (by decide) (by decide) (by decide) (by decide)).trans ((W3_arr m ρ c 6).trans h.2.2)⟩

theorem end3 : W7 m ρ c (Proc.devRef .tc main_v3_0) = steps (arg m c main_arg12) (arg m c main_arg13) (arg m c main_arg14) (arg m c main_arg15)
    ∧ W7 m ρ c (Proc.devRef .tc main_v3_1) = moms (arg m c main_arg13) (arg m c main_arg14)
    ∧ W7 m ρ c (Proc.devRef .tc main_v3_2) = vars (arg m c main_arg13) (arg m c main_arg15) := by
  have h := left3 (V3 m ρ) c
  rw [show V3 m ρ c main_arg12 = arg m c main_arg12 from W3_args m ρ c main_arg12 (by decide), show V3 m ρ c main_arg13 = arg m c main_arg13 from W3_args m ρ c main_arg13 (by decide),
    show V3 m ρ c main_arg14 = arg m c main_arg14 from W3_args m ρ c main_arg14 (by decide), show V3 m ρ c main_arg15 = arg m c main_arg15 from W3_args m ρ c main_arg15 (by decide)] at h
  exact ⟨(last4 m ρ c main_v3_0 (by decide) (by decide) (by decide)).trans ((W4_arr m ρ c 4).trans h.1),
    (last4 m ρ c main_v3_1 (by decide) (by decide) (by decide)).trans ((W4_arr m ρ c 5).trans h.2.1),
    (last4 m ρ c main_v3_2 (by decide) (by decide) (by decide)).trans ((W4_arr m ρ c 6).trans h.2.2)⟩

theorem end4 : W7 m ρ c (Proc.devRef .tc main_v4_0) = steps (arg m c main_arg16) (arg m c main_arg17) (arg m c main_arg18) (arg m c main_arg19)
    ∧ W7 m ρ c (Proc.devRef .tc main_v4_1) = moms (arg m c main_arg17) (arg m c main_arg18)
    ∧ W7 m ρ c (Proc.devRef .tc main_v4_2) = vars (arg m c main_arg17) (arg m c main_arg19) := by
  have h := left4 (V4 m ρ) c
  rw [show V4 m ρ c main_arg16 = arg m c main_arg16 from W4_args m ρ c main_arg16 (by decide), show V4 m ρ c main_arg17 = arg m c main_arg17 from W4_args m ρ c main_arg17 (by decide),
    show V4 m ρ c main_arg18 = arg m c main_arg18 from W4_args m ρ c main_arg18 (by decide), show V4 m ρ c main_arg19 = arg m c main_arg19 from W4_args m ρ c main_arg19 (by decide)] at h
  exact ⟨(last5 m ρ c main_v4_0 (by decide) (by decide)).trans ((W5_arr m ρ c 4).trans h.1),
    (last5 m ρ c main_v4_1 (by decide) (by decide)).trans ((W5_arr m ρ c 5).trans h.2.1),
    (last5 m ρ c main_v4_2 (by decide) (by decide)).trans ((W5_arr m ρ c 6).trans h.2.2)⟩

theorem end5 : W7 m ρ c (Proc.devRef .tc main_v5_0) = steps (arg m c main_arg20) (arg m c main_arg21) (arg m c main_arg22) (arg m c main_arg23)
    ∧ W7 m ρ c (Proc.devRef .tc main_v5_1) = moms (arg m c main_arg21) (arg m c main_arg22)
    ∧ W7 m ρ c (Proc.devRef .tc main_v5_2) = vars (arg m c main_arg21) (arg m c main_arg23) := by
  have h := left5 (V5 m ρ) c
  rw [show V5 m ρ c main_arg20 = arg m c main_arg20 from W5_args m ρ c main_arg20 (by decide), show V5 m ρ c main_arg21 = arg m c main_arg21 from W5_args m ρ c main_arg21 (by decide),
    show V5 m ρ c main_arg22 = arg m c main_arg22 from W5_args m ρ c main_arg22 (by decide), show V5 m ρ c main_arg23 = arg m c main_arg23 from W5_args m ρ c main_arg23 (by decide)] at h
  exact ⟨(last6 m ρ c main_v5_0 (by decide)).trans ((W6_arr m ρ c 4).trans h.1),
    (last6 m ρ c main_v5_1 (by decide)).trans ((W6_arr m ρ c 5).trans h.2.1),
    (last6 m ρ c main_v5_2 (by decide)).trans ((W6_arr m ρ c 6).trans h.2.2)⟩

theorem end6 : W7 m ρ c (Proc.devRef .tc main_v6_0) = steps (arg m c main_arg24) (arg m c main_arg25) (arg m c main_arg26) (arg m c main_arg27)
    ∧ W7 m ρ c (Proc.devRef .tc main_v6_1) = moms (arg m c main_arg25) (arg m c main_arg26)
    ∧ W7 m ρ c (Proc.devRef .tc main_v6_2) = vars (arg m c main_arg25) (arg m c main_arg27) := by
  have h := left6 (V6 m ρ) c
  rw [show V6 m ρ c main_arg24 = arg m c main_arg24 from W6_args m ρ c main_arg24 (by decide), show V6 m ρ c main_arg25 = arg m c main_arg25 from W6_args m ρ c main_arg25 (by decide),
    show V6 m ρ c main_arg26 = arg m c main_arg26 from W6_args m ρ c main_arg26 (by decide), show V6 m ρ c main_arg27 = arg m c main_arg27 from W6_args m ρ c main_arg27 (by decide)] at h
  exact ⟨(W7_arr m ρ c 4).trans h.1,
    (W7_arr m ρ c 5).trans h.2.1,
    (W7_arr m ρ c 6).trans h.2.2⟩

end Cert.OptimiserIdeal.Opt

end
-- ==== Proof.Optimiser.Reference.lean ====
/- The optimiser's reference: its results are the same steps of its arguments, its operations being entry by entry. -/
module

public import proofs.«01_k».proof.Proof.Gen.OptimiserReferenceIdeal.Run
public import proofs.«01_k».proof.Proof.Optimiser.Spec

@[expose] public section

set_option maxRecDepth 16384

noncomputable section

namespace Cert.OptimiserReferenceIdeal.Opt

open Idealize.ShloMosaic Idealize.ShloMosaic.TcCoe
open Cert.OptimiserReferenceIdeal Cert.OptimiserReferenceIdeal.Gen Cert.Opt

theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = steps (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = moms (m ((c.tc : Thread nD τ).loc main_arg1)) (m ((c.tc : Thread nD τ).loc main_arg2))
      ∧ r.2.mem ((c.tc : Thread nD τ).loc main_v10) = vars (m ((c.tc : Thread nD τ).loc main_arg1)) (m ((c.tc : Thread nD τ).loc main_arg3))
      ∧ r.2.mem ((c.tc : Thread nD τ).loc main_v47) = steps (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = moms (m ((c.tc : Thread nD τ).loc main_arg5)) (m ((c.tc : Thread nD τ).loc main_arg6))
      ∧ r.2.mem ((c.tc : Thread nD τ).loc main_v34) = vars (m ((c.tc : Thread nD τ).loc main_arg5)) (m ((c.tc : Thread nD τ).loc main_arg7))
      ∧ r.2.mem ((c.tc : Thread nD τ).loc main_v71) = steps (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v52) = moms (m ((c.tc : Thread nD τ).loc main_arg9)) (m ((c.tc : Thread nD τ).loc main_arg10))
      ∧ r.2.mem ((c.tc : Thread nD τ).loc main_v58) = vars (m ((c.tc : Thread nD τ).loc main_arg9)) (m ((c.tc : Thread nD τ).loc main_arg11))
      ∧ r.2.mem ((c.tc : Thread nD τ).loc main_v95) = steps (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v76) = moms (m ((c.tc : Thread nD τ).loc main_arg13)) (m ((c.tc : Thread nD τ).loc main_arg14))
      ∧ r.2.mem ((c.tc : Thread nD τ).loc main_v82) = vars (m ((c.tc : Thread nD τ).loc main_arg13)) (m ((c.tc : Thread nD τ).loc main_arg15))
      ∧ r.2.mem ((c.tc : Thread nD τ).loc main_v119) = steps (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v100) = moms (m ((c.tc : Thread nD τ).loc main_arg17)) (m ((c.tc : Thread nD τ).loc main_arg18))
      ∧ r.2.mem ((c.tc : Thread nD τ).loc main_v106) = vars (m ((c.tc : Thread nD τ).loc main_arg17)) (m ((c.tc : Thread nD τ).loc main_arg19))
      ∧ r.2.mem ((c.tc : Thread nD τ).loc main_v143) = steps (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v124) = moms (m ((c.tc : Thread nD τ).loc main_arg21)) (m ((c.tc : Thread nD τ).loc main_arg22))
      ∧ r.2.mem ((c.tc : Thread nD τ).loc main_v130) = vars (m ((c.tc : Thread nD τ).loc main_arg21)) (m ((c.tc : Thread nD τ).loc main_arg23))
      ∧ r.2.mem ((c.tc : Thread nD τ).loc main_v167) = steps (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_v148) = moms (m ((c.tc : Thread nD τ).loc main_arg25)) (m ((c.tc : Thread nD τ).loc main_arg26))
      ∧ r.2.mem ((c.tc : Thread nD τ).loc main_v154) = vars (m ((c.tc : Thread nD τ).loc main_arg25)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => by
    obtain ⟨h0, h1, h2, h3, h4, h5, h6, h7, h8, h9, h10, h11, h12, h13, h14, h15, h16, h17, h18, h19, h20, ha⟩ := h c
    exact ⟨h0.trans rfl, h1.trans rfl, h2.trans rfl, h3.trans rfl, h4.trans rfl, h5.trans rfl, h6.trans rfl, h7.trans rfl, h8.trans rfl, h9.trans rfl, h10.trans rfl, h11.trans rfl, h12.trans rfl, h13.trans rfl, h14.trans rfl, h15.trans rfl, h16.trans rfl, h17.trans rfl, h18.trans rfl, h19.trans rfl, h20.trans rfl, ha⟩) (Value.run m ρ)

end Cert.OptimiserReferenceIdeal.Opt

end
-- ==== Proof.Optimiser.Algebraic.lean ====
/- The optimiser's value claim: from memories with the same arguments, the seven calls and the reference leave the same
   changes of the seven weights and the same new moments. -/
module

public import proofs.«01_k».proof.Defs
public import proofs.«01_k».proof.Proof.Optimiser.Run
public import proofs.«01_k».proof.Proof.Optimiser.Chain
public import proofs.«01_k».proof.Proof.Optimiser.Reference
public import Idealize.ShloMosaic.Lib.Quiescent

@[expose] public section

set_option maxRecDepth 16384
set_option maxHeartbeats 4000000

noncomputable section

namespace Cert.Proof.Optimiser

open Idealize.ShloMosaic Idealize.ShloMosaic.TcCoe Idealize.SL.Sem
open Cert.OptimiserIdeal.Opt Cert.Opt

/-- The steps of equal arrays are equal. -/
theorem same_steps {I : Type} {w w' g g' m m' v v' : I → EReal} (hw : w' = w) (hg : g' = g) (hm : m' = m) (hv : v' = v) :
    steps w' g' m' v' = steps w g m v := by rw [hw, hg, hm, hv]

section Kernel

open Cert.OptimiserIdeal Cert.OptimiserIdeal.Gen

/-- The seven calls leave the steps of the seven weights and the arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = steps (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = moms (m ((c.tc : Thread nD τ).loc main_arg1)) (m ((c.tc : Thread nD τ).loc main_arg2))
      ∧ r.2.mem ((c.tc : Thread nD τ).loc main_v0_2) = vars (m ((c.tc : Thread nD τ).loc main_arg1)) (m ((c.tc : Thread nD τ).loc main_arg3))
      ∧ r.2.mem ((c.tc : Thread nD τ).loc main_v1_0) = steps (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v1_1) = moms (m ((c.tc : Thread nD τ).loc main_arg5)) (m ((c.tc : Thread nD τ).loc main_arg6))
      ∧ r.2.mem ((c.tc : Thread nD τ).loc main_v1_2) = vars (m ((c.tc : Thread nD τ).loc main_arg5)) (m ((c.tc : Thread nD τ).loc main_arg7))
      ∧ r.2.mem ((c.tc : Thread nD τ).loc main_v2_0) = steps (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v2_1) = moms (m ((c.tc : Thread nD τ).loc main_arg9)) (m ((c.tc : Thread nD τ).loc main_arg10))
      ∧ r.2.mem ((c.tc : Thread nD τ).loc main_v2_2) = vars (m ((c.tc : Thread nD τ).loc main_arg9)) (m ((c.tc : Thread nD τ).loc main_arg11))
      ∧ r.2.mem ((c.tc : Thread nD τ).loc main_v3_0) = steps (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v3_1) = moms (m ((c.tc : Thread nD τ).loc main_arg13)) (m ((c.tc : Thread nD τ).loc main_arg14))
      ∧ r.2.mem ((c.tc : Thread nD τ).loc main_v3_2) = vars (m ((c.tc : Thread nD τ).loc main_arg13)) (m ((c.tc : Thread nD τ).loc main_arg15))
      ∧ r.2.mem ((c.tc : Thread nD τ).loc main_v4_0) = steps (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v4_1) = moms (m ((c.tc : Thread nD τ).loc main_arg17)) (m ((c.tc : Thread nD τ).loc main_arg18))
      ∧ r.2.mem ((c.tc : Thread nD τ).loc main_v4_2) = vars (m ((c.tc : Thread nD τ).loc main_arg17)) (m ((c.tc : Thread nD τ).loc main_arg19))
      ∧ r.2.mem ((c.tc : Thread nD τ).loc main_v5_0) = steps (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v5_1) = moms (m ((c.tc : Thread nD τ).loc main_arg21)) (m ((c.tc : Thread nD τ).loc main_arg22))
      ∧ r.2.mem ((c.tc : Thread nD τ).loc main_v5_2) = vars (m ((c.tc : Thread nD τ).loc main_arg21)) (m ((c.tc : Thread nD τ).loc main_arg23))
      ∧ r.2.mem ((c.tc : Thread nD τ).loc main_v6_0) = steps (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_v6_1) = moms (m ((c.tc : Thread nD τ).loc main_arg25)) (m ((c.tc : Thread nD τ).loc main_arg26))
      ∧ r.2.mem ((c.tc : Thread nD τ).loc main_v6_2) = vars (m ((c.tc : Thread nD τ).loc main_arg25)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun r h c =>
    ⟨(h c _ (mem_uc main_v0_0 (by decide))).trans (end0 m ρ c).1,
      (h c _ (mem_uc main_v0_1 (by decide))).trans (end0 m ρ c).2.1,
      (h c _ (mem_uc main_v0_2 (by decide))).trans (end0 m ρ c).2.2,
      (h c _ (mem_uc main_v1_0 (by decide))).trans (end1 m ρ c).1,
      (h c _ (mem_uc main_v1_1 (by decide))).trans (end1 m ρ c).2.1,
      (h c _ (mem_uc main_v1_2 (by decide))).trans (end1 m ρ c).2.2,
      (h c _ (mem_uc main_v2_0 (by decide))).trans (end2 m ρ c).1,
      (h c _ (mem_uc main_v2_1 (by decide))).trans (end2 m ρ c).2.1,
      (h c _ (mem_uc main_v2_2 (by decide))).trans (end2 m ρ c).2.2,
      (h c _ (mem_uc main_v3_0 (by decide))).trans (end3 m ρ c).1,
      (h c _ (mem_uc main_v3_1 (by decide))).trans (end3 m ρ c).2.1,
      (h c _ (mem_uc main_v3_2 (by decide))).trans (end3 m ρ c).2.2,
      (h c _ (mem_uc main_v4_0 (by decide))).trans (end4 m ρ c).1,
      (h c _ (mem_uc main_v4_1 (by decide))).trans (end4 m ρ c).2.1,
      (h c _ (mem_uc main_v4_2 (by decide))).trans (end4 m ρ c).2.2,
      (h c _ (mem_uc main_v5_0 (by decide))).trans (end5 m ρ c).1,
      (h c _ (mem_uc main_v5_1 (by decide))).trans (end5 m ρ c).2.1,
      (h c _ (mem_uc main_v5_2 (by decide))).trans (end5 m ρ c).2.2,
      (h c _ (mem_uc main_v6_0 (by decide))).trans (end6 m ρ c).1,
      (h c _ (mem_uc main_v6_1 (by decide))).trans (end6 m ρ c).2.1,
      (h c _ (mem_uc main_v6_2 (by decide))).trans (end6 m ρ c).2.2,
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c),
      (h c _ (mem_uc main_arg19 (by decide))).trans (W7_main_arg19 m ρ c),
      (h c _ (mem_uc main_arg20 (by decide))).trans (W7_main_arg20 m ρ c),
      (h c _ (mem_uc main_arg21 (by decide))).trans (W7_main_arg21 m ρ c),
      (h c _ (mem_uc main_arg22 (by decide))).trans (W7_main_arg22 m ρ c),
      (h c _ (mem_uc main_arg23 (by decide))).trans (W7_main_arg23 m ρ c),
      (h c _ (mem_uc main_arg24 (by decide))).trans (W7_main_arg24 m ρ c),
      (h c _ (mem_uc main_arg25 (by decide))).trans (W7_main_arg25 m ρ c),
      (h c _ (mem_uc main_arg26 (by decide))).trans (W7_main_arg26 m ρ c),
      (h c _ (mem_uc main_arg27 (by decide))).trans (W7_main_arg27 m ρ c)⟩) (run_ends m ρ)

end Kernel

theorem algebraic : Cert.algebraic_OptimiserIdeal_OptimiserReferenceIdeal := fun m g m' g' _ hagree => by
  refine ⟨fun c => steps (m ((c.tc : Thread Cert.OptimiserIdeal.nD Cert.OptimiserIdeal.τ).loc Cert.OptimiserIdeal.main_arg0)) (m ((c.tc : Thread Cert.OptimiserIdeal.nD Cert.OptimiserIdeal.τ).loc Cert.OptimiserIdeal.main_arg1)) (m ((c.tc : Thread Cert.OptimiserIdeal.nD Cert.OptimiserIdeal.τ).loc Cert.OptimiserIdeal.main_arg2)) (m ((c.tc : Thread Cert.OptimiserIdeal.nD Cert.OptimiserIdeal.τ).loc Cert.OptimiserIdeal.main_arg3)),
    fun c => moms (m ((c.tc : Thread Cert.OptimiserIdeal.nD Cert.OptimiserIdeal.τ).loc Cert.OptimiserIdeal.main_arg1)) (m ((c.tc : Thread Cert.OptimiserIdeal.nD Cert.OptimiserIdeal.τ).loc Cert.OptimiserIdeal.main_arg2)),
    fun c => vars (m ((c.tc : Thread Cert.OptimiserIdeal.nD Cert.OptimiserIdeal.τ).loc Cert.OptimiserIdeal.main_arg1)) (m ((c.tc : Thread Cert.OptimiserIdeal.nD Cert.OptimiserIdeal.τ).loc Cert.OptimiserIdeal.main_arg3)),
    fun c => steps (m ((c.tc : Thread Cert.OptimiserIdeal.nD Cert.OptimiserIdeal.τ).loc Cert.OptimiserIdeal.main_arg4)) (m ((c.tc : Thread Cert.OptimiserIdeal.nD Cert.OptimiserIdeal.τ).loc Cert.OptimiserIdeal.main_arg5)) (m ((c.tc : Thread Cert.OptimiserIdeal.nD Cert.OptimiserIdeal.τ).loc Cert.OptimiserIdeal.main_arg6)) (m ((c.tc : Thread Cert.OptimiserIdeal.nD Cert.OptimiserIdeal.τ).loc Cert.OptimiserIdeal.main_arg7)),
    fun c => moms (m ((c.tc : Thread Cert.OptimiserIdeal.nD Cert.OptimiserIdeal.τ).loc Cert.OptimiserIdeal.main_arg5)) (m ((c.tc : Thread Cert.OptimiserIdeal.nD Cert.OptimiserIdeal.τ).loc Cert.OptimiserIdeal.main_arg6)),
    fun c => vars (m ((c.tc : Thread Cert.OptimiserIdeal.nD Cert.OptimiserIdeal.τ).loc Cert.OptimiserIdeal.main_arg5)) (m ((c.tc : Thread Cert.OptimiserIdeal.nD Cert.OptimiserIdeal.τ).loc Cert.OptimiserIdeal.main_arg7)),
    fun c => steps (m ((c.tc : Thread Cert.OptimiserIdeal.nD Cert.OptimiserIdeal.τ).loc Cert.OptimiserIdeal.main_arg8)) (m ((c.tc : Thread Cert.OptimiserIdeal.nD Cert.OptimiserIdeal.τ).loc Cert.OptimiserIdeal.main_arg9)) (m ((c.tc : Thread Cert.OptimiserIdeal.nD Cert.OptimiserIdeal.τ).loc Cert.OptimiserIdeal.main_arg10)) (m ((c.tc : Thread Cert.OptimiserIdeal.nD Cert.OptimiserIdeal.τ).loc Cert.OptimiserIdeal.main_arg11)),
    fun c => moms (m ((c.tc : Thread Cert.OptimiserIdeal.nD Cert.OptimiserIdeal.τ).loc Cert.OptimiserIdeal.main_arg9)) (m ((c.tc : Thread Cert.OptimiserIdeal.nD Cert.OptimiserIdeal.τ).loc Cert.OptimiserIdeal.main_arg10)),
    fun c => vars (m ((c.tc : Thread Cert.OptimiserIdeal.nD Cert.OptimiserIdeal.τ).loc Cert.OptimiserIdeal.main_arg9)) (m ((c.tc : Thread Cert.OptimiserIdeal.nD Cert.OptimiserIdeal.τ).loc Cert.OptimiserIdeal.main_arg11)),
    fun c => steps (m ((c.tc : Thread Cert.OptimiserIdeal.nD Cert.OptimiserIdeal.τ).loc Cert.OptimiserIdeal.main_arg12)) (m ((c.tc : Thread Cert.OptimiserIdeal.nD Cert.OptimiserIdeal.τ).loc Cert.OptimiserIdeal.main_arg13)) (m ((c.tc : Thread Cert.OptimiserIdeal.nD Cert.OptimiserIdeal.τ).loc Cert.OptimiserIdeal.main_arg14)) (m ((c.tc : Thread Cert.OptimiserIdeal.nD Cert.OptimiserIdeal.τ).loc Cert.OptimiserIdeal.main_arg15)),
    fun c => moms (m ((c.tc : Thread Cert.OptimiserIdeal.nD Cert.OptimiserIdeal.τ).loc Cert.OptimiserIdeal.main_arg13)) (m ((c.tc : Thread Cert.OptimiserIdeal.nD Cert.OptimiserIdeal.τ).loc Cert.OptimiserIdeal.main_arg14)),
    fun c => vars (m ((c.tc : Thread Cert.OptimiserIdeal.nD Cert.OptimiserIdeal.τ).loc Cert.OptimiserIdeal.main_arg13)) (m ((c.tc : Thread Cert.OptimiserIdeal.nD Cert.OptimiserIdeal.τ).loc Cert.OptimiserIdeal.main_arg15)),
    fun c => steps (m ((c.tc : Thread Cert.OptimiserIdeal.nD Cert.OptimiserIdeal.τ).loc Cert.OptimiserIdeal.main_arg16)) (m ((c.tc : Thread Cert.OptimiserIdeal.nD Cert.OptimiserIdeal.τ).loc Cert.OptimiserIdeal.main_arg17)) (m ((c.tc : Thread Cert.OptimiserIdeal.nD Cert.OptimiserIdeal.τ).loc Cert.OptimiserIdeal.main_arg18)) (m ((c.tc : Thread Cert.OptimiserIdeal.nD Cert.OptimiserIdeal.τ).loc Cert.OptimiserIdeal.main_arg19)),
    fun c => moms (m ((c.tc : Thread Cert.OptimiserIdeal.nD Cert.OptimiserIdeal.τ).loc Cert.OptimiserIdeal.main_arg17)) (m ((c.tc : Thread Cert.OptimiserIdeal.nD Cert.OptimiserIdeal.τ).loc Cert.OptimiserIdeal.main_arg18)),
    fun c => vars (m ((c.tc : Thread Cert.OptimiserIdeal.nD Cert.OptimiserIdeal.τ).loc Cert.OptimiserIdeal.main_arg17)) (m ((c.tc : Thread Cert.OptimiserIdeal.nD Cert.OptimiserIdeal.τ).loc Cert.OptimiserIdeal.main_arg19)),
    fun c => steps (m ((c.tc : Thread Cert.OptimiserIdeal.nD Cert.OptimiserIdeal.τ).loc Cert.OptimiserIdeal.main_arg20)) (m ((c.tc : Thread Cert.OptimiserIdeal.nD Cert.OptimiserIdeal.τ).loc Cert.OptimiserIdeal.main_arg21)) (m ((c.tc : Thread Cert.OptimiserIdeal.nD Cert.OptimiserIdeal.τ).loc Cert.OptimiserIdeal.main_arg22)) (m ((c.tc : Thread Cert.OptimiserIdeal.nD Cert.OptimiserIdeal.τ).loc Cert.OptimiserIdeal.main_arg23)),
    fun c => moms (m ((c.tc : Thread Cert.OptimiserIdeal.nD Cert.OptimiserIdeal.τ).loc Cert.OptimiserIdeal.main_arg21)) (m ((c.tc : Thread Cert.OptimiserIdeal.nD Cert.OptimiserIdeal.τ).loc Cert.OptimiserIdeal.main_arg22)),
    fun c => vars (m ((c.tc : Thread Cert.OptimiserIdeal.nD Cert.OptimiserIdeal.τ).loc Cert.OptimiserIdeal.main_arg21)) (m ((c.tc : Thread Cert.OptimiserIdeal.nD Cert.OptimiserIdeal.τ).loc Cert.OptimiserIdeal.main_arg23)),
    fun c => steps (m ((c.tc : Thread Cert.OptimiserIdeal.nD Cert.OptimiserIdeal.τ).loc Cert.OptimiserIdeal.main_arg24)) (m ((c.tc : Thread Cert.OptimiserIdeal.nD Cert.OptimiserIdeal.τ).loc Cert.OptimiserIdeal.main_arg25)) (m ((c.tc : Thread Cert.OptimiserIdeal.nD Cert.OptimiserIdeal.τ).loc Cert.OptimiserIdeal.main_arg26)) (m ((c.tc : Thread Cert.OptimiserIdeal.nD Cert.OptimiserIdeal.τ).loc Cert.OptimiserIdeal.main_arg27)),
    fun c => moms (m ((c.tc : Thread Cert.OptimiserIdeal.nD Cert.OptimiserIdeal.τ).loc Cert.OptimiserIdeal.main_arg25)) (m ((c.tc : Thread Cert.OptimiserIdeal.nD Cert.OptimiserIdeal.τ).loc Cert.OptimiserIdeal.main_arg26)),
    fun c => vars (m ((c.tc : Thread Cert.OptimiserIdeal.nD Cert.OptimiserIdeal.τ).loc Cert.OptimiserIdeal.main_arg25)) (m ((c.tc : Thread Cert.OptimiserIdeal.nD Cert.OptimiserIdeal.τ).loc Cert.OptimiserIdeal.main_arg27)),
    kernel_run m g, ?_⟩
  refine (θ_run Cert.OptimiserReferenceIdeal.defs _ _).mono (fun r h c => ?_) (Cert.OptimiserReferenceIdeal.Opt.run_steps m' g')
  obtain ⟨a0, a1, a2, a3, a4, a5, a6, a7, a8, a9, a10, a11, a12, a13, a14, a15, a16, a17, a18, a19, a20, a21, a22, a23, a24, a25, a26, a27⟩ := hagree c
  obtain ⟨h0, h1, h2, h3, h4, h5, h6, h7, h8, h9, h10, h11, h12, h13, h14, h15, h16, h17, h18, h19, h20, ha⟩ := h c
  exact ⟨h0.trans (same_steps a0 a1 a2 a3),
    h1.trans (congrArg₂ moms a1 a2),
    h2.trans (congrArg₂ vars a1 a3),
    h3.trans (same_steps a4 a5 a6 a7),
    h4.trans (congrArg₂ moms a5 a6),
    h5.trans (congrArg₂ vars a5 a7),
    h6.trans (same_steps a8 a9 a10 a11),
    h7.trans (congrArg₂ moms a9 a10),
    h8.trans (congrArg₂ vars a9 a11),
    h9.trans (same_steps a12 a13 a14 a15),
    h10.trans (congrArg₂ moms a13 a14),
    h11.trans (congrArg₂ vars a13 a15),
    h12.trans (same_steps a16 a17 a18 a19),
    h13.trans (congrArg₂ moms a17 a18),
    h14.trans (congrArg₂ vars a17 a19),
    h15.trans (same_steps a20 a21 a22 a23),
    h16.trans (congrArg₂ moms a21 a22),
    h17.trans (congrArg₂ vars a21 a23),
    h18.trans (same_steps a24 a25 a26 a27),
    h19.trans (congrArg₂ moms a25 a26),
    h20.trans (congrArg₂ vars a25 a27), ha⟩

end Cert.Proof.Optimiser

end
-- ==== Proof.Projections.Run.lean ====
/- The projections' run: every fair execution of the four calls in series ends with every array at what the last boundary's
   contents say, where each boundary is the one before it with the call's output arrays replaced. -/
module

public import proofs.«01_k».proof.Proof.Gen.ProjectionsIdeal.Frame

@[expose] public section

set_option maxRecDepth 16384

noncomputable section

namespace Cert.ProjectionsIdeal.Pr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjectionsIdeal Cert.ProjectionsIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- Every fair execution ends with every unscoped array at the last boundary's contents. -/
theorem run_ends : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.ProjectionsIdeal.Pr

end
-- ==== Proof.Projections.Spec.lean ====
/- The projections' mathematics: the output projection with its residual branch, and the gradients through both
   projections, as plain sums. -/
module

public import proofs.«01_k».proof.Proof.Mixer.Spec

@[expose] public section

set_option maxRecDepth 16384

noncomputable section

namespace Cert.Pr

open Idealize.ShloMosaic Cert.Ff

/-- The residual stream after the output projection. -/
def res (x a : Mat 4096 1024) (w : Mat 1024 1024) : Mat 4096 1024 := fun s d => alpha * x s d + ∑ e, a s e * w e d
/-- The gradient by the output projection's input. -/
def dMixed (dr : Mat 4096 1024) (w : Mat 1024 1024) : Mat 4096 1024 := fun s e => ∑ d, dr s d * w e d
/-- The gradient by the input projection's weight. -/
def dWIn (x : Mat 4096 1024) (dh : Mat 4096 2048) : Mat 1024 2048 := fun d e => ∑ s, x s d * dh s e
/-- The gradient by the input, through the input projection and through the residual branch. -/
def dX (dh : Mat 4096 2048) (w : Mat 1024 2048) (dr : Mat 4096 1024) : Mat 4096 1024 :=
  fun s d => (∑ e, dh s e * w d e) + alpha * dr s d

end Cert.Pr

end
-- ==== Proof.Projections.Tiles.lean ====
/- What each of the four calls' bodies leaves in its output block, entry by entry, from the blocks it reads. -/
module

public import proofs.«01_k».proof.Proof.Gen.ProjectionsIdeal.Frame
public import proofs.«01_k».proof.Proof.Projections.Spec
public import Idealize.ShloMosaic.Lib.Pointwise
public import Idealize.ShloMosaic.Lib.Pipeline.ValueKit

@[expose] public section

set_option maxRecDepth 16384

noncomputable section

namespace Cert.ProjectionsIdeal.Pr

open Idealize.ShloMosaic Idealize.ShloMosaic.TcCoe
open Cert.ProjectionsIdeal Cert.ProjectionsIdeal.Gen Cert.Ff Cert.Pr

/-- The output projection of a tile of rows, with the residual branch. -/
theorem pay0_res (x w : Vec Ideal S1024x1024 .bf16) (r : Vec Ideal S1024x1024 .f32) (i j : Fin 1024) :
    k0_pay1 x w r (ix2 i j) = alpha * r (ix2 i j) + ∑ k : Fin 1024, x (ix2 i k) * w (ix2 k j) := by
  pointwise [k0_pay1]
  rfl

theorem tile0_res (x w : Vec Ideal S1024x1024 .bf16) (r : Vec Ideal S1024x1024 .f32) (g b : Vec Ideal S1x1024 .f32) (i j : Fin 1024) :
    out0_7 x w r g b (ix2 i j) = alpha * r (ix2 i j) + ∑ k : Fin 1024, x (ix2 i k) * w (ix2 k j) := by
  unfold out0_7
  rw [View.canon_cons_unit_lit' _ _ _ (by decide), View.ld_unit_lit' _ _ (by decide), View.ld_unit_lit' _ _ (by decide), View.ld_unit_lit' _ _ (by decide)]
  exact pay0_res x w r i j

/-- The layer normalization of the rows just computed. -/
theorem tile0_norm (x w : Vec Ideal S1024x1024 .bf16) (r : Vec Ideal S1024x1024 .f32) (g b : Vec Ideal S1x1024 .f32) (i j : Fin 1024) :
    out0_5 x w r g b (ix2 i j)
      = layerNorm (fun d => alpha * r (ix2 i d) + ∑ k : Fin 1024, x (ix2 i k) * w (ix2 k d)) (fun d => g (ix2 0 d)) (fun d => b (ix2 0 d)) j := by
  unfold out0_5
  rw [View.canon_cons_unit_lit' _ _ _ (by decide), View.ld_unit_lit' _ _ (by decide), View.ld_unit_lit' _ _ (by decide), View.ld_unit_lit' _ _ (by decide),
    View.ld_unit_lit' _ _ (by decide), View.ld_unit_lit' _ _ (by decide)]
  pointwise [k0_pay2]
  simp only [pay0_res]
  rfl

/-- The product with the output projection's weight, transposed. -/
theorem tile1 (d w : Vec Ideal S1024x1024 .bf16) (i j : Fin 1024) :
    out1_2 d w (ix2 i j) = ∑ k : Fin 1024, d (ix2 i k) * w (ix2 j k) := by
  unfold out1_2
  rw [View.canon_cons_unit_lit' _ _ _ (by decide), View.ld_unit_lit' _ _ (by decide), View.ld_unit_lit' _ _ (by decide)]
  pointwise [k1_pay1]

/-- The product of the input, transposed, with the gradient, summed over all tokens at once. -/
theorem tile2 (x d : Vec Ideal S4096x1024 .bf16) (i j : Fin 1024) :
    out2_2 x d (ix2 i j) = ∑ s : Fin 4096, x (ix2 s i) * d (ix2 s j) := by
  unfold out2_2
  rw [View.canon_cons_unit_lit' _ _ _ (by decide), View.ld_unit_lit' _ _ (by decide), View.ld_unit_lit' _ _ (by decide)]
  pointwise [k2_pay1]

/-- The product with the input projection's weight, transposed, and the residual branch. -/
theorem tile3 (d w : Vec Ideal S1024x2048 .bf16) (r : Vec Ideal S1024x1024 .f32) (i j : Fin 1024) :
    out3_3 d w r (ix2 i j) = (∑ k : Fin 2048, d (ix2 i k) * w (ix2 j k)) + alpha * r (ix2 i j) := by
  unfold out3_3
  rw [View.canon_cons_unit_lit' _ _ _ (by decide), View.ld_unit_lit' _ _ (by decide), View.ld_unit_lit' _ _ (by decide), View.ld_unit_lit' _ _ (by decide)]
  pointwise [k3_pay1]
  rfl

/-- Row `i` of row tile `t` of four. -/
def row (t : Fin 4) (i : Fin 1024) : Fin 4096 := ⟨t.val * 1024 + i.val, by omega⟩

end Cert.ProjectionsIdeal.Pr

end
-- ==== Proof.Projections.Stream.lean ====
/- The first call leaves the residual stream after the output projection and its layer normalization.
   The statement is of arbitrary contents of the call's input arrays. -/
module

public import proofs.«01_k».proof.Proof.Projections.Tiles

@[expose] public section

set_option maxRecDepth 16384

noncomputable section

namespace Cert.ProjectionsIdeal.Pr

open Idealize.ShloMosaic Idealize.ShloMosaic.TcCoe
open Cert.ProjectionsIdeal Cert.ProjectionsIdeal.Gen Cert.Ff Cert.Pr

variable (V : (c : Dev nD) → (b : Ref sig .tc) → Buf (Elt Ideal) ((c : Thread nD τ).loc b)) (c : Dev nD)

theorem at0_rows : ∀ t, win0_0.index t = ![t.val, 0] ∧ win0_2.index t = ![t.val, 0] ∧ win0_5.index t = ![t.val, 0] ∧ win0_7.index t = ![t.val, 0] := by
  decide +kernel
theorem at0_whole : ∀ t, win0_1.index t = ![0, 0] ∧ win0_3.index t = ![0, 0] ∧ win0_4.index t = ![0, 0] := by decide +kernel

/-- The row tile of a grid point. -/
def pt0 (t : Fin cfg0.N) : Fin 4 := ⟨t.val, t.isLt⟩

theorem cut0_0 (f : Buf (Elt Ideal) ((c : Thread nD τ).loc main_v1)) (t : Fin cfg0.N) (i k : Fin 1024) :
    ((cfg0.win 0).blk t).view.read (Elt Ideal) f (ix2 i k) = f (ix2 (row (pt0 t) i) k) := by
  unfold row pt0; blk_ext [(at0_rows t).1]
theorem cut0_1 (f : Buf (Elt Ideal) ((c : Thread nD τ).loc main_v5)) (t : Fin cfg0.N) (k d : Fin 1024) :
    ((cfg0.win 1).blk t).view.read (Elt Ideal) f (ix2 k d) = f (ix2 k d) := by
  blk_ext [(at0_whole t).1]
theorem cut0_2 (f : Buf (Elt Ideal) ((c : Thread nD τ).loc main_arg0)) (t : Fin cfg0.N) (i d : Fin 1024) :
    ((cfg0.win 2).blk t).view.read (Elt Ideal) f (ix2 i d) = f (ix2 (row (pt0 t) i) d) := by
  unfold row pt0; blk_ext [(at0_rows t).2.1]
theorem cut0_3 (f : Buf (Elt Ideal) ((c : Thread nD τ).loc main_v6)) (t : Fin cfg0.N) (d : Fin 1024) :
    ((cfg0.win 3).blk t).view.read (Elt Ideal) f (ix2 0 d) = f (ix2 0 d) := by
  blk_ext [(at0_whole t).2.1]
theorem cut0_4 (f : Buf (Elt Ideal) ((c : Thread nD τ).loc main_v7)) (t : Fin cfg0.N) (d : Fin 1024) :
    ((cfg0.win 4).blk t).view.read (Elt Ideal) f (ix2 0 d) = f (ix2 0 d) := by
  blk_ext [(at0_whole t).2.2]
theorem place0_5 (t : Fin cfg0.N) (i d : Fin 1024) :
    ((cfg0.win 5).blk t).view.emb (ix2 i d) = (ix2 (row (pt0 t) i) d : S4096x1024.Idx) := by
  unfold row pt0; blk_ext [(at0_rows t).2.2.1]
theorem place0_7 (t : Fin cfg0.N) (i d : Fin 1024) :
    ((cfg0.win 7).blk t).view.emb (ix2 i d) = (ix2 (row (pt0 t) i) d : S4096x1024.Idx) := by
  unfold row pt0; blk_ext [(at0_rows t).2.2.2]

/-- A row of the residual stream from the blocks of a row tile. -/
def resTile (f w : Vec Ideal S1024x1024 .bf16) (r : Vec Ideal S1024x1024 .f32) (i d : Fin 1024) : EReal :=
  alpha * r (ix2 i d) + ∑ k : Fin 1024, f (ix2 i k) * w (ix2 k d)

section
variable {V c} {a x : Mat 4096 1024} {w : Mat 1024 1024} {g b : Fin 1024 → EReal}
variable (ha : ∀ s e, V c main_v1 (ix2 s e) = a s e) (hw : ∀ e d, V c main_v5 (ix2 e d) = w e d) (hx : ∀ s d, V c main_arg0 (ix2 s d) = x s d)
include ha hw hx

theorem res_at (t : Fin cfg0.N) (i d : Fin 1024) :
    resTile (iblk0 V c 0 t) (iblk0 V c 1 t) (iblk0 V c 2 t) i d = res x a w (row (pt0 t) i) d := by
  unfold iblk0 resTile
  refine congrArg₂ (· + ·) (congrArg (alpha * ·) ?_) (Finset.sum_congr rfl fun k _ => congrArg₂ (· * ·) ?_ ?_)
  · exact (cut0_2 c (V c main_arg0) t i d).trans (hx _ d)
  · exact (cut0_0 c (V c main_v1) t i k).trans (ha _ k)
  · exact (cut0_1 c (V c main_v5) t k d).trans (hw k d)

theorem left0_res : (dat0 V c).arrAt 7 cfg0.N = fun y : S4096x1024.Idx => res x a w (y 0) (y 1) := by
  refine (dat0 V c).arrAt_eq_of_covers 7 _ (by decide +kernel) fun t hf y => ?_
  blk_simp
  rw [after0_7]
  obtain ⟨i, d, rfl⟩ := idx2 (a := 1024) (b := 1024) y
  rw [place0_7]
  exact (tile0_res _ _ _ _ _ i d).trans (res_at ha hw hx t i d)

theorem left0_norm (hg : ∀ d, V c main_v6 (ix2 0 d) = g d) (hb : ∀ d, V c main_v7 (ix2 0 d) = b d) :
    (dat0 V c).arrAt 5 cfg0.N = fun y : S4096x1024.Idx => layerNorm (res x a w (y 0)) g b (y 1) := by
  refine (dat0 V c).arrAt_eq_of_covers 5 _ (by decide +kernel) fun t hf y => ?_
  blk_simp
  rw [after0_5]
  obtain ⟨i, d, rfl⟩ := idx2 (a := 1024) (b := 1024) y
  rw [place0_5]
  refine (tile0_norm _ _ _ _ _ i d).trans ?_
  show layerNorm (resTile (iblk0 V c 0 t) (iblk0 V c 1 t) (iblk0 V c 2 t) i) (fun e => iblk0 V c 3 t (ix2 0 e)) (fun e => iblk0 V c 4 t (ix2 0 e)) d
    = layerNorm (res x a w (row (pt0 t) i)) g b d
  have hr : resTile (iblk0 V c 0 t) (iblk0 V c 1 t) (iblk0 V c 2 t) i = res x a w (row (pt0 t) i) := funext fun e => res_at ha hw hx t i e
  have hg' : (fun e => iblk0 V c 3 t (ix2 0 e)) = g := funext fun e => by
    unfold iblk0; exact (cut0_3 c (V c main_v6) t e).trans (hg e)
  have hb' : (fun e => iblk0 V c 4 t (ix2 0 e)) = b := funext fun e => by
    unfold iblk0; exact (cut0_4 c (V c main_v7) t e).trans (hb e)
  rw [hr, hg', hb']
end

end Cert.ProjectionsIdeal.Pr

end
-- ==== Proof.Projections.MixedGrad.lean ====
/- The second call leaves the gradient by the output projection's input.
   The statement is of arbitrary contents of the call's input arrays. -/
module

public import proofs.«01_k».proof.Proof.Projections.Tiles

@[expose] public section

set_option maxRecDepth 16384

noncomputable section

namespace Cert.ProjectionsIdeal.Pr

open Idealize.ShloMosaic Idealize.ShloMosaic.TcCoe
open Cert.ProjectionsIdeal Cert.ProjectionsIdeal.Gen Cert.Ff Cert.Pr

variable (V : (c : Dev nD) → (b : Ref sig .tc) → Buf (Elt Ideal) ((c : Thread nD τ).loc b)) (c : Dev nD)

theorem at1_rows : ∀ t, win1_0.index t = ![t.val, 0] ∧ win1_2.index t = ![t.val, 0] := by decide +kernel
theorem at1_whole : ∀ t, win1_1.index t = ![0, 0] := by decide +kernel

/-- The row tile of a grid point. -/
def pt1 (t : Fin cfg1.N) : Fin 4 := ⟨t.val, t.isLt⟩

theorem cut1_0 (f : Buf (Elt Ideal) ((c : Thread nD τ).loc main_v3)) (t : Fin cfg1.N) (i k : Fin 1024) :
    ((cfg1.win 0).blk t).view.read (Elt Ideal) f (ix2 i k) = f (ix2 (row (pt1 t) i) k) := by
  unfold row pt1; blk_ext [(at1_rows t).1]
theorem cut1_1 (f : Buf (Elt Ideal) ((c : Thread nD τ).loc main_v5)) (t : Fin cfg1.N) (e d : Fin 1024) :
    ((cfg1.win 1).blk t).view.read (Elt Ideal) f (ix2 e d) = f (ix2 e d) := by
  blk_ext [at1_whole t]
theorem place1_2 (t : Fin cfg1.N) (i e : Fin 1024) :
    ((cfg1.win 2).blk t).view.emb (ix2 i e) = (ix2 (row (pt1 t) i) e : S4096x1024.Idx) := by
  unfold row pt1; blk_ext [(at1_rows t).2]

theorem left1 {dr : Mat 4096 1024} {w : Mat 1024 1024} (hd : ∀ s d, V c main_v3 (ix2 s d) = dr s d) (hw : ∀ e d, V c main_v5 (ix2 e d) = w e d) :
    (dat1 V c).arrAt 2 cfg1.N = fun y : S4096x1024.Idx => dMixed dr w (y 0) (y 1) := by
  refine (dat1 V c).arrAt_eq_of_covers 2 _ (by decide +kernel) fun t hf y => ?_
  blk_simp
  rw [after1_2]
  obtain ⟨i, e, rfl⟩ := idx2 (a := 1024) (b := 1024) y
  rw [place1_2]
  refine (tile1 _ _ i e).trans (Finset.sum_congr rfl fun d _ => congrArg₂ (· * ·) ?_ ?_)
  · unfold iblk1; exact (cut1_0 c (V c main_v3) t i d).trans (hd _ d)
  · unfold iblk1; exact (cut1_1 c (V c main_v5) t e d).trans (hw e d)

end Cert.ProjectionsIdeal.Pr

end
-- ==== Proof.Projections.WeightGrad.lean ====
/- The third call leaves the gradient by the input projection's weight.
   The statement is of arbitrary contents of the call's input arrays. -/
module

public import proofs.«01_k».proof.Proof.Projections.Tiles

@[expose] public section

set_option maxRecDepth 16384

noncomputable section

namespace Cert.ProjectionsIdeal.Pr

open Idealize.ShloMosaic Idealize.ShloMosaic.TcCoe
open Cert.ProjectionsIdeal Cert.ProjectionsIdeal.Gen Cert.Ff Cert.Pr

variable (V : (c : Dev nD) → (b : Ref sig .tc) → Buf (Elt Ideal) ((c : Thread nD τ).loc b)) (c : Dev nD)

theorem at2_whole : ∀ t, win2_0.index t = ![0, 0] := by decide +kernel
theorem at2_cols : ∀ t, win2_1.index t = ![0, t.val] ∧ win2_2.index t = ![0, t.val] := by decide +kernel

/-- Column `j` of the grid point's half of the columns. -/
def col2 (t : Fin cfg2.N) (j : Fin 1024) : Fin 2048 := ⟨t.val * 1024 + j.val, by have : t.val < 2 := t.isLt; omega⟩

theorem cut2_0 (f : Buf (Elt Ideal) ((c : Thread nD τ).loc main_v0)) (t : Fin cfg2.N) (s : Fin 4096) (d : Fin 1024) :
    ((cfg2.win 0).blk t).view.read (Elt Ideal) f (ix2 s d) = f (ix2 s d) := by
  blk_ext [at2_whole t]
theorem cut2_1 (f : Buf (Elt Ideal) ((c : Thread nD τ).loc main_v2)) (t : Fin cfg2.N) (s : Fin 4096) (j : Fin 1024) :
    ((cfg2.win 1).blk t).view.read (Elt Ideal) f (ix2 s j) = f (ix2 s (col2 t j)) := by
  unfold col2; blk_ext [(at2_cols t).1]
theorem place2_2 (t : Fin cfg2.N) (d j : Fin 1024) :
    ((cfg2.win 2).blk t).view.emb (ix2 d j) = (ix2 d (col2 t j) : S1024x2048.Idx) := by
  unfold col2; blk_ext [(at2_cols t).2]

theorem left2 {x : Mat 4096 1024} {dh : Mat 4096 2048} (hx : ∀ s d, V c main_v0 (ix2 s d) = x s d) (hd : ∀ s e, V c main_v2 (ix2 s e) = dh s e) :
    (dat2 V c).arrAt 2 cfg2.N = fun y : S1024x2048.Idx => dWIn x dh (y 0) (y 1) := by
  refine (dat2 V c).arrAt_eq_of_covers 2 _ (by decide +kernel) fun t hf y => ?_
  blk_simp
  rw [after2_2]
  obtain ⟨d, j, rfl⟩ := idx2 (a := 1024) (b := 1024) y
  rw [place2_2]
  refine (tile2 _ _ d j).trans (Finset.sum_congr rfl fun s _ => congrArg₂ (· * ·) ?_ ?_)
  · unfold iblk2; exact (cut2_0 c (V c main_v0) t s d).trans (hx s d)
  · unfold iblk2; exact (cut2_1 c (V c main_v2) t s j).trans (hd s _)

end Cert.ProjectionsIdeal.Pr

end
-- ==== Proof.Projections.InputGrad.lean ====
/- The fourth call leaves the gradient by the input.
   The statement is of arbitrary contents of the call's input arrays. -/
module

public import proofs.«01_k».proof.Proof.Projections.Tiles

@[expose] public section

set_option maxRecDepth 16384

noncomputable section

namespace Cert.ProjectionsIdeal.Pr

open Idealize.ShloMosaic Idealize.ShloMosaic.TcCoe
open Cert.ProjectionsIdeal Cert.ProjectionsIdeal.Gen Cert.Ff Cert.Pr

variable (V : (c : Dev nD) → (b : Ref sig .tc) → Buf (Elt Ideal) ((c : Thread nD τ).loc b)) (c : Dev nD)

theorem at3_rows : ∀ t, win3_0.index t = ![t.val, 0] ∧ win3_2.index t = ![t.val, 0] ∧ win3_3.index t = ![t.val, 0] := by decide +kernel
theorem at3_whole : ∀ t, win3_1.index t = ![0, 0] := by decide +kernel

/-- The row tile of a grid point. -/
def pt3 (t : Fin cfg3.N) : Fin 4 := ⟨t.val, t.isLt⟩

theorem cut3_0 (f : Buf (Elt Ideal) ((c : Thread nD τ).loc main_v2)) (t : Fin cfg3.N) (i : Fin 1024) (e : Fin 2048) :
    ((cfg3.win 0).blk t).view.read (Elt Ideal) f (ix2 i e) = f (ix2 (row (pt3 t) i) e) := by
  unfold row pt3; blk_ext [(at3_rows t).1]
theorem cut3_1 (f : Buf (Elt Ideal) ((c : Thread nD τ).loc main_v4)) (t : Fin cfg3.N) (d : Fin 1024) (e : Fin 2048) :
    ((cfg3.win 1).blk t).view.read (Elt Ideal) f (ix2 d e) = f (ix2 d e) := by
  blk_ext [at3_whole t]
theorem cut3_2 (f : Buf (Elt Ideal) ((c : Thread nD τ).loc main_arg7)) (t : Fin cfg3.N) (i d : Fin 1024) :
    ((cfg3.win 2).blk t).view.read (Elt Ideal) f (ix2 i d) = f (ix2 (row (pt3 t) i) d) := by
  unfold row pt3; blk_ext [(at3_rows t).2.1]
theorem place3_3 (t : Fin cfg3.N) (i d : Fin 1024) :
    ((cfg3.win 3).blk t).view.emb (ix2 i d) = (ix2 (row (pt3 t) i) d : S4096x1024.Idx) := by
  unfold row pt3; blk_ext [(at3_rows t).2.2]

theorem left3 {dh : Mat 4096 2048} {w : Mat 1024 2048} {dr : Mat 4096 1024} (hh : ∀ s e, V c main_v2 (ix2 s e) = dh s e)
    (hw : ∀ d e, V c main_v4 (ix2 d e) = w d e) (hd : ∀ s d, V c main_arg7 (ix2 s d) = dr s d) :
    (dat3 V c).arrAt 3 cfg3.N = fun y : S4096x1024.Idx => dX dh w dr (y 0) (y 1) := by
  refine (dat3 V c).arrAt_eq_of_covers 3 _ (by decide +kernel) fun t hf y => ?_
  blk_simp
  rw [after3_3]
  obtain ⟨i, d, rfl⟩ := idx2 (a := 1024) (b := 1024) y
  rw [place3_3]
  refine (tile3 _ _ _ i d).trans ?_
  unfold iblk3
  refine congrArg₂ (· + ·) (Finset.sum_congr rfl fun e _ => congrArg₂ (· * ·) ?_ ?_) (congrArg (alpha * ·) ?_)
  · exact (cut3_0 c (V c main_v2) t i e).trans (hh _ e)
  · exact (cut3_1 c (V c main_v4) t d e).trans (hw d e)
  · exact (cut3_2 c (V c main_arg7) t i d).trans (hd _ d)

end Cert.ProjectionsIdeal.Pr

end
-- ==== Proof.Projections.Chain.lean ====
/- The arrays along the four calls: each call finds in its input arrays what the host left there, and no later call
   writes what an earlier one left, so the last boundary's results are the mathematics of the arguments. -/
module

public import proofs.«01_k».proof.Proof.Projections.Stream
public import proofs.«01_k».proof.Proof.Projections.MixedGrad
public import proofs.«01_k».proof.Proof.Projections.WeightGrad
public import proofs.«01_k».proof.Proof.Projections.InputGrad
public import Idealize.ShloMosaic.Lib.StableHlo.ReadAt
public import Idealize.ShloMosaic.Lib.Claim

@[expose] public section

set_option maxRecDepth 16384

noncomputable section

namespace Cert.ProjectionsIdeal.Pr

open Idealize.ShloMosaic Idealize.ShloMosaic.TcCoe
open Cert.ProjectionsIdeal Cert.ProjectionsIdeal.Gen Cert.Ff Cert.Pr

variable (m : (ℓ : Loc nD τ sig) → Buf (Elt Ideal) ℓ) (ρ : Dev nD → PrngReg) (c : Dev nD)

/-! ## The arguments -/

def argX : Mat 4096 1024 := fun s d => m (c, Proc.tc.devRef main_arg0) (ix2 s d)
def argA : Mat 4096 1024 := fun s e => m (c, Proc.tc.devRef main_arg1) (ix2 s e)
def argWIn : Mat 1024 2048 := fun d e => m (c, Proc.tc.devRef main_arg2) (ix2 d e)
def argWO : Mat 1024 1024 := fun e d => m (c, Proc.tc.devRef main_arg3) (ix2 e d)
def argG : Fin 1024 → EReal := fun d => m (c, Proc.tc.devRef main_arg4) (ix1 d)
def argB : Fin 1024 → EReal := fun d => m (c, Proc.tc.devRef main_arg5) (ix1 d)
def argH : Mat 4096 2048 := fun s e => m (c, Proc.tc.devRef main_arg6) (ix2 s e)
def argD : Mat 4096 1024 := fun s d => m (c, Proc.tc.devRef main_arg7) (ix2 s d)

/-! ## What the host prepares -/

theorem V1_x (s : Fin 4096) (d : Fin 1024) : V1 m ρ c main_v0 (ix2 s d) = argX m c s d := by
  unfold argX; after_reads_at
theorem V1_a (s : Fin 4096) (e : Fin 1024) : V1 m ρ c main_v1 (ix2 s e) = argA m c s e := by
  unfold argA; after_reads_at
theorem V1_h (s : Fin 4096) (e : Fin 2048) : V1 m ρ c main_v2 (ix2 s e) = argH m c s e := by
  unfold argH; after_reads_at
theorem V1_d (s : Fin 4096) (d : Fin 1024) : V1 m ρ c main_v3 (ix2 s d) = argD m c s d := by
  unfold argD; after_reads_at
theorem V1_wIn (d : Fin 1024) (e : Fin 2048) : V1 m ρ c main_v4 (ix2 d e) = argWIn m c d e := by
  unfold argWIn; after_reads_at
theorem V1_wO (e d : Fin 1024) : V1 m ρ c main_v5 (ix2 e d) = argWO m c e d := by
  unfold argWO; after_reads_at
theorem V1_g (d : Fin 1024) : V1 m ρ c main_v6 (ix2 0 d) = argG m c d := by
  unfold argG; after_reads_at
theorem V1_b (d : Fin 1024) : V1 m ρ c main_v7 (ix2 0 d) = argB m c d := by
  unfold argB; after_reads_at
theorem V1_arg0 (s : Fin 4096) (d : Fin 1024) : V1 m ρ c main_arg0 (ix2 s d) = argX m c s d :=
  congrFun (W1_args m ρ c main_arg0 (by decide)) _

/-- The residual stream after the output projection. -/
def theRes : Mat 4096 1024 := res (argX m c) (argA m c) (argWO m c)

/-! ## What a later boundary still has -/

section Carry
variable (r : Ref sig .tc) (h0 : ∀ w : Fin cfg0.W, Pipeline.arrRef spec0 w = r → (cfg0.win w).isOut = false)
include h0

theorem W3_host (h1 : ∀ w : Fin cfg1.W, Pipeline.arrRef spec1 w = r → (cfg1.win w).isOut = false) :
    W3 m ρ c (Proc.devRef .tc r) = W1 m ρ c (Proc.devRef .tc r) :=
  (W3_of m ρ c r h1).trans (W2_of m ρ c r h0)

theorem W4_host (h1 : ∀ w : Fin cfg1.W, Pipeline.arrRef spec1 w = r → (cfg1.win w).isOut = false)
    (h2 : ∀ w : Fin cfg2.W, Pipeline.arrRef spec2 w = r → (cfg2.win w).isOut = false) :
    W4 m ρ c (Proc.devRef .tc r) = W1 m ρ c (Proc.devRef .tc r) :=
  (W4_of m ρ c r h2).trans (W3_host m ρ c r h0 h1)
end Carry

/-- What the first call leaves, if no later call writes it, is there at the end. -/
theorem W5_first (r : Ref sig .tc) (h1 : ∀ w : Fin cfg1.W, Pipeline.arrRef spec1 w = r → (cfg1.win w).isOut = false)
    (h2 : ∀ w : Fin cfg2.W, Pipeline.arrRef spec2 w = r → (cfg2.win w).isOut = false)
    (h3 : ∀ w : Fin cfg3.W, Pipeline.arrRef spec3 w = r → (cfg3.win w).isOut = false) :
    W5 m ρ c (Proc.devRef .tc r) = W2 m ρ c (Proc.devRef .tc r) :=
  (W5_of m ρ c r h3).trans ((W4_of m ρ c r h2).trans (W3_of m ρ c r h1))

/-! ## The inputs of the later calls -/

theorem V2_d (s : Fin 4096) (d : Fin 1024) : V2 m ρ c main_v3 (ix2 s d) = argD m c s d :=
  (congrFun (W2_of m ρ c main_v3 (by decide)) _).trans (V1_d m ρ c s d)
theorem V2_wO (e d : Fin 1024) : V2 m ρ c main_v5 (ix2 e d) = argWO m c e d :=
  (congrFun (W2_of m ρ c main_v5 (by decide)) _).trans (V1_wO m ρ c e d)
theorem V3_x (s : Fin 4096) (d : Fin 1024) : V3 m ρ c main_v0 (ix2 s d) = argX m c s d :=
  (congrFun (W3_host m ρ c main_v0 (by decide) (by decide)) _).trans (V1_x m ρ c s d)
theorem V3_h (s : Fin 4096) (e : Fin 2048) : V3 m ρ c main_v2 (ix2 s e) = argH m c s e :=
  (congrFun (W3_host m ρ c main_v2 (by decide) (by decide)) _).trans (V1_h m ρ c s e)
theorem V4_h (s : Fin 4096) (e : Fin 2048) : V4 m ρ c main_v2 (ix2 s e) = argH m c s e :=
  (congrFun (W4_host m ρ c main_v2 (by decide) (by decide) (by decide)) _).trans (V1_h m ρ c s e)
theorem V4_wIn (d : Fin 1024) (e : Fin 2048) : V4 m ρ c main_v4 (ix2 d e) = argWIn m c d e :=
  (congrFun (W4_host m ρ c main_v4 (by decide) (by decide) (by decide)) _).trans (V1_wIn m ρ c d e)
theorem V4_d (s : Fin 4096) (d : Fin 1024) : V4 m ρ c main_arg7 (ix2 s d) = argD m c s d :=
  congrFun (W4_args m ρ c main_arg7 (by decide)) _

/-! ## The results at the end -/

theorem W5_res : W5 m ρ c (Proc.devRef .tc main_v8_2) = fun y : S4096x1024.Idx => theRes m c (y 0) (y 1) :=
  (W5_first m ρ c main_v8_2 (by decide) (by decide) (by decide)).trans
    ((W2_arr m ρ c 7).trans (left0_res (V1_a m ρ c) (V1_wO m ρ c) (V1_arg0 m ρ c)))

theorem W5_norm : W5 m ρ c (Proc.devRef .tc main_v8_0) = fun y : S4096x1024.Idx => layerNorm (theRes m c (y 0)) (argG m c) (argB m c) (y 1) :=
  (W5_first m ρ c main_v8_0 (by decide) (by decide) (by decide)).trans
    ((W2_arr m ρ c 5).trans (left0_norm (V1_a m ρ c) (V1_wO m ρ c) (V1_arg0 m ρ c) (V1_g m ρ c) (V1_b m ρ c)))

theorem W5_dMixed : W5 m ρ c (Proc.devRef .tc main_v9) = fun y : S4096x1024.Idx => dMixed (argD m c) (argWO m c) (y 0) (y 1) :=
  (W5_of m ρ c main_v9 (by decide)).trans ((W4_of m ρ c main_v9 (by decide)).trans
    ((W3_arr m ρ c 2).trans (left1 (V2 m ρ) c (V2_d m ρ c) (V2_wO m ρ c))))

theorem W5_dWIn : W5 m ρ c (Proc.devRef .tc main_v10) = fun y : S1024x2048.Idx => dWIn (argX m c) (argH m c) (y 0) (y 1) :=
  (W5_of m ρ c main_v10 (by decide)).trans ((W4_arr m ρ c 2).trans (left2 (V3 m ρ) c (V3_x m ρ c) (V3_h m ρ c)))

theorem W5_dX : W5 m ρ c (Proc.devRef .tc main_v11) = fun y : S4096x1024.Idx => dX (argH m c) (argWIn m c) (argD m c) (y 0) (y 1) :=
  (W5_arr m ρ c 3).trans (left3 (V4 m ρ) c (V4_h m ρ c) (V4_wIn m ρ c) (V4_d m ρ c))

end Cert.ProjectionsIdeal.Pr

end
-- ==== Proof.Projections.Reference.lean ====
/- The projections' reference, stage by stage over arbitrary arrays, and its run with each result by its stages. -/
module

public import proofs.«01_k».proof.Proof.Gen.ProjectionsReferenceIdeal.Run
public import proofs.«01_k».proof.Proof.Projections.Spec
public import Idealize.ShloMosaic.Lib.Pointwise

@[expose] public section

set_option maxRecDepth 16384

noncomputable section

namespace Cert.ProjectionsReferenceIdeal.Stage

open Idealize.ShloMosaic Idealize.ShloMosaic.TcCoe
open Cert.ProjectionsReferenceIdeal Cert.ProjectionsReferenceIdeal.Gen Cert.Ff

/-! ## The layer normalization -/

/-- The row sums over the width. -/
def mean (r : FVec Ideal S4096x1024 .f32) : FVec Ideal S4096x1 .f32 :=
  Host.divf (broadcastInDim S4096x1 ![0] bcast_S4096_S4096x1_0 (Host.reduceAdd r (constant S_ .f32 0x00000000#32) reducesTo_S4096x1024_S4096_d1 h_S_))
    (broadcastInDim S4096x1 ![] bcast_S_S4096x1 (constant S_ .f32 0x44800000#32))
/-- The rows less their means. -/
def centered (r : FVec Ideal S4096x1024 .f32) (u : FVec Ideal S4096x1 .f32) : FVec Ideal S4096x1024 .f32 :=
  subf r (broadcastInDim S4096x1024 ![0, 1] bcast_S4096x1_S4096x1024_0_1 u)
/-- The inverse root of the variance. -/
def spread (v : FVec Ideal S4096x1 .f32) : FVec Ideal S4096x1 .f32 :=
  Host.rsqrt (addf v (broadcastInDim S4096x1 ![] bcast_S_S4096x1 (constant S_ .f32 0x3727C5AC#32)))
/-- The normalized rows, scaled and shifted. -/
def scaled (z : FVec Ideal S4096x1024 .f32) (u : FVec Ideal S4096x1 .f32) (g b : FVec Ideal S1024 .f32) : FVec Ideal S4096x1024 .f32 :=
  addf (mulf (mulf z (broadcastInDim S4096x1024 ![0, 1] bcast_S4096x1_S4096x1024_0_1 u))
      (broadcastInDim S4096x1024 ![0, 1] bcast_S1x1024_S4096x1024_0_1 (broadcastInDim S1x1024 ![1] bcast_S1024_S1x1024_1 g)))
    (broadcastInDim S4096x1024 ![0, 1] bcast_S1x1024_S4096x1024_0_1 (broadcastInDim S1x1024 ![1] bcast_S1024_S1x1024_1 b))

theorem mean_at (r) (s : Fin 4096) : mean r (ix2 s 0) = Ideal.div (∑ d : Fin 1024, r (ix2 s d)) width := by
  pointwise [mean]
  rfl
theorem centered_at (r u) (s : Fin 4096) (d : Fin 1024) : centered r u (ix2 s d) = r (ix2 s d) - u (ix2 s 0) := by
  pointwise [centered]
theorem spread_at (v) (s : Fin 4096) : spread v (ix2 s 0) = Ideal.rsqrt (v (ix2 s 0) + eps) := by
  pointwise [spread]
  rfl
theorem scaled_at (z u g b) (s : Fin 4096) (d : Fin 1024) :
    scaled z u g b (ix2 s d) = z (ix2 s d) * u (ix2 s 0) * g (ix1 d) + b (ix1 d) := by
  pointwise [scaled]

/-- The layer normalization of the rows. -/
def norm (r : FVec Ideal S4096x1024 .f32) (g b : FVec Ideal S1024 .f32) : FVec Ideal S4096x1024 .f32 :=
  scaled (centered r (mean r)) (spread (mean (mulf (centered r (mean r)) (centered r (mean r))))) g b

theorem norm_at (r g b) (s : Fin 4096) (d : Fin 1024) :
    norm r g b (ix2 s d) = layerNorm (fun e => r (ix2 s e)) (fun e => g (ix1 e)) (fun e => b (ix1 e)) d := by
  have hc : ∀ e, centered r (mean r) (ix2 s e) = center (fun e => r (ix2 s e)) e := fun e => by
    rw [centered_at, mean_at]; rfl
  unfold norm layerNorm
  rw [scaled_at, spread_at, mean_at, hc]
  have hs : ∀ e, mulf (centered r (mean r)) (centered r (mean r)) (ix2 s e) = center (fun e => r (ix2 s e)) e * center (fun e => r (ix2 s e)) e :=
    fun e => by rw [← hc]; rfl
  rw [Finset.sum_congr rfl fun e _ => hs e]

/-! ## The products -/

/-- The residual stream. -/
def stream (x a : FVec Ideal S4096x1024 .f32) (w : FVec Ideal S1024x1024 .f32) : FVec Ideal S4096x1024 .f32 :=
  addf (mulf (broadcastInDim S4096x1024 ![] bcast_S_S4096x1024 (constant S_ .f32 0x3FD744FD#32)) x)
    (Host.dotGeneral dot_S4096x1024_S1024x1024_S4096x1024_1_0_0_1_n_n none a w)
/-- The gradient by the output projection's input. -/
def gMixed (d : FVec Ideal S4096x1024 .f32) (w : FVec Ideal S1024x1024 .f32) : FVec Ideal S4096x1024 .f32 :=
  Host.dotGeneral dot_S4096x1024_S1024x1024_S4096x1024_1_1_0_0_n_n none (shapeCast _ d shapeCasts_S4096x1024_S4096x1024) w
/-- The gradient by the input projection's weight. -/
def gWIn (h : FVec Ideal S4096x2048 .f32) (x : FVec Ideal S4096x1024 .f32) : FVec Ideal S1024x2048 .f32 :=
  transpose S1024x2048 [1, 0] (Host.dotGeneral dot_S4096x2048_S4096x1024_S2048x1024_0_0_1_1_n_n none h x) transposes_S2048x1024_S1024x2048_1_0
/-- The gradient by the input. -/
def gX (d : FVec Ideal S4096x1024 .f32) (h : FVec Ideal S4096x2048 .f32) (w : FVec Ideal S1024x2048 .f32) : FVec Ideal S4096x1024 .f32 :=
  addf (mulf (broadcastInDim S4096x1024 ![] bcast_S_S4096x1024 (constant S_ .f32 0x3FD744FD#32)) (shapeCast _ d shapeCasts_S4096x1024_S4096x1024))
    (Host.dotGeneral dot_S4096x2048_S1024x2048_S4096x1024_1_1_0_0_n_n none h w)

theorem stream_at (x a w) (s : Fin 4096) (d : Fin 1024) :
    stream x a w (ix2 s d) = alpha * x (ix2 s d) + ∑ e : Fin 1024, a (ix2 s e) * w (ix2 e d) := by
  pointwise [stream]
  rfl
theorem gMixed_at (d w) (s : Fin 4096) (e : Fin 1024) : gMixed d w (ix2 s e) = ∑ k : Fin 1024, d (ix2 s k) * w (ix2 e k) := by
  pointwise [gMixed]
theorem gWIn_at (h x) (d : Fin 1024) (e : Fin 2048) : gWIn h x (ix2 d e) = ∑ s : Fin 4096, h (ix2 s e) * x (ix2 s d) := by
  pointwise [gWIn]
theorem gX_at (d h w) (s : Fin 4096) (k : Fin 1024) :
    gX d h w (ix2 s k) = alpha * d (ix2 s k) + ∑ e : Fin 2048, h (ix2 s e) * w (ix2 k e) := by
  pointwise [gX]
  rfl

/-! ## The run -/

/-- The run, with each result by its stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
          = norm (stream (m ((c.tc : Thread nD τ).loc main_arg0)) (m ((c.tc : Thread nD τ).loc main_arg1)) (m ((c.tc : Thread nD τ).loc main_arg3)))
              (m ((c.tc : Thread nD τ).loc main_arg4)) (m ((c.tc : Thread nD τ).loc main_arg5))
      ∧ r.2.mem ((c.tc : Thread nD τ).loc main_v4)
          = stream (m ((c.tc : Thread nD τ).loc main_arg0)) (m ((c.tc : Thread nD τ).loc main_arg1)) (m ((c.tc : Thread nD τ).loc main_arg3))
      ∧ r.2.mem ((c.tc : Thread nD τ).loc main_v37)
          = gX (m ((c.tc : Thread nD τ).loc main_arg7)) (m ((c.tc : Thread nD τ).loc main_arg6)) (m ((c.tc : Thread nD τ).loc main_arg2))
      ∧ r.2.mem ((c.tc : Thread nD τ).loc main_v33) = gMixed (m ((c.tc : Thread nD τ).loc main_arg7)) (m ((c.tc : Thread nD τ).loc main_arg3))
      ∧ r.2.mem ((c.tc : Thread nD τ).loc main_v35) = gWIn (m ((c.tc : Thread nD τ).loc main_arg6)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => h c) (Value.run m ρ)

end Cert.ProjectionsReferenceIdeal.Stage

end
-- ==== Proof.Projections.Algebraic.lean ====
/- The projections' value claim: from memories with the same arguments, the four calls and the reference leave the same five
   arrays, the normalized stream, the residual stream and the gradients by the input, by the mixed heads and by the input
   projection's weight. -/
module

public import proofs.«01_k».proof.Defs
public import proofs.«01_k».proof.Proof.Projections.Run
public import proofs.«01_k».proof.Proof.Projections.Chain
public import proofs.«01_k».proof.Proof.Projections.Reference
public import Idealize.ShloMosaic.Lib.Quiescent

@[expose] public section

set_option maxRecDepth 16384

noncomputable section

namespace Cert.Proof

open Idealize.ShloMosaic Idealize.ShloMosaic.TcCoe Idealize.SL.Sem
open Cert.ProjectionsIdeal.Pr Cert.Ff Cert.Pr

namespace Projections

section Results

open Cert.ProjectionsIdeal

variable (m : (ℓ : Loc nD τ sig) → Buf (Elt Ideal) ℓ) (c : Dev nD)

/-- The five results, as arrays of the arguments. -/
def outY : S4096x1024.Idx → EReal := fun y => layerNorm (theRes m c (y 0)) (argG m c) (argB m c) (y 1)
def outR : S4096x1024.Idx → EReal := fun y => theRes m c (y 0) (y 1)
def outX : S4096x1024.Idx → EReal := fun y => dX (argH m c) (argWIn m c) (argD m c) (y 0) (y 1)
def outA : S4096x1024.Idx → EReal := fun y => dMixed (argD m c) (argWO m c) (y 0) (y 1)
def outW : S1024x2048.Idx → EReal := fun y => dWIn (argX m c) (argH m c) (y 0) (y 1)

end Results

section Kernel

open Cert.ProjectionsIdeal Cert.ProjectionsIdeal.Gen

/-- The four calls leave the five results and the arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8_0) = outY m c
      ∧ r.2.mem ((c.tc : Thread nD τ).loc main_v8_2) = outR m c
      ∧ r.2.mem ((c.tc : Thread nD τ).loc main_v11) = outX m c
      ∧ r.2.mem ((c.tc : Thread nD τ).loc main_v9) = outA m c
      ∧ r.2.mem ((c.tc : Thread nD τ).loc main_v10) = outW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c _ (mem_uc main_v8_0 (by decide))).trans (W5_norm m ρ c),
      (h c _ (mem_uc main_v8_2 (by decide))).trans (W5_res m ρ c),
      (h c _ (mem_uc main_v11 (by decide))).trans (W5_dX m ρ c),
      (h c _ (mem_uc main_v9 (by decide))).trans (W5_dMixed m ρ c),
      (h c _ (mem_uc main_v10 (by decide))).trans (W5_dWIn m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run_ends m ρ)

end Kernel

section Reference

open Cert.ProjectionsReferenceIdeal.Stage (norm norm_at stream stream_at gX gX_at gMixed gMixed_at gWIn gWIn_at)
open Cert.ProjectionsReferenceIdeal (S4096x1024 S4096x2048 S1024x2048 S1024x1024 S1024)

variable {m : (ℓ : Loc Cert.ProjectionsIdeal.nD Cert.ProjectionsIdeal.τ Cert.ProjectionsIdeal.sig) → Buf (Elt Ideal) ℓ} {c : Dev Cert.ProjectionsIdeal.nD}
variable {x a d : FVec Ideal S4096x1024 .f32} {h : FVec Ideal S4096x2048 .f32} {wIn : FVec Ideal S1024x2048 .f32} {wO : FVec Ideal S1024x1024 .f32}
variable {g b : FVec Ideal S1024 .f32}
variable (hx : ∀ s k, x (ix2 s k) = argX m c s k) (ha : ∀ s e, a (ix2 s e) = argA m c s e) (hWIn : ∀ k e, wIn (ix2 k e) = argWIn m c k e)
variable (hWO : ∀ e k, wO (ix2 e k) = argWO m c e k) (hg : ∀ k, g (ix1 k) = argG m c k) (hb : ∀ k, b (ix1 k) = argB m c k)
variable (hh : ∀ s e, h (ix2 s e) = argH m c s e) (hd : ∀ s k, d (ix2 s k) = argD m c s k)

section
include hx ha hWO

theorem stream_eq (s : Fin 4096) (k : Fin 1024) : stream x a wO (ix2 s k) = theRes m c s k := by
  rw [stream_at, hx]
  exact congrArg (alpha * argX m c s k + ·) (Finset.sum_congr rfl fun e _ => by rw [ha, hWO])

theorem ref_res : stream x a wO = outR m c := funext fun y => by
  obtain ⟨s, k, rfl⟩ := idx2 (a := 4096) (b := 1024) y
  exact stream_eq hx ha hWO s k

include hg hb in
theorem ref_norm : norm (stream x a wO) g b = outY m c := funext fun y => by
  obtain ⟨s, k, rfl⟩ := idx2 (a := 4096) (b := 1024) y
  rw [norm_at]
  exact congrFun (congr (congrArg₂ layerNorm (funext fun e => stream_eq hx ha hWO s e) (funext hg)) (funext hb)) k
end

include hWIn hh hd in
theorem ref_x : gX d h wIn = outX m c := funext fun y => by
  obtain ⟨s, k, rfl⟩ := idx2 (a := 4096) (b := 1024) y
  rw [gX_at, hd, add_comm]
  show _ = (∑ e, argH m c s e * argWIn m c k e) + alpha * argD m c s k
  exact congrArg (· + alpha * argD m c s k) (Finset.sum_congr rfl fun e _ => by rw [hh, hWIn])

include hWO hd in
theorem ref_mixed : gMixed d wO = outA m c := funext fun y => by
  obtain ⟨s, e, rfl⟩ := idx2 (a := 4096) (b := 1024) y
  rw [gMixed_at]
  show _ = ∑ k, argD m c s k * argWO m c e k
  exact Finset.sum_congr rfl fun k _ => by rw [hd, hWO]

include hx hh in
theorem ref_wIn : gWIn h x = outW m c := funext fun y => by
  obtain ⟨k, e, rfl⟩ := idx2 (a := 1024) (b := 2048) y
  rw [gWIn_at]
  show _ = ∑ s, argX m c s k * argH m c s e
  exact Finset.sum_congr rfl fun s _ => by rw [hh, hx, mul_comm]

end Reference

theorem algebraic : Cert.algebraic_ProjectionsIdeal_ProjectionsReferenceIdeal := fun m g m' g' _ hagree => by
  refine ⟨outY m, outR m, outX m, outA m, outW m, kernel_run m g, ?_⟩
  refine (θ_run Cert.ProjectionsReferenceIdeal.defs _ _).mono (fun r h c => ?_) (Cert.ProjectionsReferenceIdeal.Stage.run_stages m' g')
  obtain ⟨a0, a1, a2, a3, a4, a5, a6, a7⟩ := hagree c
  obtain ⟨h0, h1, h2, h3, h4, h5⟩ := h c
  exact ⟨h0.trans (ref_norm (fun _ _ => congrFun a0 _) (fun _ _ => congrFun a1 _) (fun _ _ => congrFun a3 _) (fun _ => congrFun a4 _) fun _ => congrFun a5 _),
    h1.trans (ref_res (fun _ _ => congrFun a0 _) (fun _ _ => congrFun a1 _) fun _ _ => congrFun a3 _),
    h2.trans (ref_x (fun _ _ => congrFun a2 _) (fun _ _ => congrFun a6 _) fun _ _ => congrFun a7 _),
    h3.trans (ref_mixed (fun _ _ => congrFun a3 _) fun _ _ => congrFun a7 _),
    h4.trans (ref_wIn (fun _ _ => congrFun a0 _) fun _ _ => congrFun a6 _), h5⟩

end Projections

end Cert.Proof

end
-- ==== Proof.lean ====
/- The claim, put together: for the attention's gradient the two frames of the kernel, the reference's, the idealization's one
   site and the value claim; for the channel mixer, for the projections around the attention and for the optimiser the two
   frames of the calls, the reference's and the value claim. -/
module

public import proofs.«01_k».proof.Defs
public import proofs.«01_k».proof.Proof.Bits.Launch
public import proofs.«01_k».proof.Proof.Ideal.Launch
public import proofs.«01_k».proof.Proof.Gen.ReferenceIdeal.Run
public import proofs.«01_k».proof.Proof.Gen.Pre_finite
public import proofs.«01_k».proof.Proof.Algebraic
public import proofs.«01_k».proof.Proof.Gen.Mixer.Frame
public import proofs.«01_k».proof.Proof.Mixer.Algebraic
public import proofs.«01_k».proof.Proof.Gen.Optimiser.Frame
public import proofs.«01_k».proof.Proof.Optimiser.Algebraic
public import proofs.«01_k».proof.Proof.Gen.Projections.Frame
public import proofs.«01_k».proof.Proof.Projections.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- The reference has no semaphore, so its run leaves every one of them at zero. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The named constant `"mask"` is the bottom of the extended reals, as the table says. -/
theorem preserves : Cert.preserves_Kernel_KernelIdeal :=
  IdealRules.named_const.statement Cert.KernelIdeal.κ "mask" .f32 0xF149F2CA#32 ⊥ rfl

/-- The mixer's reference has no semaphore either. -/
theorem frame_mixer_reference : Cert.quiescent_MixerReferenceIdeal := fun m ρ _ =>
  (θ_run Cert.MixerReferenceIdeal.defs _ _).mono
    (fun r h => ⟨fun c => (h c).2.2.2.2.2, sem_eq_zero_of_no_sems (by decide) r.2⟩)
    (Cert.MixerReferenceIdeal.Value.run (F := Ideal) m ρ)

/-- Nor has the projections' reference. -/
theorem frame_projections_reference : Cert.quiescent_ProjectionsReferenceIdeal := fun m ρ _ =>
  (θ_run Cert.ProjectionsReferenceIdeal.defs _ _).mono
    (fun r h => ⟨fun c => (h c).2.2.2.2.2, sem_eq_zero_of_no_sems (by decide) r.2⟩)
    (Cert.ProjectionsReferenceIdeal.Value.run (F := Ideal) m ρ)

/-- Nor has the optimiser's. -/
theorem frame_optimiser_reference : Cert.quiescent_OptimiserReferenceIdeal := fun m ρ _ =>
  (θ_run Cert.OptimiserReferenceIdeal.defs _ _).mono
    (fun r h => ⟨fun c => (h c).2.2.2.2.2.2.2.2.2.2.2.2.2.2.2.2.2.2.2.2.2, sem_eq_zero_of_no_sems (by decide) r.2⟩)
    (Cert.OptimiserReferenceIdeal.Value.run (F := Ideal) m ρ)

theorem claim : Cert.Claim :=
  ⟨Cert.Kernel.Gen.facts, Cert.KernelIdeal.Gen.facts, Cert.ReferenceIdeal.Gen.facts,
    Cert.Mixer.Gen.facts, Cert.MixerIdeal.Gen.facts, Cert.MixerReferenceIdeal.Gen.facts,
    Cert.Projections.Gen.facts, Cert.ProjectionsIdeal.Gen.facts, Cert.ProjectionsReferenceIdeal.Gen.facts,
    Cert.Optimiser.Gen.facts, Cert.OptimiserIdeal.Gen.facts, Cert.OptimiserReferenceIdeal.Gen.facts, Cert.Pre_finite.Gen.facts,
    fun m ρ _ => Cert.Kernel.Bwd.frame_main m ρ, fun m ρ _ => Cert.KernelIdeal.Bwd.frame_main m ρ,
    fun m ρ _ => Cert.KernelIdeal.Bwd.frame_main m ρ,
    frame_reference, fun m ρ _ => frame_reference m ρ trivial,
    fun m ρ _ => Cert.Mixer.Gen.frame m ρ, fun m ρ _ => Cert.MixerIdeal.Gen.frame m ρ, frame_mixer_reference,
    fun m ρ _ => Cert.Projections.Gen.frame m ρ, fun m ρ _ => Cert.ProjectionsIdeal.Gen.frame m ρ, frame_projections_reference,
    fun m ρ _ => Cert.Optimiser.Gen.frame m ρ, fun m ρ _ => Cert.OptimiserIdeal.Gen.frame m ρ, frame_optimiser_reference,
    preserves, algebraic, trivial, algebraic_mixer, trivial, Projections.algebraic, trivial, Optimiser.algebraic⟩

end Cert.Proof

end
